-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "c" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v8) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v45) = v0 c
          ∧ r.2.mem ((c.tc : Thread Cert.FfnReferenceIdeal.nD Cert.FfnReferenceIdeal.τ).loc Cert.FfnReferenceIdeal.main_v46) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
-- ==== Pre_finite.lean ====
abbrev S2x8192x8x128 : Shape := ⟨4, ![2, 8192, 8, 128]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel

variable [Facts]

def fn {F : FTy → Type} [FloatOps F] (main_arg0 : FVec F S2x8192x8x128 .f32) (main_arg1 : FVec F S2x8192x8x128 .f32) (main_arg2 : FVec F S2x8192x8x128 .f32) : IVec S_ 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x8192x8x128 .f32 := Host.absf main_arg1
  let main_cst_0 : FVec F S_ .f32 := constant S_ .f32 0x7F800000#32
  let main_v5 : FVec F S2x8192x8x128 .f32 := broadcastInDim S2x8192x8x128 ![] bcast_S_S2x8192x8x128 main_cst_0
  let main_v6 : IVec S2x8192x8x128 1 := cmpf .olt main_v4 main_v5
  let main_c_1 : IVec S_ 1 := constantI S_ 1 1#1
  let main_v7 : IVec S_ 1 := (fun x v => Host.reduce IntOp.andi x v reducesTo_S2x8192x8x128_S_d0_1_2_3 h_S_) main_v6 main_c_1
  let main_v8 : IVec S_ 1 := andi main_v3 main_v7
  main_v8
-- ==== Kernel.lean ====
abbrev S2x8192x8x128 : Shape := ⟨4, ![2, 8192, 8, 128]⟩
abbrev S16384x1024 : Shape := ⟨2, ![16384, 1024]⟩
abbrev S2x32x256x8x128 : Shape := ⟨5, ![2, 32, 256, 8, 128]⟩
abbrev S_ : Shape := ⟨0, ![]⟩
abbrev S2x32x256x8x256 : Shape := ⟨5, ![2, 32, 256, 8, 256]⟩
abbrev S16384x2048 : Shape := ⟨2, ![16384, 2048]⟩
abbrev S64x256x8x128 : Shape := ⟨4, ![64, 256, 8, 128]⟩
abbrev S64x8x128x256 : Shape := ⟨4, ![64, 8, 128, 256]⟩
abbrev S64x8x16x256 : Shape := ⟨4, ![64, 8, 16, 256]⟩
abbrev S64x8x144x256 : Shape := ⟨4, ![64, 8, 144, 256]⟩
abbrev S64x1152x256 : Shape := ⟨3, ![64, 1152, 256]⟩
abbrev S64x256x1024 : Shape := ⟨3, ![64, 256, 1024]⟩
abbrev S64x1024 : Shape := ⟨2, ![64, 1024]⟩
abbrev S64x1x1024 : Shape := ⟨3, ![64, 1, 1024]⟩
abbrev S256x256 : Shape := ⟨2, ![256, 256]⟩
abbrev S8192x512 : Shape := ⟨2, ![8192, 512]⟩
abbrev S32x288x256 : Shape := ⟨3, ![32, 288, 256]⟩
abbrev S32x1x256 : Shape := ⟨3, ![32, 1, 256]⟩
abbrev S32x256 : Shape := ⟨2, ![32, 256]⟩
abbrev S256x128 : Shape := ⟨2, ![256, 128]⟩
abbrev S32x1x128 : Shape := ⟨3, ![32, 1, 128]⟩
abbrev S32x128 : Shape := ⟨2, ![32, 128]⟩
abbrev S256 : Shape := ⟨1, ![256]⟩
abbrev S1x256 : Shape := ⟨2, ![1, 256]⟩
abbrev S1x144x256 : Shape := ⟨3, ![1, 144, 256]⟩
abbrev S144x256 : Shape := ⟨2, ![144, 256]⟩
abbrev S96x256 : Shape := ⟨2, ![96, 256]⟩
abbrev S128x256 : Shape := ⟨2, ![128, 256]⟩
abbrev S1024x256 : Shape := ⟨2, ![1024, 256]⟩
abbrev S144x1024 : Shape := ⟨2, ![144, 1024]⟩

abbrev nBuf : Space → Nat
  | .hbm => 33
  | .vmem => 26
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x8x128, .f32⟩
  | .hbm, ⟨2, _⟩ => ⟨S2x8192x8x128, .f32⟩
  | .hbm, ⟨3, _⟩ => ⟨S16384x1024, .f32⟩
  | .hbm, ⟨4, _⟩ => ⟨S16384x1024, .bf16⟩
  | .hbm, ⟨5, _⟩ => ⟨S2x32x256x8x128, .i32⟩
  | .hbm, ⟨6, _⟩ => ⟨S2x32x256x8x128, .i32⟩
  | .hbm, ⟨7, _⟩ => ⟨S2x32x256x8x128, .i1⟩
  | .hbm, ⟨8, _⟩ => ⟨S_, .f32⟩
  | .hbm, ⟨9, _⟩ => ⟨S_, .f32⟩
  | .hbm, ⟨10, _⟩ => ⟨S2x32x256x8x128, .f32⟩
  | .hbm, ⟨11, _⟩ => ⟨S2x32x256x8x128, .f32⟩
  | .hbm, ⟨12, _⟩ => ⟨S2x32x256x8x128, .f32⟩
  | .hbm, ⟨13, _⟩ => ⟨S2x32x256x8x128, .bf16⟩
  | .hbm, ⟨14, _⟩ => ⟨S2x32x256x8x128, .f32⟩
  | .hbm, ⟨15, _⟩ => ⟨S2x32x256x8x128, .bf16⟩
  | .hbm, ⟨16, _⟩ => ⟨S2x32x256x8x256, .bf16⟩
  | .hbm, ⟨17, _⟩ => ⟨S16384x2048, .bf16⟩
  | .hbm, ⟨18, _⟩ => ⟨S64x256x8x128, .f32⟩
  | .hbm, ⟨19, _⟩ => ⟨S64x8x128x256, .f32⟩
  | .hbm, ⟨20, _⟩ => ⟨S64x8x128x256, .bf16⟩
  | .hbm, ⟨21, _⟩ => ⟨S_, .bf16⟩
  | .hbm, ⟨22, _⟩ => ⟨S64x8x16x256, .bf16⟩
  | .hbm, ⟨23, _⟩ => ⟨S64x8x144x256, .bf16⟩
  | .hbm, ⟨24, _⟩ => ⟨S64x1152x256, .bf16⟩
  | .hbm, ⟨25, _⟩ => ⟨S64x256x1024, .f32⟩
  | .hbm, ⟨26, _⟩ => ⟨S_, .f32⟩
  | .hbm, ⟨27, _⟩ => ⟨S64x1024, .f32⟩
  | .hbm, ⟨28, _⟩ => ⟨S64x1x1024, .f32⟩
  | .hbm, ⟨29, _⟩ => ⟨S_, .f32⟩
  | .hbm, ⟨30, _⟩ => ⟨S64x1x1024, .f32⟩
  | .hbm, ⟨31, _⟩ => ⟨S64x1x1024, .f32⟩
  | .hbm, ⟨32, _⟩ => ⟨S16384x1024, .bf16⟩
  | .local _ .vmem, ⟨0, _⟩ => ⟨S256x256, .bf16⟩
  | .local _ .vmem, ⟨1, _⟩ => ⟨S256x256, .bf16⟩
  | .local _ .vmem, ⟨2, _⟩ => ⟨S8192x512, .bf16⟩
  | .local _ .vmem, ⟨3, _⟩ => ⟨S8192x512, .bf16⟩
  | .local _ .vmem, ⟨4, _⟩ => ⟨S32x288x256, .bf16⟩
  | .local _ .vmem, ⟨5, _⟩ => ⟨S32x288x256, .bf16⟩
  | .local _ .vmem, ⟨6, _⟩ => ⟨S32x1x256, .f32⟩
  | .local _ .vmem, ⟨7, _⟩ => ⟨S32x1x256, .f32⟩
  | .local _ .vmem, ⟨8, _⟩ => ⟨S256x256, .bf16⟩
  | .local _ .vmem, ⟨9, _⟩ => ⟨S256x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_scratch15 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v3 : BitVec 32 := Scalar.muli arg2 c256_i32
  v3
def k0_off1 (i : grid0.Coords) : Fin 2 → Nat :=
  let arg2 : BitVec 32 := BitVec.ofNat 32 (i 2).val
  let c256_i32 : BitVec 32 := 256#32
  let v3 : BitVec 32 := Scalar.muli arg2 c256_i32
  let v4 : BitVec 32 := v3
  let v10 : Index := Scalar.indexCast v4
  let c0_2 : Index := 0#32
  ![v10.toNat, 0]
def k0_off2 (i : grid0.Coords) : Fin 2 → Nat :=
  let arg2 : BitVec 32 := BitVec.ofNat 32 (i 2).val
  let c256_i32 : BitVec 32 := 256#32
  let v3 : BitVec 32 := Scalar.muli arg2 c256_i32
  let v4 : BitVec 32 := v3
  let v17 : Index := Scalar.indexCast v4
  let c256 : Index := 256#32
  ![v17.toNat, 256]
def k0_off3 (i : grid0.Coords) : Fin 3 → Nat :=
  let arg2 : BitVec 32 := BitVec.ofNat 32 (i 2).val
  let v38 : Index := Scalar.indexCast arg2
  let c0_16 : Index := 0#32
  let c0_17 : Index := 0#32
  ![v38.toNat, 0, 0]
def k0_off4 (i : grid0.Coords) : Fin 3 → Nat :=
  let arg2 : BitVec 32 := BitVec.ofNat 32 (i 2).val
  let v50 : Index := Scalar.indexCast arg2
  let c144 : Index := 144#32
  let c0_21 : Index := 0#32
  ![v50.toNat, 144, 0]
def k0_mult2 : BitVec 32 :=
  let c0_i32_60 : BitVec 32 := 0#32
  let c31_i32 : BitVec 32 := 31#32
  let v197 : BitVec 32 := Scalar.minsi c0_i32_60 c31_i32
  let c256_i32_61 : BitVec 32 := 256#32
  let v198 : BitVec 32 := Scalar.muli v197 c256_i32_61
  v198
def k0_off5 (c0_i32_60 : BitVec 32) : Fin 2 → Nat :=
  let c31_i32 : BitVec 32 := 31#32
  let v197 : BitVec 32 := Scalar.minsi c0_i32_60 c31_i32
  let c256_i32_61 : BitVec 32 := 256#32
  let v198 : BitVec 32 := Scalar.muli v197 c256_i32_61
  let v199 : BitVec 32 := v198
  let v200 : Index := Scalar.indexCast v199
  let c0_62 : Index := 0#32
  ![v200.toNat, 0]
def k0_mult3 : BitVec 32 :=
  let c1_i32_66 : BitVec 32 := 1#32
  let c31_i32_67 : BitVec 32 := 31#32
  let v207 : BitVec 32 := Scalar.minsi c1_i32_66 c31_i32_67
  let c256_i32_68 : BitVec 32 := 256#32
  let v208 : BitVec 32 := Scalar.muli v207 c256_i32_68
  v208
def k0_mult4 : BitVec 32 :=
  let c2_i32 : BitVec 32 := 2#32
  let c31_i32_73 : BitVec 32 := 31#32
  let v217 : BitVec 32 := Scalar.minsi c2_i32 c31_i32_73
  let c256_i32_74 : BitVec 32 := 256#32
  let v218 : BitVec 32 := Scalar.muli v217 c256_i32_74
  v218
def k0_mult5 : BitVec 32 :=
  let c3_i32_79 : BitVec 32 := 3#32
  let c31_i32_80 : BitVec 32 := 31#32
  let v227 : BitVec 32 := Scalar.minsi c3_i32_79 c31_i32_80
  let c256_i32_81 : BitVec 32 := 256#32
  let v228 : BitVec 32 := Scalar.muli v227 c256_i32_81
  v228
def k0_mult6 : BitVec 32 :=
  let c0_i32_86 : BitVec 32 := 0#32
  let c31_i32_87 : BitVec 32 := 31#32
  let v237 : BitVec 32 := Scalar.minsi c0_i32_86 c31_i32_87
  let c256_i32_88 : BitVec 32 := 256#32
  let v238 : BitVec 32 := Scalar.muli v237 c256_i32_88
  v238
def k0_off6 (c0_i32_86 : BitVec 32) : Fin 2 → Nat :=
  let c31_i32_87 : BitVec 32 := 31#32
  let v237 : BitVec 32 := Scalar.minsi c0_i32_86 c31_i32_87
  let c256_i32_88 : BitVec 32 := 256#32
  let v238 : BitVec 32 := Scalar.muli v237 c256_i32_88
  let v239 : BitVec 32 := v238
  let v240 : Index := Scalar.indexCast v239
  let c256_89 : Index := 256#32
  ![v240.toNat, 256]
def k0_mult7 : BitVec 32 :=
  let c1_i32_93 : BitVec 32 := 1#32
  let c31_i32_94 : BitVec 32 := 31#32
  let v247 : BitVec 32 := Scalar.minsi c1_i32_93 c31_i32_94
  let c256_i32_95 : BitVec 32 := 256#32
  let v248 : BitVec 32 := Scalar.muli v247 c256_i32_95
  v248
def k0_mult8 : BitVec 32 :=
  let c2_i32_100 : BitVec 32 := 2#32
  let c31_i32_101 : BitVec 32 := 31#32
  let v257 : BitVec 32 := Scalar.minsi c2_i32_100 c31_i32_101
  let c256_i32_102 : BitVec 32 := 256#32
  let v258 : BitVec 32 := Scalar.muli v257 c256_i32_102
  v258
def k0_mult9 : BitVec 32 :=
  let c3_i32_107 : BitVec 32 := 3#32
  let c31_i32_108 : BitVec 32 := 31#32
  let v267 : BitVec 32 := Scalar.minsi c3_i32_107 c31_i32_108
  let c256_i32_109 : BitVec 32 := 256#32
  let v268 : BitVec 32 := Scalar.muli v267 c256_i32_109
  v268
@[reducible] def k0_t1_loop (i : grid0.Coords) : Scf.Loop 32 :=
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_123 : BitVec 32 := 1#32
  ⟨c0_i32_121, v298, c1_i32_123⟩
def k0_mult10 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c0_i32_138 : BitVec 32 := 0#32
  let v331 : BitVec 32 := Scalar.addi v330 c0_i32_138
  let c31_i32_139 : BitVec 32 := 31#32
  let v332 : BitVec 32 := Scalar.minsi v331 c31_i32_139
  let c256_i32_140 : BitVec 32 := 256#32
  let v333 : BitVec 32 := Scalar.muli v332 c256_i32_140
  v333
def k0_off7 (i : grid0.Coords) (k0_t1 : Fin (k0_t1_loop i).trips) (c4_i32_137 : BitVec 32) (c0_i32_138 : BitVec 32) : Fin 2 → Nat :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let v330 : BitVec 32 := Scalar.addi v329 c4_i32_137
  let v331 : BitVec 32 := Scalar.addi v330 c0_i32_138
  let c31_i32_139 : BitVec 32 := 31#32
  let v332 : BitVec 32 := Scalar.minsi v331 c31_i32_139
  let c256_i32_140 : BitVec 32 := 256#32
  let v333 : BitVec 32 := Scalar.muli v332 c256_i32_140
  let v334 : BitVec 32 := v333
  let v335 : Index := Scalar.indexCast v334
  let c0_141 : Index := 0#32
  ![v335.toNat, 0]
def k0_mult11 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c1_i32_145 : BitVec 32 := 1#32
  let v342 : BitVec 32 := Scalar.addi v330 c1_i32_145
  let c31_i32_146 : BitVec 32 := 31#32
  let v343 : BitVec 32 := Scalar.minsi v342 c31_i32_146
  let c256_i32_147 : BitVec 32 := 256#32
  let v344 : BitVec 32 := Scalar.muli v343 c256_i32_147
  v344
def k0_mult12 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c2_i32_152 : BitVec 32 := 2#32
  let v353 : BitVec 32 := Scalar.addi v330 c2_i32_152
  let c31_i32_153 : BitVec 32 := 31#32
  let v354 : BitVec 32 := Scalar.minsi v353 c31_i32_153
  let c256_i32_154 : BitVec 32 := 256#32
  let v355 : BitVec 32 := Scalar.muli v354 c256_i32_154
  v355
def k0_mult13 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c3_i32_159 : BitVec 32 := 3#32
  let v364 : BitVec 32 := Scalar.addi v330 c3_i32_159
  let c31_i32_160 : BitVec 32 := 31#32
  let v365 : BitVec 32 := Scalar.minsi v364 c31_i32_160
  let c256_i32_161 : BitVec 32 := 256#32
  let v366 : BitVec 32 := Scalar.muli v365 c256_i32_161
  v366
def k0_mult14 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c0_i32_166 : BitVec 32 := 0#32
  let v375 : BitVec 32 := Scalar.addi v330 c0_i32_166
  let c31_i32_167 : BitVec 32 := 31#32
  let v376 : BitVec 32 := Scalar.minsi v375 c31_i32_167
  let c256_i32_168 : BitVec 32 := 256#32
  let v377 : BitVec 32 := Scalar.muli v376 c256_i32_168
  v377
def k0_off8 (i : grid0.Coords) (k0_t1 : Fin (k0_t1_loop i).trips) (c4_i32_137 : BitVec 32) (c0_i32_166 : BitVec 32) : Fin 2 → Nat :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let v330 : BitVec 32 := Scalar.addi v329 c4_i32_137
  let v375 : BitVec 32 := Scalar.addi v330 c0_i32_166
  let c31_i32_167 : BitVec 32 := 31#32
  let v376 : BitVec 32 := Scalar.minsi v375 c31_i32_167
  let c256_i32_168 : BitVec 32 := 256#32
  let v377 : BitVec 32 := Scalar.muli v376 c256_i32_168
  let v378 : BitVec 32 := v377
  let v379 : Index := Scalar.indexCast v378
  let c256_169 : Index := 256#32
  ![v379.toNat, 256]
def k0_mult15 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c1_i32_173 : BitVec 32 := 1#32
  let v386 : BitVec 32 := Scalar.addi v330 c1_i32_173
  let c31_i32_174 : BitVec 32 := 31#32
  let v387 : BitVec 32 := Scalar.minsi v386 c31_i32_174
  let c256_i32_175 : BitVec 32 := 256#32
  let v388 : BitVec 32 := Scalar.muli v387 c256_i32_175
  v388
def k0_mult16 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c2_i32_180 : BitVec 32 := 2#32
  let v397 : BitVec 32 := Scalar.addi v330 c2_i32_180
  let c31_i32_181 : BitVec 32 := 31#32
  let v398 : BitVec 32 := Scalar.minsi v397 c31_i32_181
  let c256_i32_182 : BitVec 32 := 256#32
  let v399 : BitVec 32 := Scalar.muli v398 c256_i32_182
  v399
def k0_mult17 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_137 : BitVec 32 := 4#32
  let v330 : BitVec 32 := Scalar.addi v329 c4_i32_137
  let c3_i32_187 : BitVec 32 := 3#32
  let v408 : BitVec 32 := Scalar.addi v330 c3_i32_187
  let c31_i32_188 : BitVec 32 := 31#32
  let v409 : BitVec 32 := Scalar.minsi v408 c31_i32_188
  let c256_i32_189 : BitVec 32 := 256#32
  let v410 : BitVec 32 := Scalar.muli v409 c256_i32_189
  v410
def k0_off9 (i : grid0.Coords) (k0_t1 : Fin (k0_t1_loop i).trips) (c0_i32_218 : BitVec 32) : Fin 3 → Nat :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let v464 : BitVec 32 := Scalar.addi v329 c0_i32_218
  let v465 : Index := Scalar.indexCast v464
  let c0_219 : Index := 0#32
  let c0_220 : Index := 0#32
  ![v465.toNat, 0, 0]
def k0_off10 (i : grid0.Coords) (k0_t1 : Fin (k0_t1_loop i).trips) (c0_i32_256 : BitVec 32) : Fin 3 → Nat :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let v534 : BitVec 32 := Scalar.addi v329 c0_i32_256
  let v535 : Index := Scalar.indexCast v534
  let c144_257 : Index := 144#32
  let c0_258 : Index := 0#32
  ![v535.toNat, 144, 0]
def k0_mult18 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c0_i32_271 : BitVec 32 := 0#32
  let v560 : BitVec 32 := Scalar.addi v559 c0_i32_271
  let c31_i32_272 : BitVec 32 := 31#32
  let v561 : BitVec 32 := Scalar.minsi v560 c31_i32_272
  let c256_i32_273 : BitVec 32 := 256#32
  let v562 : BitVec 32 := Scalar.muli v561 c256_i32_273
  v562
def k0_mult19 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c1_i32_278 : BitVec 32 := 1#32
  let v571 : BitVec 32 := Scalar.addi v559 c1_i32_278
  let c31_i32_279 : BitVec 32 := 31#32
  let v572 : BitVec 32 := Scalar.minsi v571 c31_i32_279
  let c256_i32_280 : BitVec 32 := 256#32
  let v573 : BitVec 32 := Scalar.muli v572 c256_i32_280
  v573
def k0_mult20 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c2_i32_285 : BitVec 32 := 2#32
  let v582 : BitVec 32 := Scalar.addi v559 c2_i32_285
  let c31_i32_286 : BitVec 32 := 31#32
  let v583 : BitVec 32 := Scalar.minsi v582 c31_i32_286
  let c256_i32_287 : BitVec 32 := 256#32
  let v584 : BitVec 32 := Scalar.muli v583 c256_i32_287
  v584
def k0_mult21 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c3_i32_292 : BitVec 32 := 3#32
  let v593 : BitVec 32 := Scalar.addi v559 c3_i32_292
  let c31_i32_293 : BitVec 32 := 31#32
  let v594 : BitVec 32 := Scalar.minsi v593 c31_i32_293
  let c256_i32_294 : BitVec 32 := 256#32
  let v595 : BitVec 32 := Scalar.muli v594 c256_i32_294
  v595
def k0_mult22 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c0_i32_299 : BitVec 32 := 0#32
  let v604 : BitVec 32 := Scalar.addi v559 c0_i32_299
  let c31_i32_300 : BitVec 32 := 31#32
  let v605 : BitVec 32 := Scalar.minsi v604 c31_i32_300
  let c256_i32_301 : BitVec 32 := 256#32
  let v606 : BitVec 32 := Scalar.muli v605 c256_i32_301
  v606
def k0_mult23 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c1_i32_306 : BitVec 32 := 1#32
  let v615 : BitVec 32 := Scalar.addi v559 c1_i32_306
  let c31_i32_307 : BitVec 32 := 31#32
  let v616 : BitVec 32 := Scalar.minsi v615 c31_i32_307
  let c256_i32_308 : BitVec 32 := 256#32
  let v617 : BitVec 32 := Scalar.muli v616 c256_i32_308
  v617
def k0_mult24 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c2_i32_313 : BitVec 32 := 2#32
  let v626 : BitVec 32 := Scalar.addi v559 c2_i32_313
  let c31_i32_314 : BitVec 32 := 31#32
  let v627 : BitVec 32 := Scalar.minsi v626 c31_i32_314
  let c256_i32_315 : BitVec 32 := 256#32
  let v628 : BitVec 32 := Scalar.muli v627 c256_i32_315
  v628
def k0_mult25 (i : grid0.Coords) (k0_t1 : Fin (k0_t1_loop i).trips) : BitVec 32 :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c8_i32_270 : BitVec 32 := 8#32
  let v559 : BitVec 32 := Scalar.addi v329 c8_i32_270
  let c3_i32_320 : BitVec 32 := 3#32
  let v637 : BitVec 32 := Scalar.addi v559 c3_i32_320
  let c31_i32_321 : BitVec 32 := 31#32
  let v638 : BitVec 32 := Scalar.minsi v637 c31_i32_321
  let c256_i32_322 : BitVec 32 := 256#32
  let v639 : BitVec 32 := Scalar.muli v638 c256_i32_322
  v639
def k0_off11 (i : grid0.Coords) (k0_t1 : Fin (k0_t1_loop i).trips) (c0_i32_352 : BitVec 32) : Fin 3 → Nat :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_327 : BitVec 32 := 4#32
  let v648 : BitVec 32 := Scalar.addi v329 c4_i32_327
  let v694 : BitVec 32 := Scalar.addi v648 c0_i32_352
  let v695 : Index := Scalar.indexCast v694
  let c0_353 : Index := 0#32
  let c0_354 : Index := 0#32
  ![v695.toNat, 0, 0]
def k0_off12 (i : grid0.Coords) (k0_t1 : Fin (k0_t1_loop i).trips) (c0_i32_390 : BitVec 32) : Fin 3 → Nat :=
  let c8_i32 : BitVec 32 := 8#32
  let c0_i32_121 : BitVec 32 := 0#32
  let c1_i32_123 : BitVec 32 := 1#32
  let arg24 : BitVec 32 := Scf.iv c0_i32_121 c1_i32_123 k0_t1
  let v329 : BitVec 32 := Scalar.muli c8_i32 arg24
  let c4_i32_327 : BitVec 32 := 4#32
  let v648 : BitVec 32 := Scalar.addi v329 c4_i32_327
  let v764 : BitVec 32 := Scalar.addi v648 c0_i32_390
  let v765 : Index := Scalar.indexCast v764
  let c144_391 : Index := 144#32
  let c0_392 : Index := 0#32
  ![v765.toNat, 144, 0]
@[reducible] def k0_t2_loop (i : grid0.Coords) : Scf.Loop 32 :=
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let v295 : BitVec 32 := Scalar.addi c0_i32_121 v294
  let c1_i32_124 : BitVec 32 := 1#32
  ⟨v298, v295, c1_i32_124⟩
def k0_mult26 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c0_i32_138 : BitVec 32 := 0#32
  let v331 : BitVec 32 := Scalar.addi v330 c0_i32_138
  let c31_i32_139 : BitVec 32 := 31#32
  let v332 : BitVec 32 := Scalar.minsi v331 c31_i32_139
  let c256_i32_140 : BitVec 32 := 256#32
  let v333 : BitVec 32 := Scalar.muli v332 c256_i32_140
  v333
def k0_off13 (i : grid0.Coords) (k0_t2 : Fin (k0_t2_loop i).trips) (c4_i32_137 : BitVec 32) (c0_i32_138 : BitVec 32) : Fin 2 → Nat :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let v330 : BitVec 32 := Scalar.addi v329 c4_i32_137
  let v331 : BitVec 32 := Scalar.addi v330 c0_i32_138
  let c31_i32_139 : BitVec 32 := 31#32
  let v332 : BitVec 32 := Scalar.minsi v331 c31_i32_139
  let c256_i32_140 : BitVec 32 := 256#32
  let v333 : BitVec 32 := Scalar.muli v332 c256_i32_140
  let v334 : BitVec 32 := v333
  let v335 : Index := Scalar.indexCast v334
  let c0_141 : Index := 0#32
  ![v335.toNat, 0]
def k0_mult27 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c1_i32_145 : BitVec 32 := 1#32
  let v342 : BitVec 32 := Scalar.addi v330 c1_i32_145
  let c31_i32_146 : BitVec 32 := 31#32
  let v343 : BitVec 32 := Scalar.minsi v342 c31_i32_146
  let c256_i32_147 : BitVec 32 := 256#32
  let v344 : BitVec 32 := Scalar.muli v343 c256_i32_147
  v344
def k0_mult28 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c2_i32_152 : BitVec 32 := 2#32
  let v353 : BitVec 32 := Scalar.addi v330 c2_i32_152
  let c31_i32_153 : BitVec 32 := 31#32
  let v354 : BitVec 32 := Scalar.minsi v353 c31_i32_153
  let c256_i32_154 : BitVec 32 := 256#32
  let v355 : BitVec 32 := Scalar.muli v354 c256_i32_154
  v355
def k0_mult29 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c3_i32_159 : BitVec 32 := 3#32
  let v364 : BitVec 32 := Scalar.addi v330 c3_i32_159
  let c31_i32_160 : BitVec 32 := 31#32
  let v365 : BitVec 32 := Scalar.minsi v364 c31_i32_160
  let c256_i32_161 : BitVec 32 := 256#32
  let v366 : BitVec 32 := Scalar.muli v365 c256_i32_161
  v366
def k0_mult30 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c0_i32_166 : BitVec 32 := 0#32
  let v375 : BitVec 32 := Scalar.addi v330 c0_i32_166
  let c31_i32_167 : BitVec 32 := 31#32
  let v376 : BitVec 32 := Scalar.minsi v375 c31_i32_167
  let c256_i32_168 : BitVec 32 := 256#32
  let v377 : BitVec 32 := Scalar.muli v376 c256_i32_168
  v377
def k0_off14 (i : grid0.Coords) (k0_t2 : Fin (k0_t2_loop i).trips) (c4_i32_137 : BitVec 32) (c0_i32_166 : BitVec 32) : Fin 2 → Nat :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let v330 : BitVec 32 := Scalar.addi v329 c4_i32_137
  let v375 : BitVec 32 := Scalar.addi v330 c0_i32_166
  let c31_i32_167 : BitVec 32 := 31#32
  let v376 : BitVec 32 := Scalar.minsi v375 c31_i32_167
  let c256_i32_168 : BitVec 32 := 256#32
  let v377 : BitVec 32 := Scalar.muli v376 c256_i32_168
  let v378 : BitVec 32 := v377
  let v379 : Index := Scalar.indexCast v378
  let c256_169 : Index := 256#32
  ![v379.toNat, 256]
def k0_mult31 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c1_i32_173 : BitVec 32 := 1#32
  let v386 : BitVec 32 := Scalar.addi v330 c1_i32_173
  let c31_i32_174 : BitVec 32 := 31#32
  let v387 : BitVec 32 := Scalar.minsi v386 c31_i32_174
  let c256_i32_175 : BitVec 32 := 256#32
  let v388 : BitVec 32 := Scalar.muli v387 c256_i32_175
  v388
def k0_mult32 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c2_i32_180 : BitVec 32 := 2#32
  let v397 : BitVec 32 := Scalar.addi v330 c2_i32_180
  let c31_i32_181 : BitVec 32 := 31#32
  let v398 : BitVec 32 := Scalar.minsi v397 c31_i32_181
  let c256_i32_182 : BitVec 32 := 256#32
  let v399 : BitVec 32 := Scalar.muli v398 c256_i32_182
  v399
def k0_mult33 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_137 : BitVec 32 := 4#32
  let v330 : BitVec 32 := Scalar.addi v329 c4_i32_137
  let c3_i32_187 : BitVec 32 := 3#32
  let v408 : BitVec 32 := Scalar.addi v330 c3_i32_187
  let c31_i32_188 : BitVec 32 := 31#32
  let v409 : BitVec 32 := Scalar.minsi v408 c31_i32_188
  let c256_i32_189 : BitVec 32 := 256#32
  let v410 : BitVec 32 := Scalar.muli v409 c256_i32_189
  v410
def k0_off15 (i : grid0.Coords) (k0_t2 : Fin (k0_t2_loop i).trips) (c0_i32_218 : BitVec 32) : Fin 3 → Nat :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let v464 : BitVec 32 := Scalar.addi v329 c0_i32_218
  let v465 : Index := Scalar.indexCast v464
  let c0_219 : Index := 0#32
  let c0_220 : Index := 0#32
  ![v465.toNat, 0, 0]
def k0_off16 (i : grid0.Coords) (k0_t2 : Fin (k0_t2_loop i).trips) (c0_i32_256 : BitVec 32) : Fin 3 → Nat :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let v534 : BitVec 32 := Scalar.addi v329 c0_i32_256
  let v535 : Index := Scalar.indexCast v534
  let c144_257 : Index := 144#32
  let c0_258 : Index := 0#32
  ![v535.toNat, 144, 0]
def k0_mult34 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c0_i32_271 : BitVec 32 := 0#32
  let v560 : BitVec 32 := Scalar.addi v559 c0_i32_271
  let c31_i32_272 : BitVec 32 := 31#32
  let v561 : BitVec 32 := Scalar.minsi v560 c31_i32_272
  let c256_i32_273 : BitVec 32 := 256#32
  let v562 : BitVec 32 := Scalar.muli v561 c256_i32_273
  v562
def k0_mult35 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c1_i32_278 : BitVec 32 := 1#32
  let v571 : BitVec 32 := Scalar.addi v559 c1_i32_278
  let c31_i32_279 : BitVec 32 := 31#32
  let v572 : BitVec 32 := Scalar.minsi v571 c31_i32_279
  let c256_i32_280 : BitVec 32 := 256#32
  let v573 : BitVec 32 := Scalar.muli v572 c256_i32_280
  v573
def k0_mult36 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c2_i32_285 : BitVec 32 := 2#32
  let v582 : BitVec 32 := Scalar.addi v559 c2_i32_285
  let c31_i32_286 : BitVec 32 := 31#32
  let v583 : BitVec 32 := Scalar.minsi v582 c31_i32_286
  let c256_i32_287 : BitVec 32 := 256#32
  let v584 : BitVec 32 := Scalar.muli v583 c256_i32_287
  v584
def k0_mult37 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c3_i32_292 : BitVec 32 := 3#32
  let v593 : BitVec 32 := Scalar.addi v559 c3_i32_292
  let c31_i32_293 : BitVec 32 := 31#32
  let v594 : BitVec 32 := Scalar.minsi v593 c31_i32_293
  let c256_i32_294 : BitVec 32 := 256#32
  let v595 : BitVec 32 := Scalar.muli v594 c256_i32_294
  v595
def k0_mult38 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c0_i32_299 : BitVec 32 := 0#32
  let v604 : BitVec 32 := Scalar.addi v559 c0_i32_299
  let c31_i32_300 : BitVec 32 := 31#32
  let v605 : BitVec 32 := Scalar.minsi v604 c31_i32_300
  let c256_i32_301 : BitVec 32 := 256#32
  let v606 : BitVec 32 := Scalar.muli v605 c256_i32_301
  v606
def k0_mult39 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c1_i32_306 : BitVec 32 := 1#32
  let v615 : BitVec 32 := Scalar.addi v559 c1_i32_306
  let c31_i32_307 : BitVec 32 := 31#32
  let v616 : BitVec 32 := Scalar.minsi v615 c31_i32_307
  let c256_i32_308 : BitVec 32 := 256#32
  let v617 : BitVec 32 := Scalar.muli v616 c256_i32_308
  v617
def k0_mult40 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c2_i32_313 : BitVec 32 := 2#32
  let v626 : BitVec 32 := Scalar.addi v559 c2_i32_313
  let c31_i32_314 : BitVec 32 := 31#32
  let v627 : BitVec 32 := Scalar.minsi v626 c31_i32_314
  let c256_i32_315 : BitVec 32 := 256#32
  let v628 : BitVec 32 := Scalar.muli v627 c256_i32_315
  v628
def k0_mult41 (i : grid0.Coords) (k0_t2 : Fin (k0_t2_loop i).trips) : BitVec 32 :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c8_i32_270 : BitVec 32 := 8#32
  let v559 : BitVec 32 := Scalar.addi v329 c8_i32_270
  let c3_i32_320 : BitVec 32 := 3#32
  let v637 : BitVec 32 := Scalar.addi v559 c3_i32_320
  let c31_i32_321 : BitVec 32 := 31#32
  let v638 : BitVec 32 := Scalar.minsi v637 c31_i32_321
  let c256_i32_322 : BitVec 32 := 256#32
  let v639 : BitVec 32 := Scalar.muli v638 c256_i32_322
  v639
def k0_off17 (i : grid0.Coords) (k0_t2 : Fin (k0_t2_loop i).trips) (c0_i32_352 : BitVec 32) : Fin 3 → Nat :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_327 : BitVec 32 := 4#32
  let v648 : BitVec 32 := Scalar.addi v329 c4_i32_327
  let v694 : BitVec 32 := Scalar.addi v648 c0_i32_352
  let v695 : Index := Scalar.indexCast v694
  let c0_353 : Index := 0#32
  let c0_354 : Index := 0#32
  ![v695.toNat, 0, 0]
def k0_off18 (i : grid0.Coords) (k0_t2 : Fin (k0_t2_loop i).trips) (c0_i32_390 : BitVec 32) : Fin 3 → Nat :=
  let c8_i32 : BitVec 32 := 8#32
  let c0_i32_121 : BitVec 32 := 0#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_115 : BitVec 32 := 0#32
  let v278 : BitVec 1 := Scalar.cmpi .sgt v196 c0_i32_115
  let v279 : BitVec 32 := Scalar.extui v278
  let c0_i32_116 : BitVec 32 := 0#32
  let v280 : BitVec 1 := Scalar.cmpi .slt v196 c0_i32_116
  let v281 : BitVec 32 := Scalar.extui v280
  let v282 : BitVec 32 := Scalar.subi v279 v281
  let c2_i32_114 : BitVec 32 := 2#32
  let c0_i32_117 : BitVec 32 := 0#32
  let v283 : BitVec 1 := Scalar.cmpi .sgt c2_i32_114 c0_i32_117
  let v284 : BitVec 32 := Scalar.extui v283
  let c0_i32_118 : BitVec 32 := 0#32
  let v285 : BitVec 1 := Scalar.cmpi .slt c2_i32_114 c0_i32_118
  let v286 : BitVec 32 := Scalar.extui v285
  let v287 : BitVec 32 := Scalar.subi v284 v286
  let v288 : BitVec 1 := Scalar.cmpi .ne v282 v287
  let v289 : BitVec 32 := Scalar.remsi v196 c2_i32_114
  let c0_i32_119 : BitVec 32 := 0#32
  let v290 : BitVec 1 := Scalar.cmpi .ne v289 c0_i32_119
  let v291 : BitVec 1 := Scalar.andi v288 v290
  let v277 : BitVec 32 := Scalar.divsi v196 c2_i32_114
  let c1_i32_120 : BitVec 32 := 1#32
  let v292 : BitVec 32 := Scalar.subi v277 c1_i32_120
  let v293 : BitVec 32 := Scalar.select v291 v292 v277
  let v294 : BitVec 32 := Scalar.subi v293 c0_i32_121
  let c1_i32_122 : BitVec 32 := 1#32
  let v296 : BitVec 32 := Scalar.divsi v294 c1_i32_122
  let v297 : BitVec 32 := Scalar.muli v296 c1_i32_122
  let v298 : BitVec 32 := Scalar.addi c0_i32_121 v297
  let c1_i32_124 : BitVec 32 := 1#32
  let arg24 : BitVec 32 := Scf.iv v298 c1_i32_124 k0_t2
  let v329 : BitVec 32 := Scalar.muli c8_i32 arg24
  let c4_i32_327 : BitVec 32 := 4#32
  let v648 : BitVec 32 := Scalar.addi v329 c4_i32_327
  let v764 : BitVec 32 := Scalar.addi v648 c0_i32_390
  let v765 : Index := Scalar.indexCast v764
  let c144_391 : Index := 144#32
  let c0_392 : Index := 0#32
  ![v765.toNat, 144, 0]
def k0_cond1 (i : grid0.Coords) : BitVec 1 :=
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c2_i32_125 : BitVec 32 := 2#32
  let c0_i32_126 : BitVec 32 := 0#32
  let v301 : BitVec 1 := Scalar.cmpi .eq c2_i32_125 c0_i32_126
  let c1_i32_127 : BitVec 32 := 1#32
  let v302 : BitVec 32 := Scalar.select v301 c1_i32_127 c2_i32_125
  let v303 : BitVec 32 := Scalar.remsi v196 v302
  let c0_i32_129 : BitVec 32 := 0#32
  let v305 : BitVec 1 := Scalar.cmpi .slt v303 c0_i32_129
  let c0_i32_130 : BitVec 32 := 0#32
  let v306 : BitVec 1 := Scalar.cmpi .slt v302 c0_i32_130
  let v307 : BitVec 1 := Scalar.xori v305 v306
  let c0_i32_128 : BitVec 32 := 0#32
  let v304 : BitVec 1 := Scalar.cmpi .ne v303 c0_i32_128
  let v308 : BitVec 1 := Scalar.andi v307 v304
  let v309 : BitVec 32 := Scalar.addi v303 v302
  let v310 : BitVec 32 := Scalar.select v308 v309 v303
  let c1_i32_131 : BitVec 32 := 1#32
  let v311 : BitVec 1 := Scalar.cmpi .eq v310 c1_i32_131
  let v312 : BitVec 32 := Scalar.extui v311
  let c0_i32_132 : BitVec 32 := 0#32
  let v313 : BitVec 1 := Scalar.cmpi .ne v312 c0_i32_132
  v313

def k0_off19 (i : grid0.Coords) (c0_i32_168 : BitVec 32) : Fin 3 → Nat :=
  let c8_i32 : BitVec 32 := 8#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_138 : BitVec 32 := 0#32
  let v330 : BitVec 1 := Scalar.cmpi .sgt v196 c0_i32_138
  let v331 : BitVec 32 := Scalar.extui v330
  let c0_i32_139 : BitVec 32 := 0#32
  let v332 : BitVec 1 := Scalar.cmpi .slt v196 c0_i32_139
  let v333 : BitVec 32 := Scalar.extui v332
  let v334 : BitVec 32 := Scalar.subi v331 v333
  let c2_i32_137 : BitVec 32 := 2#32
  let c0_i32_140 : BitVec 32 := 0#32
  let v335 : BitVec 1 := Scalar.cmpi .sgt c2_i32_137 c0_i32_140
  let v336 : BitVec 32 := Scalar.extui v335
  let c0_i32_141 : BitVec 32 := 0#32
  let v337 : BitVec 1 := Scalar.cmpi .slt c2_i32_137 c0_i32_141
  let v338 : BitVec 32 := Scalar.extui v337
  let v339 : BitVec 32 := Scalar.subi v336 v338
  let v340 : BitVec 1 := Scalar.cmpi .ne v334 v339
  let v341 : BitVec 32 := Scalar.remsi v196 c2_i32_137
  let c0_i32_142 : BitVec 32 := 0#32
  let v342 : BitVec 1 := Scalar.cmpi .ne v341 c0_i32_142
  let v343 : BitVec 1 := Scalar.andi v340 v342
  let v329 : BitVec 32 := Scalar.divsi v196 c2_i32_137
  let c1_i32_143 : BitVec 32 := 1#32
  let v344 : BitVec 32 := Scalar.subi v329 c1_i32_143
  let v345 : BitVec 32 := Scalar.select v343 v344 v329
  let v346 : BitVec 32 := Scalar.muli c8_i32 v345
  let v392 : BitVec 32 := Scalar.addi v346 c0_i32_168
  let v393 : Index := Scalar.indexCast v392
  let c0_169 : Index := 0#32
  let c0_170 : Index := 0#32
  ![v393.toNat, 0, 0]
def k0_off20 (i : grid0.Coords) (c0_i32_206 : BitVec 32) : Fin 3 → Nat :=
  let c8_i32 : BitVec 32 := 8#32
  let arg2 : BitVec 32 := BitVec.ofNat 32 (i 2).val
  let c3_i32 : BitVec 32 := 3#32
  let v179 : BitVec 32 := Scalar.addi arg2 c3_i32
  let c0_i32 : BitVec 32 := 0#32
  let v181 : BitVec 1 := Scalar.cmpi .sgt v179 c0_i32
  let v182 : BitVec 32 := Scalar.extui v181
  let c0_i32_56 : BitVec 32 := 0#32
  let v183 : BitVec 1 := Scalar.cmpi .slt v179 c0_i32_56
  let v184 : BitVec 32 := Scalar.extui v183
  let v185 : BitVec 32 := Scalar.subi v182 v184
  let c4_i32 : BitVec 32 := 4#32
  let c0_i32_57 : BitVec 32 := 0#32
  let v186 : BitVec 1 := Scalar.cmpi .sgt c4_i32 c0_i32_57
  let v187 : BitVec 32 := Scalar.extui v186
  let c0_i32_58 : BitVec 32 := 0#32
  let v188 : BitVec 1 := Scalar.cmpi .slt c4_i32 c0_i32_58
  let v189 : BitVec 32 := Scalar.extui v188
  let v190 : BitVec 32 := Scalar.subi v187 v189
  let v191 : BitVec 1 := Scalar.cmpi .ne v185 v190
  let v192 : BitVec 32 := Scalar.remsi v179 c4_i32
  let c0_i32_59 : BitVec 32 := 0#32
  let v193 : BitVec 1 := Scalar.cmpi .ne v192 c0_i32_59
  let v194 : BitVec 1 := Scalar.andi v191 v193
  let v180 : BitVec 32 := Scalar.divsi v179 c4_i32
  let c1_i32 : BitVec 32 := 1#32
  let v195 : BitVec 32 := Scalar.subi v180 c1_i32
  let v196 : BitVec 32 := Scalar.select v194 v195 v180
  let c0_i32_138 : BitVec 32 := 0#32
  let v330 : BitVec 1 := Scalar.cmpi .sgt v196 c0_i32_138
  let v331 : BitVec 32 := Scalar.extui v330
  let c0_i32_139 : BitVec 32 := 0#32
  let v332 : BitVec 1 := Scalar.cmpi .slt v196 c0_i32_139
  let v333 : BitVec 32 := Scalar.extui v332
  let v334 : BitVec 32 := Scalar.subi v331 v333
  let c2_i32_137 : BitVec 32 := 2#32
  let c0_i32_140 : BitVec 32 := 0#32
  let v335 : BitVec 1 := Scalar.cmpi .sgt c2_i32_137 c0_i32_140
  let v336 : BitVec 32 := Scalar.extui v335
  let c0_i32_141 : BitVec 32 := 0#32
  let v337 : BitVec 1 := Scalar.cmpi .slt c2_i32_137 c0_i32_141
  let v338 : BitVec 32 := Scalar.extui v337
  let v339 : BitVec 32 := Scalar.subi v336 v338
  let v340 : BitVec 1 := Scalar.cmpi .ne v334 v339
  let v341 : BitVec 32 := Scalar.remsi v196 c2_i32_137
  let c0_i32_142 : BitVec 32 := 0#32
  let v342 : BitVec 1 := Scalar.cmpi .ne v341 c0_i32_142
  let v343 : BitVec 1 := Scalar.andi v340 v342
  let v329 : BitVec 32 := Scalar.divsi v196 c2_i32_137
  let c1_i32_143 : BitVec 32 := 1#32
  let v344 : BitVec 32 := Scalar.subi v329 c1_i32_143
  let v345 : BitVec 32 := Scalar.select v343 v344 v329
  let v346 : BitVec 32 := Scalar.muli c8_i32 v345
  let v462 : BitVec 32 := Scalar.addi v346 c0_i32_206
  let v463 : Index := Scalar.indexCast v462
  let c144_207 : Index := 144#32
  let c0_208 : Index := 0#32
  ![v463.toNat, 144, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S32x288x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "c" => some (((11863283 / 134217728) * (Real.log 2)⁻¹ : ℝ) : EReal)
  | "mask" => some ⊥
  | _ => none
-- ==== ReferenceIdeal.lean ====
abbrev S2x8192x8x128 : Shape := ⟨4, ![2, 8192, 8, 128]⟩
abbrev S8192 : Shape := ⟨1, ![8192]⟩
abbrev S2x32x256x8x128 : Shape := ⟨5, ![2, 32, 256, 8, 128]⟩
abbrev S_ : Shape := ⟨0, ![]⟩
abbrev S2x32x8x128 : Shape := ⟨4, ![2, 32, 8, 128]⟩
abbrev S2x8x32x8192 : Shape := ⟨4, ![2, 8, 32, 8192]⟩
abbrev S2x8192x8x32 : Shape := ⟨4, ![2, 8192, 8, 32]⟩
abbrev S32 : Shape := ⟨1, ![32]⟩
abbrev S1x32 : Shape := ⟨2, ![1, 32]⟩
abbrev S8192x1 : Shape := ⟨2, ![8192, 1]⟩
abbrev S8192x32 : Shape := ⟨2, ![8192, 32]⟩
abbrev S1x8192x1x32 : Shape := ⟨4, ![1, 8192, 1, 32]⟩
abbrev S2x8192x8x3 : Shape := ⟨4, ![2, 8192, 8, 3]⟩
abbrev S1x8192x1x1 : Shape := ⟨4, ![1, 8192, 1, 1]⟩
abbrev S2x8192x8x1 : Shape := ⟨4, ![2, 8192, 8, 1]⟩
abbrev S2x8192x8x4 : Shape := ⟨4, ![2, 8192, 8, 4]⟩
abbrev S2 : Shape := ⟨1, ![2]⟩
abbrev S2x1x1x1 : Shape := ⟨4, ![2, 1, 1, 1]⟩
abbrev S8 : Shape := ⟨1, ![8]⟩
abbrev S1x1x8x1 : Shape := ⟨4, ![1, 1, 8, 1]⟩
abbrev S2x8192x8x4x1 : Shape := ⟨5, ![2, 8192, 8, 4, 1]⟩
abbrev S2x8192x8x4x3 : Shape := ⟨5, ![2, 8192, 8, 4, 3]⟩
abbrev S2x8192x8x4x256x128 : Shape := ⟨6, ![2, 8192, 8, 4, 256, 128]⟩
abbrev S256 : Shape := ⟨1, ![256]⟩
abbrev S1x1x1x1x256 : Shape := ⟨5, ![1, 1, 1, 1, 256]⟩
abbrev S2x8192x8x4x256 : Shape := ⟨5, ![2, 8192, 8, 4, 256]⟩
abbrev S1x8192x1x1x1 : Shape := ⟨5, ![1, 8192, 1, 1, 1]⟩
abbrev S2x8192x8x1024 : Shape := ⟨4, ![2, 8192, 8, 1024]⟩
abbrev S2x8192x8 : Shape := ⟨3, ![2, 8192, 8]⟩
abbrev S16384x1024 : Shape := ⟨2, ![16384, 1024]⟩

abbrev nBuf : Space → Nat
  | .hbm => 156
  | .vmem => 0
  | .smem => 0
  | _ => 0

abbrev hbmTy0_0 (i : Nat) : BufTy := match i % 128 with
  | 0 => ⟨S2x8192x8x128, .f32⟩
  | 1 => ⟨S2x8192x8x128, .f32⟩
  | 2 => ⟨S2x8192x8x128, .f32⟩
  | 3 => ⟨S8192, .i32⟩
  | 4 => ⟨S2x32x256x8x128, .f32⟩
  | 5 => ⟨S2x32x256x8x128, .f32⟩
  | 6 => ⟨S_, .f32⟩
  | 7 => ⟨S2x32x8x128, .f32⟩
  | 8 => ⟨S_, .f32⟩
  | 9 => ⟨S2x32x8x128, .f32⟩
  | 10 => ⟨S2x32x8x128, .f32⟩
  | 11 => ⟨S2x8x32x8192, .f32⟩
  | 12 => ⟨S2x8192x8x32, .f32⟩
  | 13 => ⟨S_, .i32⟩
  | 14 => ⟨S_, .i32⟩
  | 15 => ⟨S8192, .i32⟩
  | 16 => ⟨S8192, .i32⟩
  | 17 => ⟨S8192, .i32⟩
  | 18 => ⟨S_, .i32⟩
  | 19 => ⟨S8192, .i32⟩
  | 20 => ⟨S8192, .i1⟩
  | 21 => ⟨S8192, .i32⟩
  | 22 => ⟨S8192, .i32⟩
  | 23 => ⟨S_, .i32⟩
  | 24 => ⟨S8192, .i32⟩
  | 25 => ⟨S8192, .i1⟩
  | 26 => ⟨S8192, .i1⟩
  | 27 => ⟨S_, .i32⟩
  | 28 => ⟨S8192, .i32⟩
  | 29 => ⟨S8192, .i32⟩
  | 30 => ⟨S8192, .i32⟩
  | 31 => ⟨S32, .i32⟩
  | 32 => ⟨S1x32, .i32⟩
  | 33 => ⟨S8192x1, .i32⟩
  | 34 => ⟨S8192x32, .i32⟩
  | 35 => ⟨S8192x32, .i32⟩
  | 36 => ⟨S8192x32, .i1⟩
  | 37 => ⟨S1x8192x1x32, .i1⟩
  | 38 => ⟨S_, .f32⟩
  | 39 => ⟨S_, .f32⟩
  | 40 => ⟨S2x8192x8x32, .i1⟩
  | 41 => ⟨S2x8192x8x32, .f32⟩
  | 42 => ⟨S2x8192x8x32, .f32⟩
  | 43 => ⟨S2x8192x8x3, .f32⟩
  | 44 => ⟨S2x8192x8x3, .i32⟩
  | 45 => ⟨S1x8192x1x1, .i32⟩
  | 46 => ⟨S2x8192x8x3, .i32⟩
  | 47 => ⟨S2x8192x8x3, .i1⟩
  | 48 => ⟨S1x8192x1x1, .i32⟩
  | 49 => ⟨S2x8192x8x1, .i32⟩
  | 50 => ⟨S2x8192x8x4, .i32⟩
  | 51 => ⟨S_, .i1⟩
  | 52 => ⟨S2x8192x8x1, .i1⟩
  | 53 => ⟨S2x8192x8x4, .i1⟩
  | 54 => ⟨S2, .i32⟩
  | 55 => ⟨S2x1x1x1, .i32⟩
  | 56 => ⟨S8, .i32⟩
  | 57 => ⟨S1x1x8x1, .i32⟩
  | 58 => ⟨S_, .i32⟩
  | 59 => ⟨S2x1x1x1, .i32⟩
  | 60 => ⟨S2x1x1x1, .i1⟩
  | 61 => ⟨S_, .i32⟩
  | 62 => ⟨S2x1x1x1, .i32⟩
  | 63 => ⟨S2x1x1x1, .i32⟩
  | 64 => ⟨S2x1x1x1, .i32⟩
  | 65 => ⟨S_, .i32⟩
  | 66 => ⟨S2x8192x8x4, .i32⟩
  | 67 => ⟨S2x8192x8x4, .i1⟩
  | 68 => ⟨S_, .i32⟩
  | 69 => ⟨S2x8192x8x4, .i32⟩
  | 70 => ⟨S2x8192x8x4, .i32⟩
  | 71 => ⟨S2x8192x8x4, .i32⟩
  | 72 => ⟨S_, .i32⟩
  | 73 => ⟨S1x1x8x1, .i32⟩
  | 74 => ⟨S1x1x8x1, .i1⟩
  | 75 => ⟨S_, .i32⟩
  | 76 => ⟨S1x1x8x1, .i32⟩
  | 77 => ⟨S1x1x8x1, .i32⟩
  | 78 => ⟨S1x1x8x1, .i32⟩
  | 79 => ⟨S2x8192x8x4, .i32⟩
  | 80 => ⟨S2x8192x8x4, .i32⟩
  | 81 => ⟨S2x8192x8x4x1, .i32⟩
  | 82 => ⟨S2x8192x8x4x1, .i32⟩
  | 83 => ⟨S2x8192x8x4x1, .i32⟩
  | 84 => ⟨S2x8192x8x4x3, .i32⟩
  | 85 => ⟨S2x8192x8x4x256x128, .f32⟩
  | 86 => ⟨S_, .i32⟩
  | 87 => ⟨S2x1x1x1, .i32⟩
  | 88 => ⟨S2x1x1x1, .i1⟩
  | 89 => ⟨S_, .i32⟩
  | 90 => ⟨S2x1x1x1, .i32⟩
  | 91 => ⟨S2x1x1x1, .i32⟩
  | 92 => ⟨S2x1x1x1, .i32⟩
  | 93 => ⟨S_, .i32⟩
  | 94 => ⟨S2x8192x8x4, .i32⟩
  | 95 => ⟨S2x8192x8x4, .i1⟩
  | 96 => ⟨S_, .i32⟩
  | 97 => ⟨S2x8192x8x4, .i32⟩
  | 98 => ⟨S2x8192x8x4, .i32⟩
  | 99 => ⟨S2x8192x8x4, .i32⟩
  | 100 => ⟨S_, .i32⟩
  | 101 => ⟨S1x1x8x1, .i32⟩
  | 102 => ⟨S1x1x8x1, .i1⟩
  | 103 => ⟨S_, .i32⟩
  | 104 => ⟨S1x1x8x1, .i32⟩
  | 105 => ⟨S1x1x8x1, .i32⟩
  | 106 => ⟨S1x1x8x1, .i32⟩
  | 107 => ⟨S2x8192x8x4, .i32⟩
  | 108 => ⟨S2x8192x8x4, .i32⟩
  | 109 => ⟨S2x8192x8x4x1, .i32⟩
  | 110 => ⟨S2x8192x8x4x1, .i32⟩
  | 111 => ⟨S2x8192x8x4x1, .i32⟩
  | 112 => ⟨S2x8192x8x4x3, .i32⟩
  | 113 => ⟨S2x8192x8x4x256x128, .f32⟩
  | 114 => ⟨S2x8192x8x4x1, .i32⟩
  | 115 => ⟨S_, .i32⟩
  | 116 => ⟨S2x8192x8x4x1, .i32⟩
  | 117 => ⟨S2x8192x8x4x1, .i32⟩
  | 118 => ⟨S256, .i32⟩
  | 119 => ⟨S1x1x1x1x256, .i32⟩
  | 120 => ⟨S2x8192x8x4x256, .i32⟩
  | 121 => ⟨S2x8192x8x4x256, .i32⟩
  | 122 => ⟨S2x8192x8x4x256, .i32⟩
  | 123 => ⟨S2x8192x8x4x1, .i1⟩
  | 124 => ⟨S1x8192x1x1x1, .i32⟩
  | 125 => ⟨S2x8192x8x4x256, .i32⟩
  | 126 => ⟨S2x8192x8x4x256, .i1⟩
  | 127 => ⟨S2x8192x8x4x256, .i1⟩
  | _ => ⟨S2x8192x8x128, .f32⟩

abbrev hbmTy0_1 (i : Nat) : BufTy := match i % 128 with
  | 0 => ⟨S2x8192x8x4x256, .i1⟩
  | 1 => ⟨S2x8192x8x4x256, .f32⟩
  | 2 => ⟨S_, .f32⟩
  | 3 => ⟨S2x8192x8x4x256, .f32⟩
  | 4 => ⟨S2x8192x8x4x256, .f32⟩
  | 5 => ⟨S_, .f32⟩
  | 6 => ⟨S_, .f32⟩
  | 7 => ⟨S2x8192x8x4x256, .f32⟩
  | 8 => ⟨S2x8192x8x4x256, .f32⟩
  | 9 => ⟨S2x8192x8x1024, .f32⟩
  | 10 => ⟨S_, .f32⟩
  | 11 => ⟨S2x8192x8, .f32⟩
  | 12 => ⟨S_, .f32⟩
  | 13 => ⟨S2x8192x8, .f32⟩
  | 14 => ⟨S2x8192x8, .f32⟩
  | 15 => ⟨S2x8192x8x1, .f32⟩
  | 16 => ⟨S2x8192x8x1024, .f32⟩
  | 17 => ⟨S2x8192x8x1024, .f32⟩
  | 18 => ⟨S2x8192x8x1024, .f32⟩
  | 19 => ⟨S_, .f32⟩
  | 20 => ⟨S2x8192x8, .f32⟩
  | 21 => ⟨S2x8192x8x1, .f32⟩
  | 22 => ⟨S2x8192x8x1024, .f32⟩
  | 23 => ⟨S2x8192x8x1024, .f32⟩
  | 24 => ⟨S2x8192x8x4x256, .f32⟩
  | 25 => ⟨S2x8192x8x128, .f32⟩
  | 26 => ⟨S16384x1024, .f32⟩
  | 27 => ⟨S16384x1024, .bf16⟩
  | _ => ⟨S2x8192x8x128, .f32⟩

abbrev hbmTy (i : Nat) : BufTy := match i / 128 with
  | 0 => hbmTy0_0 i
  | 1 => hbmTy0_1 i
  | _ => ⟨S2x8192x8x128, .f32⟩

abbrev bufTy : (tb : Table) → Fin (tcTables nBuf tb) → BufTy
  | .hbm, ⟨i, _⟩ => hbmTy i
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_values : Ref sig .tc := ⟨.hbm, 43, rfl⟩
abbrev main_indices : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_3 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_5 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_c_7 : Ref sig .tc := ⟨.hbm, 72, rfl⟩
abbrev main_v39 : Ref sig .tc := ⟨.hbm, 73, rfl⟩
abbrev main_v40 : Ref sig .tc := ⟨.hbm, 74, rfl⟩
abbrev main_c_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_9 : Ref sig .tc := ⟨.hbm, 86, rfl⟩
abbrev main_v51 : Ref sig .tc := ⟨.hbm, 87, rfl⟩
abbrev main_v52 : Ref sig .tc := ⟨.hbm, 88, rfl⟩
abbrev main_c_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_11 : Ref sig .tc := ⟨.hbm, 93, rfl⟩
abbrev main_v56 : Ref sig .tc := ⟨.hbm, 94, rfl⟩
abbrev main_v57 : Ref sig .tc := ⟨.hbm, 95, rfl⟩
abbrev main_c_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_13 : Ref sig .tc := ⟨.hbm, 100, rfl⟩
abbrev main_v61 : Ref sig .tc := ⟨.hbm, 101, rfl⟩
abbrev main_v62 : Ref sig .tc := ⟨.hbm, 102, rfl⟩
abbrev main_c_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_15 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_16 : Ref sig .tc := ⟨.hbm, 130, rfl⟩
abbrev main_v88 : Ref sig .tc := ⟨.hbm, 131, rfl⟩
abbrev main_v89 : Ref sig .tc := ⟨.hbm, 132, rfl⟩
abbrev main_cst_17 : Ref sig .tc := ⟨.hbm, 133, rfl⟩
abbrev main_call2_v0 : Ref sig .tc := ⟨.hbm, 134, rfl⟩
abbrev main_call2_v1 : Ref sig .tc := ⟨.hbm, 135, rfl⟩
abbrev main_v90 : Ref sig .tc := ⟨.hbm, 136, rfl⟩
abbrev main_v91 : Ref sig .tc := ⟨.hbm, 137, rfl⟩
abbrev main_cst_18 : Ref sig .tc := ⟨.hbm, 138, rfl⟩
abbrev main_v92 : Ref sig .tc := ⟨.hbm, 139, rfl⟩
abbrev main_cst_19 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_20 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩

abbrev nD : Nat := 1
abbrev τ : Topo := Topo.v7x

variable {F : FTy → Type} [FloatOps F]
-- ==== Ffn.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S1x1024 : Shape := ⟨2, ![1, 1024]⟩
abbrev S1x5632 : Shape := ⟨2, ![1, 5632]⟩
abbrev S32x8x2816 : Shape := ⟨3, ![32, 8, 2816]⟩
abbrev S512x1024 : Shape := ⟨2, ![512, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x8x1408 : Shape := ⟨3, ![1, 8, 1408]⟩
abbrev S520x1408 : Shape := ⟨2, ![520, 1408]⟩
abbrev S2x8x1408 : Shape := ⟨3, ![2, 8, 1408]⟩
abbrev S512 : Shape := ⟨1, ![512]⟩
abbrev S512x1 : Shape := ⟨2, ![512, 1]⟩
abbrev S8x1408 : Shape := ⟨2, ![8, 1408]⟩
abbrev S512x1408 : Shape := ⟨2, ![512, 1408]⟩
abbrev S2x2x2816 : Shape := ⟨3, ![2, 2, 2816]⟩
abbrev S2x2x5632 : Shape := ⟨3, ![2, 2, 5632]⟩

abbrev nBuf : Space → Nat
  | .hbm => 17
  | .vmem => 29
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S16384x1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S16384x1024, .f32⟩
  | .hbm, ⟨12, _⟩ => ⟨S32x8x2816, .f32⟩
  | .hbm, ⟨13, _⟩ => ⟨S32x8x2816, .f32⟩
  | .hbm, ⟨14, _⟩ => ⟨S2x2x2816, .f32⟩
  | .hbm, ⟨15, _⟩ => ⟨S2x2x2816, .f32⟩
  | .hbm, ⟨16, _⟩ => ⟨S2x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1408x1024, .bf16⟩
  | .local _ .vmem, ⟨16, _⟩ => ⟨S1408x1024, .bf16⟩
  | .local _ .vmem, ⟨17, _⟩ => ⟨S512x1024, .f32⟩
  | .local _ .vmem, ⟨18, _⟩ => ⟨S512x1024, .f32⟩
  | .local _ .vmem, ⟨19, _⟩ => ⟨S1x8x1408, .f32⟩
  | .local _ .vmem, ⟨20, _⟩ => ⟨S1x8x1408, .f32⟩
  | .local _ .vmem, ⟨21, _⟩ => ⟨S1x8x1408, .f32⟩
  | .local _ .vmem, ⟨22, _⟩ => ⟨S1x8x1408, .f32⟩
  | .local _ .vmem, ⟨23, _⟩ => ⟨S512x1024, .bf16⟩
  | .local _ .vmem, ⟨24, _⟩ => ⟨S520x1408, .f32⟩
  | .local _ .vmem, ⟨25, _⟩ => ⟨S520x1408, .f32⟩
  | .local _ .vmem, ⟨26, _⟩ => ⟨S2x8x1408, .f32⟩
  | .local _ .vmem, ⟨27, _⟩ => ⟨S2x8x1408, .f32⟩
  | .local _ .vmem, ⟨28, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v14 : BitVec 32 := Scalar.extui v10
  let c0_i32_6 : BitVec 32 := 0#32
  let v15 : BitVec 1 := Scalar.cmpi .ne v14 c0_i32_6
  v15

def k0_off1 (i : grid0.Coords) : Fin 3 → Nat :=
  let arg1 : BitVec 32 := BitVec.ofNat 32 (i 1).val
  let v114 : Index := Scalar.indexCast arg1
  let c0_72 : Index := 0#32
  let c0_73 : Index := 0#32
  ![v114.toNat, 0, 0]
def k0_off2 (i : grid0.Coords) : Fin 3 → Nat :=
  let arg1 : BitVec 32 := BitVec.ofNat 32 (i 1).val
  let v20 : Index := Scalar.indexCast arg1
  let c0_10 : Index := 0#32
  let c0_11 : Index := 0#32
  ![v20.toNat, 0, 0]
def k0_cond3 (i : grid0.Coords) : BitVec 1 :=
  let arg1 : BitVec 32 := BitVec.ofNat 32 (i 1).val
  let c1_i32_69 : BitVec 32 := 1#32
  let v110 : BitVec 1 := Scalar.cmpi .eq arg1 c1_i32_69
  let v111 : BitVec 32 := Scalar.extui v110
  let c0_i32_70 : BitVec 32 := 0#32
  let v112 : BitVec 1 := Scalar.cmpi .ne v111 c0_i32_70
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnReferenceIdeal.lean ====
abbrev S2x8192x1024 : Shape := ⟨3, ![2, 8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x2x5632 : Shape := ⟨3, ![2, 2, 5632]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S16384x1024 : Shape := ⟨2, ![16384, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x2x5632, .f32⟩
  | .hbm, ⟨24, _⟩ => ⟨S2x8192x5632, .f32⟩
  | .hbm, ⟨25, _⟩ => ⟨S2x8194x5632, .f32⟩
  | .hbm, ⟨26, _⟩ => ⟨S2x8192x5632, .f32⟩
  | .hbm, ⟨27, _⟩ => ⟨S1x5632, .f32⟩
  | .hbm, ⟨28, _⟩ => ⟨S5632, .f32⟩
  | .hbm, ⟨29, _⟩ => ⟨S1x1x5632, .f32⟩
  | .hbm, ⟨30, _⟩ => ⟨S2x8192x5632, .f32⟩
  | .hbm, ⟨31, _⟩ => ⟨S2x8192x5632, .f32⟩
  | .hbm, ⟨32, _⟩ => ⟨S2x8192x5632, .f32⟩
  | .hbm, ⟨33, _⟩ => ⟨S1x5632, .f32⟩
  | .hbm, ⟨34, _⟩ => ⟨S5632, .f32⟩
  | .hbm, ⟨35, _⟩ => ⟨S1x1x5632, .f32⟩
  | .hbm, ⟨36, _⟩ => ⟨S2x8192x5632, .f32⟩
  | .hbm, ⟨37, _⟩ => ⟨S2x8192x5632, .f32⟩
  | .hbm, ⟨38, _⟩ => ⟨S2x8192x5632, .f32⟩
  | .hbm, ⟨39, _⟩ => ⟨S2x8192x5632, .f32⟩
  | .hbm, ⟨40, _⟩ => ⟨S1x5632, .f32⟩
  | .hbm, ⟨41, _⟩ => ⟨S5632, .f32⟩
  | .hbm, ⟨42, _⟩ => ⟨S1x1x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S1x1x5632, .f32⟩
  | .hbm, ⟨47, _⟩ => ⟨S2x8192x5632, .f32⟩
  | .hbm, ⟨48, _⟩ => ⟨S2x8192x5632, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S_, .f32⟩
  | .hbm, ⟨54, _⟩ => ⟨S2x8192x2816, .f32⟩
  | .hbm, ⟨55, _⟩ => ⟨S2x8192x2816, .f32⟩
  | .hbm, ⟨56, _⟩ => ⟨S_, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S2x8192x2816, .f32⟩
  | .hbm, ⟨61, _⟩ => ⟨S2x8192x1024, .f32⟩
  | .hbm, ⟨62, _⟩ => ⟨S2x8192x1024, .f32⟩
  | .hbm, ⟨63, _⟩ => ⟨S16384x1024, .f32⟩
  | .hbm, ⟨64, _⟩ => ⟨S2x2x5632, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Proof.KernelFrame.lean ====
/- The loops of the attention kernel at the printed program's instance, as far as its frame needs them: one trip keeps
   the key and value blocks it reads and leaves the sixteen logit buffers at some contents. -/
module

public import proofs.«01_k».proof.Defs
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Exec
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The algebra of the runs below: the frame kit's. -/
abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords)
  (arg3 : Memref sig .tc .vmem S256x256 .bf16) (harg3 : arg3.IsWhole)
  (arg4 : Memref sig .tc .vmem S8192x512 .bf16) (harg4 : arg4.IsWhole)
  (arg5 : Memref sig .tc .vmem S32x288x256 .bf16) (harg5 : arg5.IsWhole)
  (arg6 : Memref sig .tc .vmem S32x1x256 .f32) (harg6 : arg6.IsWhole)
  (arg7 : Memref sig .tc .vmem S256x256 .bf16) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S256x256 .f32) (harg16 : arg16.IsWhole)
  (arg17 : Memref sig .tc .vmem S256x256 .f32) (harg17 : arg17.IsWhole)
  (arg18 : Memref sig .tc .vmem S256x256 .f32) (harg18 : arg18.IsWhole)
  (arg19 : Memref sig .tc .vmem S256x256 .f32) (harg19 : arg19.IsWhole)
  (arg20 : Memref sig .tc .vmem S256x256 .f32) (harg20 : arg20.IsWhole)
  (arg21 : Memref sig .tc .vmem S256x256 .f32) (harg21 : arg21.IsWhole)
  (arg22 : Memref sig .tc .vmem S256x256 .f32) (harg22 : arg22.IsWhole)
  (arg23 : Memref sig .tc .vmem S256x256 .f32) (harg23 : arg23.IsWhole)

/-- The sixteen logit buffers at anything. -/
abbrev scratch : sProp 𝕄 :=
  iprop((∃ f, pt c arg8 f) ∗ (∃ f, pt c arg9 f) ∗ (∃ f, pt c arg10 f) ∗ (∃ f, pt c arg11 f) ∗ (∃ f, pt c arg12 f) ∗ (∃ f, pt c arg13 f)
    ∗ (∃ f, pt c arg14 f) ∗ (∃ f, pt c arg15 f) ∗ (∃ f, pt c arg16 f) ∗ (∃ f, pt c arg17 f) ∗ (∃ f, pt c arg18 f) ∗ (∃ f, pt c arg19 f)
    ∗ (∃ f, pt c arg20 f) ∗ (∃ f, pt c arg21 f) ∗ (∃ f, pt c arg22 f) ∗ (∃ f, pt c arg23 f))

/-- What both loops touch: the key block and the value block at their contents, the logit buffers at anything. -/
abbrev loopRes (X4 : Bf (F := F) c arg4) (X5 : Bf (F := F) c arg5) : sProp 𝕄 :=
  iprop(pt c arg4 X4 ∗ pt c arg5 X5 ∗ scratch c arg8 arg9 arg10 arg11 arg12 arg13 arg14 arg15 arg16 arg17 arg18 arg19 arg20 arg21 arg22 arg23)

section Loops

variable (X4 : Bf (F := F) c arg4) (X5 : Bf (F := F) c arg5)
  (v32 : FVec F S1x256 .f32) (v42 : FVec F S144x256 .f32) (v44 : FVec F S1x256 .f32) (v54 : FVec F S144x256 .f32)
  (v116 v178 : FVec F S256x256 .bf16) (v196 c2_i32_114 v277 v279 v298 : BitVec 32)
  (init : FVec F S1x256 .f32 × FVec F S144x256 .f32 × FVec F S1x256 .f32 × FVec F S144x256 .f32)

/-- One trip of the main loop. -/
theorem trip (k : Fin (k0_t1_loop i).trips) (acc : FVec F S1x256 .f32 × FVec F S144x256 .f32 × FVec F S1x256 .f32 × FVec F S144x256 .f32) :
    (loopRes c arg4 arg5 arg8 arg9 arg10 arg11 arg12 arg13 arg14 arg15 arg16 arg17 arg18 arg19 arg20 arg21 arg22 arg23 X4 X5 : sProp 𝕄)
      ⊢ wp frame (wpE (defs₀ (F := F)) 𝒱₀ c none) Set.univ
        (k0_t1_body (F := F) i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 v32 v42 v44 v54 v116 v178 v196 c2_i32_114 v277 v279 k acc)
        (fun _ => loopRes c arg4 arg5 arg8 arg9 arg10 arg11 arg12 arg13 arg14 arg15 arg16 arg17 arg18 arg19 arg20 arg21 arg22 arg23 X4 X5) := by
  obtain ⟨a0, a1, a2, a3⟩ := acc
  unfold k0_t1_body loopRes scratch
  iintro ⟨H4, H5, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩⟩
  sl_exec_parts
  sl_step
  sl_close

set_option warn.classDefReducibility false in
/-- The main loop's invariant: those resources, whatever the trip. -/
@[sl_loop] noncomputable def loopInv1 : LoopInvTy_k0_t1 (F := F) Unit ℕ (UU nD τ) ℕ 𝒱₀ c none Set.univ i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23
    v32 v42 v44 v54 v116 v178 v196 c2_i32_114 v277 v279 init where
  inv _ _ := loopRes c arg4 arg5 arg8 arg9 arg10 arg11 arg12 arg13 arg14 arg15 arg16 arg17 arg18 arg19 arg20 arg21 arg22 arg23 X4 X5
  step k acc := trip c i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 X4 X5 v32 v42 v44 v54 v116 v178 v196 c2_i32_114 v277 v279 k acc

/-- The remainder loop runs no trip: the main loop's step is one. -/
theorem trips2 (i : grid0.Coords) : (k0_t2_loop i).trips = 0 := by
  have key : ∀ n : Fin 32, (k0_t2_loop (grid0.coords ⟨n.val, by have := n.isLt; show n.val < 256; omega⟩)).trips = 0
      ∧ ((grid0.coords ⟨n.val, by have := n.isLt; show n.val < 256; omega⟩) 2).val = n.val := by decide +kernel
  have h := key (i 2)
  rw [← h.1]
  unfold k0_t2_loop
  rw [h.2]

set_option warn.classDefReducibility false in
/-- The remainder loop's invariant: the same resources. -/
@[sl_loop] noncomputable def loopInv2 : LoopInvTy_k0_t2 (F := F) Unit ℕ (UU nD τ) ℕ 𝒱₀ c none Set.univ i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23
    v32 v42 v44 v54 v116 v178 v196 c2_i32_114 v277 v279 v298 init where
  inv _ _ := loopRes c arg4 arg5 arg8 arg9 arg10 arg11 arg12 arg13 arg14 arg15 arg16 arg17 arg18 arg19 arg20 arg21 arg22 arg23 X4 X5
  step k _ := (Nat.not_lt_zero _ (Nat.lt_of_lt_of_eq k.isLt (trips2 i))).elim

end Loops

/-- The body on its staging buffers and logit buffers: it keeps the four input blocks, and leaves the output block and
    the logit buffers at some contents. -/
theorem kernelRun (X3 : Bf (F := F) c arg3) (X4 : Bf (F := F) c arg4) (X5 : Bf (F := F) c arg5) (X6 : Bf (F := F) c arg6)
    (Q : PUnit → sProp 𝕄) :
    iprop(pt c arg3 X3 ∗ pt c arg6 X6 ∗ (∃ f, pt c arg7 f) ∗ loopRes c arg4 arg5 arg8 arg9 arg10 arg11 arg12 arg13 arg14 arg15 arg16 arg17 arg18 arg19 arg20 arg21 arg22 arg23 X4 X5
      ∗ (iprop(pt c arg3 X3 ∗ pt c arg6 X6 ∗ (∃ f, pt c arg7 f) ∗ loopRes c arg4 arg5 arg8 arg9 arg10 arg11 arg12 arg13 arg14 arg15 arg16 arg17 arg18 arg19 arg20 arg21 arg22 arg23 X4 X5) -∗ Q ⟨⟩))
    ⊢ wp frame (wpE (defs₀ (F := F)) 𝒱₀ c none) Set.univ (cc0_mb_attn (F := F) i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23) Q := by
  unfold loopRes scratch
  iintro ⟨H3, H6, ⟨%f7, H7⟩, ⟨H4, H5, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩⟩, Hk⟩
  by_cases hc : k0_cond1 i = 1#1
  all_goals
    sl_exec_parts
    sl_step
    iapply Hk
    sl_close

section Launch

variable (m : (ℓ : Loc nD τ sig) → Buf (Elt F) ℓ) (ρ : Dev nD → PrngReg)

/-- The output's window, forgotten: the frame reads nothing of what the kernel leaves in it. -/
def forgets : Fin 5 → Bool := fun w => decide (w = 4)

/-- The proof data on core `c`: the arrays as the region finds them; each input's staging buffer left at its block, the
    output's unnamed; the invariant the scratch at anything; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d

/-- What the body is called with at point `t`, and what it returns: the input blocks owned as fetched, the output at
    anything, the scratch at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

theorem pt_whole (c : Dev nD) (b : Ref sig .tc) : (iprop(∃ f : Buf (Elt F) ((c : Thread nD τ).loc b), ((c : Thread nD τ).loc b) ↦{fullShare} f) : sProp 𝕄)
    = iprop(∃ f, pt c (Memref.whole b) f) := by
  exact congrArg (fun S => (iprop(∃ f : Buf (Elt F) ((c : Thread nD τ).loc b), ((c : Thread nD τ).loc b) ↦[S]{fullShare} f) : sProp 𝕄)) (View.set_whole b).symm

/-- The scratch of the kernel, one logit buffer after the other. -/
theorem scratch_eq (c : Dev nD) : (Pipeline.scopedRest (Ix := Unit) (Name := ℕ) (U := UR sig nD τ) (Lvl := ℕ) (Val := Elt F) spec0 c : sProp 𝕄)
    = scratch c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) := by
  rw [scopedRest0_eq]
  iterate 15 refine congrArg₂ BIBase.sep (pt_whole c _) ?_
  exact pt_whole c _

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scratch_eq]
  unfold owns
  iintro ⟨⟨HS, Hg⟩, HO, ⟨%_, %X3, %e3, H3⟩, ⟨%_, %X4, %e4, H4⟩, ⟨%_, %X5, %e5, H5⟩, ⟨%_, %X6, %e6, H6⟩, ⟨%d, %X7, %e7, H7⟩⟩
  iapply (kernelRun (F := F) c (grid0.coords t) _ _ _ _ _ _ _ _ _ _ _ _ _ _ _ _ _ _ _ _ _ _ _ _ _ _ _ _ _ _ _ _ _ _ _ _ _ _ _ _ _ _ X3 X4 X5 X6 _)
  isplitl [H3]; · iexact H3
  isplitl [H6]; · iexact H6
  isplitl [H7]; · iexists X7; iexact H7
  isplitl [H4 H5 HS]
  · isplitl [H4]; · iexact H4
    isplitl [H5]; · iexact H5
    iexact HS
  iintro ⟨H3, H6, ⟨%f7, H7⟩, H4, H5, HS⟩
  isplitl [HS Hg]
  · isplitl [HS]; · iexact HS
    iexact Hg
  isplitl [HO]; · iexact HO
  isplitl [H3]; · iexists X3; isplitr; · ipureintro; exact e3
                  iexact H3
  isplitl [H4]; · iexists X4; isplitr; · ipureintro; exact e4
                  iexact H4
  isplitl [H5]; · iexists X5; isplitr; · ipureintro; exact e5
                  iexact H5
  isplitl [H6]; · iexists X6; isplitr; · ipureintro; exact e6
                  iexact H6
  iexists _, f7; isplitr; · ipureintro; rfl
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ forgets := fun t => by
  rw [bigSep_W0, bigSep_W0, defs₀_row]
  exact triple_restated (sound_body m c t) rfl .rfl fun _ => .rfl

/-- From any memory with zero counters every weakly fair execution of @main terminates; every buffer the region does not
    stage ends as the region found it, and every counter ends at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
    (run_main m ρ)

end Launch

end Cert.Proof.Kernel

end
-- ==== Proof.Head.lean ====
/- One head of one query block, as a function of the blocks the kernel's point holds: the windows of those blocks, the
   logits of a key block, the step over four key blocks, and the carried maximum and accumulator after each group of
   four. -/
module

public import proofs.«01_k».proof.Defs
public import proofs.«01_k».proof.Proof.Gen.KernelIdeal.Skeleton
public import Idealize.ShloMosaic.Lib.Pipeline.Value

@[expose] public section

noncomputable section

namespace Cert.Proof.Head

open Cert.KernelIdeal Cert.KernelIdeal.Gen
open Idealize.ShloMosaic Idealize.ShloMosaic.TcCoe

variable {F : FTy → Type} [FloatOps F] [Named F]

section Windows

theorem kwin_inb (c : Fin 2) (j : ℕ) : ∀ a, (![min j 31 * 256, 256 * c.val] : Fin 2 → ℕ) a + S256x256.size a ≤ S8192x512.size a := by
  intro a; have := c.isLt
  match a with
  | ⟨0, _⟩ => show min j 31 * 256 + 256 ≤ 8192; omega
  | ⟨1, _⟩ => show 256 * c.val + 256 ≤ 512; omega

theorem kown_inb (c : Fin 2) (j : ℕ) : ∀ a, (![min j 31 * 256, 256 * c.val] : Fin 2 → ℕ) a + S256x128.size a ≤ S8192x512.size a := by
  intro a; have := c.isLt
  match a with
  | ⟨0, _⟩ => show min j 31 * 256 + 256 ≤ 8192; omega
  | ⟨1, _⟩ => show 256 * c.val + 128 ≤ 512; omega

theorem qwin_inb (c : Fin 2) : ∀ a, (![0, 128 * c.val] : Fin 2 → ℕ) a + S256x128.size a ≤ S256x256.size a := by
  intro a; have := c.isLt
  match a with
  | ⟨0, _⟩ => show 0 + 256 ≤ 256; omega
  | ⟨1, _⟩ => show 128 * c.val + 128 ≤ 256; omega

theorem mwin_inb (c : Fin 2) : ∀ a, (![0, 0, 128 * c.val] : Fin 3 → ℕ) a + S32x1x128.size a ≤ S32x1x256.size a := by
  intro a; have := c.isLt
  match a with
  | ⟨0, _⟩ => show 0 + 32 ≤ 32; omega
  | ⟨1, _⟩ => show 0 + 1 ≤ 1; omega
  | ⟨2, _⟩ => show 128 * c.val + 128 ≤ 256; omega

theorem vwin_inb (c : Fin 2) (j : ℕ) : ∀ a, (![min j 31, 144 * c.val, 0] : Fin 3 → ℕ) a + S1x144x256.size a ≤ S32x288x256.size a := by
  intro a; have := c.isLt
  match a with
  | ⟨0, _⟩ => show min j 31 + 1 ≤ 32; omega
  | ⟨1, _⟩ => show 144 * c.val + 144 ≤ 288; omega
  | ⟨2, _⟩ => show 0 + 256 ≤ 256; omega

/-- The keys of block `j` beside its one-hot rows, of head `c` of the point's two. -/
def kwin (K : Vec F S8192x512 .bf16) (c : Fin 2) (j : ℕ) : Vec F S256x256 .bf16 :=
  View.ld K (Rect.unit ![min j 31 * 256, 256 * c.val] S256x256.size (kwin_inb c j))
/-- The keys of block `j` alone. -/
def kown (K : Vec F S8192x512 .bf16) (c : Fin 2) (j : ℕ) : Vec F S256x128 .bf16 :=
  View.ld K (Rect.unit ![min j 31 * 256, 256 * c.val] S256x128.size (kown_inb c j))
/-- The queries of head `c`. -/
def qwin (Q : Vec F S256x256 .bf16) (c : Fin 2) : Vec F S256x128 .bf16 :=
  View.ld Q (Rect.unit ![0, 128 * c.val] S256x128.size (qwin_inb c))
/-- The blocks' mean keys of head `c`. -/
def mwin (M : Vec F S32x1x256 .f32) (c : Fin 2) : Vec F S32x1x128 .f32 :=
  View.ld M (Rect.unit ![0, 0, 128 * c.val] S32x1x128.size (mwin_inb c))
/-- The values of block `j`, transposed, above its rows of ones. -/
def vwin (W : Vec F S32x288x256 .bf16) (c : Fin 2) (j : ℕ) : Vec F S1x144x256 .bf16 :=
  View.ld W (Rect.unit ![min j 31, 144 * c.val, 0] S1x144x256.size (vwin_inb c j))

end Windows

/-- The logits of one key block (its rows are keys) from the augmented queries. -/
def fill (qa kk : Vec F S256x256 .bf16) : Vec F S256x256 .f32 := k0_pay2 qa kk

/-- The running maximum after four blocks of logits. -/
def stepM (m : Vec F S1x256 .f32) (b : Fin 4 → Vec F S256x256 .f32) : Vec F S1x256 .f32 :=
  k0_pay12 (k0_pay11 m (b 0) (b 1) (b 2)) (b 3)

/-- The accumulator after four blocks of logits `b` and values `w`. -/
def stepA (m : Vec F S1x256 .f32) (a : Vec F S144x256 .f32) (b : Fin 4 → Vec F S256x256 .f32)
    (w : Fin 4 → Vec F S1x144x256 .bf16) : Vec F S144x256 .f32 :=
  k0_pay16 m a (stepM m b) (k0_pay13 (k0_pay11 m (b 0) (b 1) (b 2)) (b 3) (b 0) (b 1) (b 2) (b 3))
    (k0_pay14 (w 0)) (k0_pay15 (w 1)) (w 2) (w 3)

/-- The maximum of the own block's causal logits. -/
def m0 (q ko : Vec F S256x128 .bf16) : Vec F S1x256 .f32 := k0_pay101 q ko
/-- The own block's accumulator. -/
def a0 (q ko : Vec F S256x128 .bf16) (w : Vec F S1x144x256 .bf16) : Vec F S144x256 .f32 :=
  k0_pay104 (k0_pay102 q ko) k0_pay103 w

/-- The blocks' numbers, one row each. -/
abbrev blk : IVec S32x256 32 := iota .tc S32x256 32 [0] iota_S32x256_d0_w32

/-- The queries beside their bias, one column per block: 0 at the selected blocks, −∞ at the others. -/
def qaug (n : ℕ) (q : Vec F S256x128 .bf16) (km : Vec F S32x1x128 .f32) : Vec F S256x256 .bf16 :=
  k0_pay113 (BitVec.ofNat 32 n) blk (k0_pay95 q) (k0_pay110 (BitVec.ofNat 32 n) blk (k0_pay99 q km))
    (k0_pay111 (BitVec.ofNat 32 n) blk (k0_pay99 q km)) (k0_pay112 (BitVec.ofNat 32 n) blk (k0_pay99 q km))

section Head

/-- The logits of key block `j`, from the augmented queries `x`. -/
def lg (x : Vec F S256x256 .bf16) (K : Vec F S8192x512 .bf16) (c : Fin 2) (j : ℕ) : Vec F S256x256 .f32 := fill x (kwin K c j)

/-- The maximum and the accumulator carried from `s` through `g` groups of four blocks. -/
def car (x : Vec F S256x256 .bf16) (K : Vec F S8192x512 .bf16) (W : Vec F S32x288x256 .bf16) (c : Fin 2)
    (s : Vec F S1x256 .f32 × Vec F S144x256 .f32) : ℕ → Vec F S1x256 .f32 × Vec F S144x256 .f32
  | 0 => s
  | g + 1 => (stepM (car x K W c s g).1 (fun a => lg x K c (4 * g + a.val)),
      stepA (car x K W c s g).1 (car x K W c s g).2 (fun a => lg x K c (4 * g + a.val)) (fun a => vwin W c (4 * g + a.val)))

variable (n : ℕ) (Q : Vec F S256x256 .bf16) (K : Vec F S8192x512 .bf16) (W : Vec F S32x288x256 .bf16)
  (M : Vec F S32x1x256 .f32) (c : Fin 2)

/-- The augmented queries of head `c`. -/
def qa : Vec F S256x256 .bf16 := qaug n (qwin Q c) (mwin M c)

/-- What head `c` starts from: its own block. -/
def own : Vec F S1x256 .f32 × Vec F S144x256 .f32 :=
  (m0 (qwin Q c) (kown K c n), a0 (qwin Q c) (kown K c n) (vwin W c n))

/-- The head's output rows: the accumulated values over the accumulated weights. -/
def headOut : Vec F S256x128 .bf16 := k0_pay132 (car (qa n Q M c) K W c (own n Q K W c) ((n + 3) / 4)).2

/-- The point's output block: the two heads' columns side by side. -/
def outB : Vec F S256x256 .bf16 := fun y =>
  headOut n Q K W M ⟨(y 1).val / 128, Nat.div_lt_of_lt_mul (y 1).isLt⟩
    (Fin.cons (y 0) (Fin.cons ⟨(y 1).val % 128, Nat.mod_lt _ (by decide)⟩ finZeroElim))

end Head

/-- A load through a rectangle depends on its offsets alone. -/
theorem ld_congr {S : Shape} {e : EltTy} {Val : EltTy → Type} (X : S.Idx → Val e) {off off' size : Fin S.rank → ℕ} (h : off = off')
    (inb : ∀ a, off a + size a ≤ S.size a) (inb' : ∀ a, off' a + size a ≤ S.size a) :
    View.ld X (Rect.unit off size inb) = View.ld X (Rect.unit off' size inb') := by subst h; rfl

theorem hz : (![0, 0] : Fin 2 → ℕ) = fun _ => 0 := funext fun a => by fin_cases a <;> rfl

/-- A store over a whole memref, read back. -/
theorem read_put {S : Shape} {e : EltTy} {sp : Space} {sig : RefSig} {κ : Kind} {Val : EltTy → Type} [∀ e, Nonempty (Val e)]
    (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩), View.canon_unit_zero h]

/-- Two groups on, from the blocks and windows in whatever form they were read. -/
theorem car_two (x : Vec F S256x256 .bf16) (K : Vec F S8192x512 .bf16) (W : Vec F S32x288x256 .bf16) (c : Fin 2)
    (s : Vec F S1x256 .f32 × Vec F S144x256 .f32) (g : ℕ) {b b' : Fin 4 → Vec F S256x256 .f32} {w w' : Fin 4 → Vec F S1x144x256 .bf16}
    (hb : ∀ a, b a = lg x K c (8 * g + a.val)) (hb' : ∀ a, b' a = lg x K c (8 * g + 4 + a.val))
    (hw : ∀ a, w a = vwin W c (8 * g + a.val)) (hw' : ∀ a, w' a = vwin W c (8 * g + 4 + a.val)) :
    (stepM (stepM (car x K W c s (2 * g)).1 b) b',
      stepA (stepM (car x K W c s (2 * g)).1 b) (stepA (car x K W c s (2 * g)).1 (car x K W c s (2 * g)).2 b w) b' w')
      = car x K W c s (2 * (g + 1)) := by
  rw [show 2 * (g + 1) = 2 * g + 1 + 1 from by ring]
  simp only [car]
  rw [show 4 * (2 * g) = 8 * g from by ring, show 4 * (2 * g + 1) = 8 * g + 4 from by ring, ← funext hb, ← funext hb', ← funext hw, ← funext hw']

/-- One group on. -/
theorem car_one (x : Vec F S256x256 .bf16) (K : Vec F S8192x512 .bf16) (W : Vec F S32x288x256 .bf16) (c : Fin 2)
    (s : Vec F S1x256 .f32 × Vec F S144x256 .f32) (g : ℕ) {b : Fin 4 → Vec F S256x256 .f32} {w : Fin 4 → Vec F S1x144x256 .bf16}
    (hb : ∀ a, b a = lg x K c (8 * g + a.val)) (hw : ∀ a, w a = vwin W c (8 * g + a.val)) :
    (stepM (car x K W c s (2 * g)).1 b, stepA (car x K W c s (2 * g)).1 (car x K W c s (2 * g)).2 b w) = car x K W c s (2 * g + 1) := by
  simp only [car]
  rw [show 4 * (2 * g) = 8 * g from by ring, ← funext hb, ← funext hw]

end Cert.Proof.Head

end
-- ==== Proof.Offsets.lean ====
/- The kernel's computed offsets, as the windows of the blocks they read. -/
module

public import proofs.«01_k».proof.Proof.Head

@[expose] public section

noncomputable section

namespace Cert.Proof.Head

open Cert.KernelIdeal Cert.KernelIdeal.Gen
open Idealize.ShloMosaic Idealize.ShloMosaic.TcCoe

variable {F : FTy → Type} [FloatOps F] [Named F]

section Loop

variable (i : grid0.Coords) (t : Fin (k0_t1_loop i).trips) (K : Vec F S8192x512 .bf16) (W : Vec F S32x288x256 .bf16)

theorem trips_lt : t.val < 4 := lt_of_lt_of_le t.isLt (k0_t1_abs i).2.1

theorem keyRow : ∀ (t : Fin 4) (r₁ : Fin 2) (r₂ : Fin 4), (Scalar.muli (Scalar.minsi (Scalar.addi (Scalar.addi
    (Scalar.muli 8#32 (Scf.iv 0#32 1#32 t.val)) (BitVec.ofNat 32 (4 + 4 * r₁.val))) (BitVec.ofNat 32 r₂.val)) 31#32) 256#32).toNat
      = min (8 * t.val + (4 + 4 * r₁.val) + r₂.val) 31 * 256 := by decide +kernel

theorem keyX : ∀ (t : Fin 4) (r : Fin 4), (Scalar.addi (Scalar.muli 8#32 (Scf.iv 0#32 1#32 t.val)) (BitVec.ofNat 32 r.val)).toNat
      = min (8 * t.val + r.val) 31 := by decide +kernel

theorem keyY : ∀ (t : Fin 4) (r : Fin 4), (Scalar.addi (Scalar.addi (Scalar.muli 8#32 (Scf.iv 0#32 1#32 t.val)) 4#32)
      (BitVec.ofNat 32 r.val)).toNat = min (8 * t.val + 4 + r.val) 31 := by decide +kernel

theorem ld7 (r₁ : Fin 2) (r₂ : Fin 4) : View.ld K (Rect.unit (s := S8192x512) (k0_off7 i t (BitVec.ofNat 32 (4 + 4 * r₁.val)) (BitVec.ofNat 32 r₂.val))
    S256x256.size (k0_off7_inb i t r₁ r₂)) = kwin K 0 (8 * t.val + (4 + 4 * r₁.val) + r₂.val) :=
  ld_congr K (congrArg (fun x => ![x, 0]) (keyRow ⟨t.val, trips_lt i t⟩ r₁ r₂)) _ _

theorem ld8 (r₁ : Fin 2) (r₂ : Fin 4) : View.ld K (Rect.unit (s := S8192x512) (k0_off8 i t (BitVec.ofNat 32 (4 + 4 * r₁.val)) (BitVec.ofNat 32 r₂.val))
    S256x256.size (k0_off8_inb i t r₁ r₂)) = kwin K 1 (8 * t.val + (4 + 4 * r₁.val) + r₂.val) :=
  ld_congr K (congrArg (fun x => ![x, 256]) (keyRow ⟨t.val, trips_lt i t⟩ r₁ r₂)) _ _

theorem ld9 (r : Fin 4) : View.ld W (Rect.unit (s := S32x288x256) (k0_off9 i t (BitVec.ofNat 32 r.val)) S1x144x256.size (k0_off9_inb i t r))
    = vwin W 0 (8 * t.val + r.val) :=
  ld_congr W (congrArg (fun x => ![x, 0, 0]) (keyX ⟨t.val, trips_lt i t⟩ r)) _ _

theorem ld10 (r : Fin 4) : View.ld W (Rect.unit (s := S32x288x256) (k0_off10 i t (BitVec.ofNat 32 r.val)) S1x144x256.size (k0_off10_inb i t r))
    = vwin W 1 (8 * t.val + r.val) :=
  ld_congr W (congrArg (fun x => ![x, 144, 0]) (keyX ⟨t.val, trips_lt i t⟩ r)) _ _

theorem ld11 (r : Fin 4) : View.ld W (Rect.unit (s := S32x288x256) (k0_off11 i t (BitVec.ofNat 32 r.val)) S1x144x256.size (k0_off11_inb i t r))
    = vwin W 0 (8 * t.val + 4 + r.val) :=
  ld_congr W (congrArg (fun x => ![x, 0, 0]) (keyY ⟨t.val, trips_lt i t⟩ r)) _ _

theorem ld12 (r : Fin 4) : View.ld W (Rect.unit (s := S32x288x256) (k0_off12 i t (BitVec.ofNat 32 r.val)) S1x144x256.size (k0_off12_inb i t r))
    = vwin W 1 (8 * t.val + 4 + r.val) :=
  ld_congr W (congrArg (fun x => ![x, 144, 0]) (keyY ⟨t.val, trips_lt i t⟩ r)) _ _

end Loop

section Body

variable (i : grid0.Coords) (K : Vec F S8192x512 .bf16) (W : Vec F S32x288x256 .bf16)

/-- The grid point of block `n` (of the first batch's first heads), to read off what depends on the block alone. -/
abbrev at0 (n : Fin 32) : grid0.Coords := grid0.coords ⟨n.val, by have := n.isLt; show n.val < 256; omega⟩

theorem at0_two : ∀ n : Fin 32, ((at0 n) 2).val = n.val := by decide +kernel

theorem off1 : k0_off1 i = ![min (i 2).val 31 * 256, 0] := by
  have key : ∀ n : Fin 32, k0_off1 (at0 n) = ![min n.val 31 * 256, 0] := by decide +kernel
  have h := key (i 2); unfold k0_off1 at h ⊢; rw [at0_two (i 2)] at h; exact h

theorem off2 : k0_off2 i = ![min (i 2).val 31 * 256, 256] := by
  have key : ∀ n : Fin 32, k0_off2 (at0 n) = ![min n.val 31 * 256, 256] := by decide +kernel
  have h := key (i 2); unfold k0_off2 at h ⊢; rw [at0_two (i 2)] at h; exact h

theorem off3 : k0_off3 i = ![min (i 2).val 31, 0, 0] := by
  have key : ∀ n : Fin 32, k0_off3 (at0 n) = ![min n.val 31, 0, 0] := by decide +kernel
  have h := key (i 2); unfold k0_off3 at h ⊢; rw [at0_two (i 2)] at h; exact h

theorem off4 : k0_off4 i = ![min (i 2).val 31, 144, 0] := by
  have key : ∀ n : Fin 32, k0_off4 (at0 n) = ![min n.val 31, 144, 0] := by decide +kernel
  have h := key (i 2); unfold k0_off4 at h ⊢; rw [at0_two (i 2)] at h; exact h

theorem off19 (r : Fin 4) : k0_off19 i (BitVec.ofNat 32 r.val) = ![min (8 * (((i 2).val + 3) / 4 / 2) + r.val) 31, 0, 0]
    ∨ ((i 2).val + 3) / 4 % 2 = 0 := by
  have key : ∀ (n : Fin 32) (r : Fin 4), k0_off19 (at0 n) (BitVec.ofNat 32 r.val) = ![min (8 * ((n.val + 3) / 4 / 2) + r.val) 31, 0, 0] ∨ (n.val + 3) / 4 % 2 = 0 := by decide +kernel
  have h := key (i 2) r; unfold k0_off19 at h ⊢; rw [at0_two (i 2)] at h; exact h

theorem off20 (r : Fin 4) : k0_off20 i (BitVec.ofNat 32 r.val) = ![min (8 * (((i 2).val + 3) / 4 / 2) + r.val) 31, 144, 0]
    ∨ ((i 2).val + 3) / 4 % 2 = 0 := by
  have key : ∀ (n : Fin 32) (r : Fin 4), k0_off20 (at0 n) (BitVec.ofNat 32 r.val) = ![min (8 * ((n.val + 3) / 4 / 2) + r.val) 31, 144, 0] ∨ (n.val + 3) / 4 % 2 = 0 := by decide +kernel
  have h := key (i 2) r; unfold k0_off20 at h ⊢; rw [at0_two (i 2)] at h; exact h

/-- The conditional runs its first branch where the number of groups is odd. -/
theorem cond_iff : k0_cond1 i = 1#1 ↔ ((i 2).val + 3) / 4 % 2 = 1 := by
  have key : ∀ n : Fin 32, k0_cond1 (at0 n) = 1#1 ↔ (n.val + 3) / 4 % 2 = 1 := by decide +kernel
  have h := key (i 2); unfold k0_cond1 at h ⊢; rw [at0_two (i 2)] at h; exact h

theorem trips1 : (k0_t1_loop i).trips = ((i 2).val + 3) / 4 / 2 := by
  have key : ∀ n : Fin 32, (k0_t1_loop (at0 n)).trips = (n.val + 3) / 4 / 2 := by decide +kernel
  have h := key (i 2); unfold k0_t1_loop at h ⊢; rw [at0_two (i 2)] at h; exact h

/-- The remainder loop runs no trip: the main loop's step is one. -/
theorem trips2 : (k0_t2_loop i).trips = 0 := by
  have key : ∀ n : Fin 32, (k0_t2_loop (at0 n)).trips = 0 := by decide +kernel
  have h := key (i 2); unfold k0_t2_loop at h ⊢; rw [at0_two (i 2)] at h; exact h

theorem ld1 : View.ld K (Rect.unit (s := S8192x512) (k0_off1 i) S256x128.size (k0_off1_inb i)) = kown K 0 (i 2).val := ld_congr K (off1 i) _ _
theorem ld2 : View.ld K (Rect.unit (s := S8192x512) (k0_off2 i) S256x128.size (k0_off2_inb i)) = kown K 1 (i 2).val := ld_congr K (off2 i) _ _
theorem ld3 : View.ld W (Rect.unit (s := S32x288x256) (k0_off3 i) S1x144x256.size (k0_off3_inb i)) = vwin W 0 (i 2).val := ld_congr W (off3 i) _ _
theorem ld4 : View.ld W (Rect.unit (s := S32x288x256) (k0_off4 i) S1x144x256.size (k0_off4_inb i)) = vwin W 1 (i 2).val := ld_congr W (off4 i) _ _
theorem ld5 (r : Fin 4) : View.ld K (Rect.unit (s := S8192x512) (k0_off5 (BitVec.ofNat 32 r.val)) S256x256.size (k0_off5_inb r)) = kwin K 0 r.val :=
  ld_congr K (by revert r; decide +kernel) _ _
theorem ld6 (r : Fin 4) : View.ld K (Rect.unit (s := S8192x512) (k0_off6 (BitVec.ofNat 32 r.val)) S256x256.size (k0_off6_inb r)) = kwin K 1 r.val :=
  ld_congr K (by revert r; decide +kernel) _ _
theorem ld19 (h : k0_cond1 i = 1#1) (r : Fin 4) : View.ld W (Rect.unit (s := S32x288x256) (k0_off19 i (BitVec.ofNat 32 r.val)) S1x144x256.size
    (k0_off19_inb i h r)) = vwin W 0 (8 * (((i 2).val + 3) / 4 / 2) + r.val) :=
  ld_congr W ((off19 i r).resolve_right (by have := (cond_iff i).mp h; omega)) _ _
theorem ld20 (h : k0_cond1 i = 1#1) (r : Fin 4) : View.ld W (Rect.unit (s := S32x288x256) (k0_off20 i (BitVec.ofNat 32 r.val)) S1x144x256.size
    (k0_off20_inb i h r)) = vwin W 1 (8 * (((i 2).val + 3) / 4 / 2) + r.val) :=
  ld_congr W ((off20 i r).resolve_right (by have := (cond_iff i).mp h; omega)) _ _

end Body

end Cert.Proof.Head

end
-- ==== Proof.KernelIdealRun.lean ====
/- The run of the attention kernel at any instance: one trip of its loop moves the two heads two groups on
   (`trip`), the body leaves the output block of its input blocks (`kernelRun`), and the launch writes one block per
   grid point (`run_main`, `frame`). -/
module

public import proofs.«01_k».proof.Defs
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Offsets
public import Idealize.ShloMosaic.Lib.Exec
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Head
open Idealize.ShloMosaic.Pipeline (Dat Cfg Window BodyObligation)

variable {F : FTy → Type} [FloatOps F] [Named F]

/-- The algebra of the runs below: the frame kit's. -/
abbrev UU (nD : Nat) (τ : Topo) : Type := UR sig nD τ
abbrev 𝒱₀ : Variants := Variants.none

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

variable (c : Dev nD) (i : grid0.Coords)
  (arg3 : Memref sig .tc .vmem S256x256 .bf16) (harg3 : arg3.IsWhole)
  (arg4 : Memref sig .tc .vmem S8192x512 .bf16) (harg4 : arg4.IsWhole)
  (arg5 : Memref sig .tc .vmem S32x288x256 .bf16) (harg5 : arg5.IsWhole)
  (arg6 : Memref sig .tc .vmem S32x1x256 .f32) (harg6 : arg6.IsWhole)
  (arg7 : Memref sig .tc .vmem S256x256 .bf16) (harg7 : arg7.IsWhole)
  (arg8 : Memref sig .tc .vmem S256x256 .f32) (harg8 : arg8.IsWhole)
  (arg9 : Memref sig .tc .vmem S256x256 .f32) (harg9 : arg9.IsWhole)
  (arg10 : Memref sig .tc .vmem S256x256 .f32) (harg10 : arg10.IsWhole)
  (arg11 : Memref sig .tc .vmem S256x256 .f32) (harg11 : arg11.IsWhole)
  (arg12 : Memref sig .tc .vmem S256x256 .f32) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S256x256 .f32) (harg15 : arg15.IsWhole)
  (arg16 : Memref sig .tc .vmem S256x256 .f32) (harg16 : arg16.IsWhole)
  (arg17 : Memref sig .tc .vmem S256x256 .f32) (harg17 : arg17.IsWhole)
  (arg18 : Memref sig .tc .vmem S256x256 .f32) (harg18 : arg18.IsWhole)
  (arg19 : Memref sig .tc .vmem S256x256 .f32) (harg19 : arg19.IsWhole)
  (arg20 : Memref sig .tc .vmem S256x256 .f32) (harg20 : arg20.IsWhole)
  (arg21 : Memref sig .tc .vmem S256x256 .f32) (harg21 : arg21.IsWhole)
  (arg22 : Memref sig .tc .vmem S256x256 .f32) (harg22 : arg22.IsWhole)
  (arg23 : Memref sig .tc .vmem S256x256 .f32) (harg23 : arg23.IsWhole)

/-- Memref `M` held whole, reading `d`. -/
abbrev rd (c : Dev nD) {sp : Space} {S : Shape} {e : EltTy} (M : Memref sig .tc sp S e) (d : Vec F S e) : sProp 𝕄 :=
  iprop(∃ f : Bf (F := F) c M, pt c M f ∗ ⌜M.view.read (Elt F) f = d⌝)

/-- The sixteen logit buffers at anything. -/
abbrev scratch : sProp 𝕄 :=
  iprop((∃ f, pt c arg8 f) ∗ (∃ f, pt c arg9 f) ∗ (∃ f, pt c arg10 f) ∗ (∃ f, pt c arg11 f) ∗ (∃ f, pt c arg12 f) ∗ (∃ f, pt c arg13 f)
    ∗ (∃ f, pt c arg14 f) ∗ (∃ f, pt c arg15 f) ∗ (∃ f, pt c arg16 f) ∗ (∃ f, pt c arg17 f) ∗ (∃ f, pt c arg18 f) ∗ (∃ f, pt c arg19 f)
    ∗ (∃ f, pt c arg20 f) ∗ (∃ f, pt c arg21 f) ∗ (∃ f, pt c arg22 f) ∗ (∃ f, pt c arg23 f))

/-- The four carried values, from the two heads' pairs. -/
abbrev four (a b : FVec F S1x256 .f32 × FVec F S144x256 .f32) : FVec F S1x256 .f32 × FVec F S144x256 .f32 × FVec F S1x256 .f32 × FVec F S144x256 .f32 :=
  (a.1, a.2, b.1, b.2)

/-- What both loops touch: the key block and the value block at their contents, the first set of logit buffers at the
    logits of the four key blocks from `j` on, the second set at anything. -/
abbrev loopRes (x0 x1 : FVec F S256x256 .bf16) (X4 : Bf (F := F) c arg4) (X5 : Bf (F := F) c arg5) (j : ℕ) : sProp 𝕄 :=
  iprop(pt c arg4 X4 ∗ pt c arg5 X5 ∗ rd c arg8 (lg x0 (arg4.view.read (Elt F) X4) 0 (j + 0)) ∗ rd c arg9 (lg x0 (arg4.view.read (Elt F) X4) 0 (j + 1)) ∗ rd c arg10 (lg x0 (arg4.view.read (Elt F) X4) 0 (j + 2)) ∗ rd c arg11 (lg x0 (arg4.view.read (Elt F) X4) 0 (j + 3)) ∗ rd c arg16 (lg x1 (arg4.view.read (Elt F) X4) 1 (j + 0)) ∗ rd c arg17 (lg x1 (arg4.view.read (Elt F) X4) 1 (j + 1)) ∗ rd c arg18 (lg x1 (arg4.view.read (Elt F) X4) 1 (j + 2)) ∗ rd c arg19 (lg x1 (arg4.view.read (Elt F) X4) 1 (j + 3))
    ∗ (∃ f, pt c arg12 f) ∗ (∃ f, pt c arg13 f) ∗ (∃ f, pt c arg14 f) ∗ (∃ f, pt c arg15 f) ∗ (∃ f, pt c arg20 f) ∗ (∃ f, pt c arg21 f) ∗ (∃ f, pt c arg22 f) ∗ (∃ f, pt c arg23 f))

section Loops

variable (X4 : Bf (F := F) c arg4) (X5 : Bf (F := F) c arg5)
  (v32 : FVec F S1x256 .f32) (v42 : FVec F S144x256 .f32) (v44 : FVec F S1x256 .f32) (v54 : FVec F S144x256 .f32)
  (v116 v178 : FVec F S256x256 .bf16) (v196 c2_i32_114 v277 v279 v298 : BitVec 32)
  (init : FVec F S1x256 .f32 × FVec F S144x256 .f32 × FVec F S1x256 .f32 × FVec F S144x256 .f32)

/-- The main loop's resources before trip `k`, and the values it carries there. -/
abbrev inv1 (k : ℕ) (acc : FVec F S1x256 .f32 × FVec F S144x256 .f32 × FVec F S1x256 .f32 × FVec F S144x256 .f32) : sProp 𝕄 :=
  iprop(loopRes c arg4 arg5 arg8 arg9 arg10 arg11 arg12 arg13 arg14 arg15 arg16 arg17 arg18 arg19 arg20 arg21 arg22 arg23 v116 v178 X4 X5 (8 * k)
    ∗ ⌜acc = four (car v116 (arg4.view.read (Elt F) X4) (arg5.view.read (Elt F) X5) 0 (init.1, init.2.1) (2 * k))
        (car v178 (arg4.view.read (Elt F) X4) (arg5.view.read (Elt F) X5) 1 (init.2.2.1, init.2.2.2) (2 * k))⌝)

set_option maxHeartbeats 1000000 in
/-- One trip of the main loop. -/
theorem trip (k : Fin (k0_t1_loop i).trips) (acc : FVec F S1x256 .f32 × FVec F S144x256 .f32 × FVec F S1x256 .f32 × FVec F S144x256 .f32) :
    (inv1 c arg4 arg5 arg8 arg9 arg10 arg11 arg12 arg13 arg14 arg15 arg16 arg17 arg18 arg19 arg20 arg21 arg22 arg23 X4 X5 v116 v178 init k.val acc : sProp 𝕄)
      ⊢ wp frame (wpE (defs₀ (F := F)) 𝒱₀ c none) Set.univ
        (k0_t1_body (F := F) i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 v32 v42 v44 v54 v116 v178 v196 c2_i32_114 v277 v279 k acc)
        (fun acc' => inv1 c arg4 arg5 arg8 arg9 arg10 arg11 arg12 arg13 arg14 arg15 arg16 arg17 arg18 arg19 arg20 arg21 arg22 arg23 X4 X5 v116 v178 init (k.val + 1) acc') := by
  obtain ⟨a0, a1, a2, a3⟩ := acc
  unfold k0_t1_body inv1 loopRes
  iintro ⟨⟨H4, H5, ⟨%f8, H8, %e8⟩, ⟨%f9, H9, %e9⟩, ⟨%f10, H10, %e10⟩, ⟨%f11, H11, %e11⟩, ⟨%f16, H16, %e16⟩, ⟨%f17, H17, %e17⟩, ⟨%f18, H18, %e18⟩, ⟨%f19, H19, %e19⟩, ⟨%f12, H12⟩, ⟨%f13, H13⟩, ⟨%f14, H14⟩, ⟨%f15, H15⟩, ⟨%f20, H20⟩, ⟨%f21, H21⟩, ⟨%f22, H22⟩, ⟨%f23, H23⟩⟩, %ea⟩
  sl_exec_parts
  sl_step
  isplitl
  · isplitl [H4]; · iexact H4
    isplitl [H5]; · iexact H5
    isplitl [H8]
    · iexists _; isplitl [H8]; · iexact H8
      ipureintro; exact (read_put _ _ hz _ _).trans ((congrArg (fill _) (ld7 i k _ 1 0)).trans (congrArg (lg _ _ _) (by simp; omega)))
    isplitl [H9]
    · iexists _; isplitl [H9]; · iexact H9
      ipureintro; exact (read_put _ _ hz _ _).trans ((congrArg (fill _) (ld7 i k _ 1 1)).trans (congrArg (lg _ _ _) (by simp; omega)))
    isplitl [H10]
    · iexists _; isplitl [H10]; · iexact H10
      ipureintro; exact (read_put _ _ hz _ _).trans ((congrArg (fill _) (ld7 i k _ 1 2)).trans (congrArg (lg _ _ _) (by simp; omega)))
    isplitl [H11]
    · iexists _; isplitl [H11]; · iexact H11
      ipureintro; exact (read_put _ _ hz _ _).trans ((congrArg (fill _) (ld7 i k _ 1 3)).trans (congrArg (lg _ _ _) (by simp; omega)))
    isplitl [H16]
    · iexists _; isplitl [H16]; · iexact H16
      ipureintro; exact (read_put _ _ hz _ _).trans ((congrArg (fill _) (ld8 i k _ 1 0)).trans (congrArg (lg _ _ _) (by simp; omega)))
    isplitl [H17]
    · iexists _; isplitl [H17]; · iexact H17
      ipureintro; exact (read_put _ _ hz _ _).trans ((congrArg (fill _) (ld8 i k _ 1 1)).trans (congrArg (lg _ _ _) (by simp; omega)))
    isplitl [H18]
    · iexists _; isplitl [H18]; · iexact H18
      ipureintro; exact (read_put _ _ hz _ _).trans ((congrArg (fill _) (ld8 i k _ 1 2)).trans (congrArg (lg _ _ _) (by simp; omega)))
    isplitl [H19]
    · iexists _; isplitl [H19]; · iexact H19
      ipureintro; exact (read_put _ _ hz _ _).trans ((congrArg (fill _) (ld8 i k _ 1 3)).trans (congrArg (lg _ _ _) (by simp; omega)))
    isplitl [H12]; · iexists _; iexact H12
    isplitl [H13]; · iexists _; iexact H13
    isplitl [H14]; · iexists _; iexact H14
    isplitl [H15]; · iexists _; iexact H15
    isplitl [H20]; · iexists _; iexact H20
    isplitl [H21]; · iexists _; iexact H21
    isplitl [H22]; · iexists _; iexact H22
    iexists _; iexact H23
  ipureintro
  obtain ⟨rfl, rfl, rfl, rfl⟩ : a0 = _ ∧ a1 = _ ∧ a2 = _ ∧ a3 = _ := by simpa only [four, Prod.mk.injEq] using ea
  sl_unfold_words
  simp only [View.readAt_eq_ld, View.readCov_unit_zero (S := S256x256) _ hz, View.ld_unit_zero (S := S256x256) hz, e8, e9, e10, e11, e16, e17, e18, e19]
  have h0 := car_two (F := F) v116 (arg4.view.read (Elt F) X4) (arg5.view.read (Elt F) X5) 0 (init.1, init.2.1) k.val
    (fun a => rfl) (fun a => congrArg (fill v116) (ld7 i k (arg4.view.read (Elt F) X4) 0 a)) (fun a => ld9 i k _ a) (fun a => ld11 i k _ a)
  have h1 := car_two (F := F) v178 (arg4.view.read (Elt F) X4) (arg5.view.read (Elt F) X5) 1 (init.2.2.1, init.2.2.2) k.val
    (fun a => rfl) (fun a => congrArg (fill v178) (ld8 i k (arg4.view.read (Elt F) X4) 0 a)) (fun a => ld10 i k _ a) (fun a => ld12 i k _ a)
  refine Eq.trans ?_ (congrArg₂ four h0 h1)
  dsimp only [four]
  refine congrArg₂ Prod.mk ?_ (congrArg₂ Prod.mk ?_ (congrArg₂ Prod.mk ?_ ?_))
  all_goals
    clear h0 h1 e8 e9 e10 e11 e16 e17 e18 e19
    rfl

set_option warn.classDefReducibility false in
/-- The main loop's invariant. -/
@[sl_loop] noncomputable def loopInv1 : LoopInvTy_k0_t1 (F := F) Unit ℕ (UU nD τ) ℕ 𝒱₀ c none Set.univ i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23
    v32 v42 v44 v54 v116 v178 v196 c2_i32_114 v277 v279 init where
  inv k acc := inv1 c arg4 arg5 arg8 arg9 arg10 arg11 arg12 arg13 arg14 arg15 arg16 arg17 arg18 arg19 arg20 arg21 arg22 arg23 X4 X5 v116 v178 init k acc
  step k acc := trip c i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23 X4 X5 v32 v42 v44 v54 v116 v178 v196 c2_i32_114 v277 v279 init k acc

set_option warn.classDefReducibility false in
/-- The remainder loop's invariant: what the main loop left. -/
@[sl_loop] noncomputable def loopInv2 : LoopInvTy_k0_t2 (F := F) Unit ℕ (UU nD τ) ℕ 𝒱₀ c none Set.univ i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23
    v32 v42 v44 v54 v116 v178 v196 c2_i32_114 v277 v279 v298 init where
  inv _ acc := iprop(loopRes c arg4 arg5 arg8 arg9 arg10 arg11 arg12 arg13 arg14 arg15 arg16 arg17 arg18 arg19 arg20 arg21 arg22 arg23 v116 v178 X4 X5 (8 * (k0_t1_loop i).trips) ∗ ⌜acc = init⌝)
  step k _ := (Nat.not_lt_zero _ (Nat.lt_of_lt_of_eq k.isLt (Cert.Proof.Head.trips2 i))).elim

end Loops

/-- The logits of a block, from the block in whatever form it was read. -/
theorem lg_of (x : Vec F S256x256 .bf16) {K : Vec F S8192x512 .bf16} {c : Fin 2} {j : ℕ} {k : Vec F S256x256 .bf16} (h : k = kwin K c j) :
    fill x k = lg x K c j := congrArg (fill x) h

/-- Before the first group nothing has changed. -/
theorem car_zero (x0 x1 : Vec F S256x256 .bf16) (K : Vec F S8192x512 .bf16) (W : Vec F S32x288x256 .bf16)
    (a b : FVec F S1x256 .f32 × FVec F S144x256 .f32) : four a b = four (car x0 K W 0 a (2 * 0)) (car x1 K W 1 b (2 * 0)) := rfl

/-- The output block at head `c`'s column. -/
theorem outB_at (n : ℕ) (Q : Vec F S256x256 .bf16) (K : Vec F S8192x512 .bf16) (W : Vec F S32x288x256 .bf16) (M : Vec F S32x1x256 .f32)
    (c : Fin 2) (y : S256x256.Idx) (z : S256x128.Idx) (h0 : (y 0).val = (z 0).val) (h1 : (y 1).val = 128 * c.val + (z 1).val) :
    headOut n Q K W M c z = outB n Q K W M y := by
  have hz1 : (z 1).val < 128 := (z 1).isLt
  unfold outB
  have hc : (⟨(y 1).val / 128, Nat.div_lt_of_lt_mul (y 1).isLt⟩ : Fin 2) = c := Fin.ext (by show (y 1).val / 128 = c.val; omega)
  rw [hc]
  refine congrArg (headOut n Q K W M c) (funext fun a => ?_)
  match a with
  | ⟨0, _⟩ => exact Fin.ext h0.symm
  | ⟨1, _⟩ => exact Fin.ext (by show (z 1).val = (y 1).val % 128; omega)

/-- The output block's two stores, one per head, read back. -/
theorem out_read (n : ℕ) (Q : Vec F S256x256 .bf16) (K : Vec F S8192x512 .bf16) (W : Vec F S32x288x256 .bf16) (M : Vec F S32x1x256 .f32)
    (v : View sig .tc .vmem S256x256 .bf16) (f : v.ty.Contents (Elt F)) (p0 p1 : Vec F S256x128 .bf16)
    (h0 : p0 = headOut n Q K W M 0) (h1 : p1 = headOut n Q K W M 1) :
    v.read (Elt F) (v.writes (Elt F) f [⟨Rect.unit ![0, 128] S256x128.size inb_S256x256_S256x128_0_128, p1⟩,
      ⟨Rect.unit ![0, 0] S256x128.size inb_S256x256_S256x128_0_0, p0⟩]) = outB n Q K W M := by
  subst h0 h1
  funext y
  refine View.read_writes_apply_of_pieces v f (outB n Q K W M) _ ?_ y ?_
  · intro p hp x
    rcases List.mem_cons.mp hp with rfl | hp
    · exact outB_at n Q K W M 1 _ x (by show 0 + 1 * (x 0).val = _; omega) (by show 128 + 1 * (x 1).val = _; have : ((1 : Fin 2).val) = 1 := rfl; omega)
    · obtain rfl := List.mem_singleton.mp hp
      exact outB_at n Q K W M 0 _ x (by show 0 + 1 * (x 0).val = _; omega) (by show 0 + 1 * (x 1).val = _; have : ((0 : Fin 2).val) = 0 := rfl; omega)
  · have h0 : (y 0).val < 256 := (y 0).isLt
    have h1 : (y 1).val < 256 := (y 1).isLt
    by_cases h : (y 1).val < 128
    · refine ⟨_, List.mem_cons_of_mem _ (List.mem_singleton_self _), (Rect.mem_set_unit (inb := inb_S256x256_S256x128_0_0)).mpr fun a => ?_⟩
      match a with
      | ⟨0, _⟩ => exact ⟨Nat.zero_le _, by show (y 0).val < 0 + 256; omega⟩
      | ⟨1, _⟩ => exact ⟨Nat.zero_le _, by show (y 1).val < 0 + 128; omega⟩
    · refine ⟨_, List.mem_cons_self, (Rect.mem_set_unit (inb := inb_S256x256_S256x128_0_128)).mpr fun a => ?_⟩
      match a with
      | ⟨0, _⟩ => exact ⟨Nat.zero_le _, by show (y 0).val < 0 + 256; omega⟩
      | ⟨1, _⟩ => exact ⟨by show 128 ≤ (y 1).val; omega, by show (y 1).val < 128 + 128; omega⟩

seal Cert.Proof.Head.lg Cert.Proof.Head.car

set_option maxHeartbeats 2000000 in
/-- The body on its staging buffers and logit buffers: it keeps the four input blocks, and leaves the output block of
    them and the logit buffers at some contents. -/
theorem kernelRun (X3 : Bf (F := F) c arg3) (X4 : Bf (F := F) c arg4) (X5 : Bf (F := F) c arg5) (X6 : Bf (F := F) c arg6)
    (Q : PUnit → sProp 𝕄) :
    iprop(pt c arg3 X3 ∗ pt c arg6 X6 ∗ (∃ f, pt c arg7 f) ∗ pt c arg4 X4 ∗ pt c arg5 X5 ∗ scratch c arg8 arg9 arg10 arg11 arg12 arg13 arg14 arg15 arg16 arg17 arg18 arg19 arg20 arg21 arg22 arg23
      ∗ (iprop(pt c arg3 X3 ∗ pt c arg6 X6 ∗ rd c arg7 (outB (i 2).val (arg3.view.read (Elt F) X3) (arg4.view.read (Elt F) X4)
          (arg5.view.read (Elt F) X5) (arg6.view.read (Elt F) X6)) ∗ pt c arg4 X4 ∗ pt c arg5 X5 ∗ scratch c arg8 arg9 arg10 arg11 arg12 arg13 arg14 arg15 arg16 arg17 arg18 arg19 arg20 arg21 arg22 arg23) -∗ Q ⟨⟩))
    ⊢ wp frame (wpE (defs₀ (F := F)) 𝒱₀ c none) Set.univ (cc0_mb_attn (F := F) i arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19 arg20 harg20 arg21 harg21 arg22 harg22 arg23 harg23) Q := by
  unfold scratch
  iintro ⟨H3, H6, ⟨%f7, H7⟩, H4, H5, ⟨⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩⟩, Hk⟩
  (set_option sl_exec.stopBefore "k0_part36" in sl_exec_parts)
  have hx0 : kernelRun.sl.r_13 c i arg3 arg6 X3 X6 = qa (i 2).val (arg3.view.read (Elt F) X3) (arg6.view.read (Elt F) X6) 0 := by
    sl_unfold_words
    simp only [View.readAt_eq_ld]
    rfl
  have hx1 : kernelRun.sl.v178 c i arg3 arg6 X3 X6 = qa (i 2).val (arg3.view.read (Elt F) X3) (arg6.view.read (Elt F) X6) 1 := by
    sl_unfold_words
    simp only [View.readAt_eq_ld]
    rfl
  have hs0 : (kernelRun.sl.r_5 c i arg3 arg4 X3 X4, kernelRun.sl.r_7 c i arg3 arg4 arg5 X3 X4 X5) = own (i 2).val (arg3.view.read (Elt F) X3) (arg4.view.read (Elt F) X4) (arg5.view.read (Elt F) X5) 0 := by
    sl_unfold_words
    simp only [View.readAt_eq_ld]
    exact congrArg₂ (fun k w => (k0_pay101 (qwin (arg3.view.read (Elt F) X3) 0) k, k0_pay104 (k0_pay102 (qwin (arg3.view.read (Elt F) X3) 0) k) k0_pay103 w)) (ld1 i (arg4.view.read (Elt F) X4)) (ld3 i (arg5.view.read (Elt F) X5))
  have hs1 : (kernelRun.sl.r_8 c i arg3 arg4 X3 X4, kernelRun.sl.r_9 c i arg3 arg4 arg5 X3 X4 X5) = own (i 2).val (arg3.view.read (Elt F) X3) (arg4.view.read (Elt F) X4) (arg5.view.read (Elt F) X5) 1 := by
    sl_unfold_words
    simp only [View.readAt_eq_ld]
    exact congrArg₂ (fun k w => (k0_pay105 (k0_pay98 (qwin (arg3.view.read (Elt F) X3) 1) k), k0_pay106 (k0_pay98 (qwin (arg3.view.read (Elt F) X3) 1) k) w)) (ld2 i (arg4.view.read (Elt F) X4)) (ld4 i (arg5.view.read (Elt F) X5))
  have e8 : arg8.view.read (Elt F) (arg8.view.writes (Elt F) f8 (kernelRun.sl.H8_1 c i arg3 arg4 arg6 X3 X4 X6)) = lg (kernelRun.sl.r_13 c i arg3 arg6 X3 X6) (arg4.view.read (Elt F) X4) 0 (8 * 0 + 0) :=
    (read_put _ _ hz _ _).trans (lg_of (kernelRun.sl.r_13 c i arg3 arg6 X3 X6) (ld5 (arg4.view.read (Elt F) X4) 0))
  have e9 : arg9.view.read (Elt F) (arg9.view.writes (Elt F) f9 (kernelRun.sl.H9_1 c i arg3 arg4 arg6 X3 X4 X6)) = lg (kernelRun.sl.r_13 c i arg3 arg6 X3 X6) (arg4.view.read (Elt F) X4) 0 (8 * 0 + 1) :=
    (read_put _ _ hz _ _).trans (lg_of (kernelRun.sl.r_13 c i arg3 arg6 X3 X6) (ld5 (arg4.view.read (Elt F) X4) 1))
  have e10 : arg10.view.read (Elt F) (arg10.view.writes (Elt F) f10 (kernelRun.sl.H10_1 c i arg3 arg4 arg6 X3 X4 X6)) = lg (kernelRun.sl.r_13 c i arg3 arg6 X3 X6) (arg4.view.read (Elt F) X4) 0 (8 * 0 + 2) :=
    (read_put _ _ hz _ _).trans (lg_of (kernelRun.sl.r_13 c i arg3 arg6 X3 X6) (ld5 (arg4.view.read (Elt F) X4) 2))
  have e11 : arg11.view.read (Elt F) (arg11.view.writes (Elt F) f11 (kernelRun.sl.H11_1 c i arg3 arg4 arg6 X3 X4 X6)) = lg (kernelRun.sl.r_13 c i arg3 arg6 X3 X6) (arg4.view.read (Elt F) X4) 0 (8 * 0 + 3) :=
    (read_put _ _ hz _ _).trans (lg_of (kernelRun.sl.r_13 c i arg3 arg6 X3 X6) (ld5 (arg4.view.read (Elt F) X4) 3))
  have e16 : arg16.view.read (Elt F) (arg16.view.writes (Elt F) f16 [⟨Rect.unit ![0, 0] S256x256.size inb_S256x256_S256x256_0_0, kernelRun.sl.v246 c i arg3 arg4 arg6 X3 X4 X6⟩]) = lg (kernelRun.sl.v178 c i arg3 arg6 X3 X6) (arg4.view.read (Elt F) X4) 1 (8 * 0 + 0) :=
    (read_put _ _ hz _ _).trans (lg_of (kernelRun.sl.v178 c i arg3 arg6 X3 X6) (ld6 (arg4.view.read (Elt F) X4) 0))
  have e17 : arg17.view.read (Elt F) (arg17.view.writes (Elt F) f17 [⟨Rect.unit ![0, 0] S256x256.size inb_S256x256_S256x256_0_0, kernelRun.sl.v256 c i arg3 arg4 arg6 X3 X4 X6⟩]) = lg (kernelRun.sl.v178 c i arg3 arg6 X3 X6) (arg4.view.read (Elt F) X4) 1 (8 * 0 + 1) :=
    (read_put _ _ hz _ _).trans (lg_of (kernelRun.sl.v178 c i arg3 arg6 X3 X6) (ld6 (arg4.view.read (Elt F) X4) 1))
  have e18 : arg18.view.read (Elt F) (arg18.view.writes (Elt F) f18 [⟨Rect.unit ![0, 0] S256x256.size inb_S256x256_S256x256_0_0, kernelRun.sl.v266 c i arg3 arg4 arg6 X3 X4 X6⟩]) = lg (kernelRun.sl.v178 c i arg3 arg6 X3 X6) (arg4.view.read (Elt F) X4) 1 (8 * 0 + 2) :=
    (read_put _ _ hz _ _).trans (lg_of (kernelRun.sl.v178 c i arg3 arg6 X3 X6) (ld6 (arg4.view.read (Elt F) X4) 2))
  have e19 : arg19.view.read (Elt F) (arg19.view.writes (Elt F) f19 [⟨Rect.unit ![0, 0] S256x256.size inb_S256x256_S256x256_0_0, kernelRun.sl.v276 c i arg3 arg4 arg6 X3 X4 X6⟩]) = lg (kernelRun.sl.v178 c i arg3 arg6 X3 X6) (arg4.view.read (Elt F) X4) 1 (8 * 0 + 3) :=
    (read_put _ _ hz _ _).trans (lg_of (kernelRun.sl.v178 c i arg3 arg6 X3 X6) (ld6 (arg4.view.read (Elt F) X4) 3))
  generalize arg8.view.writes (Elt F) f8 _ = g8 at e8 ⊢
  generalize arg9.view.writes (Elt F) f9 _ = g9 at e9 ⊢
  generalize arg10.view.writes (Elt F) f10 _ = g10 at e10 ⊢
  generalize arg11.view.writes (Elt F) f11 _ = g11 at e11 ⊢
  generalize arg16.view.writes (Elt F) f16 _ = g16 at e16 ⊢
  generalize arg17.view.writes (Elt F) f17 _ = g17 at e17 ⊢
  generalize arg18.view.writes (Elt F) f18 _ = g18 at e18 ⊢
  generalize arg19.view.writes (Elt F) f19 _ = g19 at e19 ⊢
  generalize kernelRun.sl.r_13 c i arg3 arg6 X3 X6 = x0 at *
  generalize kernelRun.sl.v178 c i arg3 arg6 X3 X6 = x1 at *
  generalize kernelRun.sl.r_5 c i arg3 arg4 X3 X4 = m0 at *
  generalize kernelRun.sl.r_7 c i arg3 arg4 arg5 X3 X4 X5 = s0 at *
  generalize kernelRun.sl.r_8 c i arg3 arg4 X3 X4 = m1 at *
  generalize kernelRun.sl.r_9 c i arg3 arg4 arg5 X3 X4 X5 = s1 at *
  have ea : (m0, s0, m1, s1) = four (car x0 (arg4.view.read (Elt F) X4) (arg5.view.read (Elt F) X5) 0 (m0, s0) (2 * 0)) (car x1 (arg4.view.read (Elt F) X4) (arg5.view.read (Elt F) X5) 1 (m1, s1) (2 * 0)) :=
    car_zero x0 x1 _ _ (m0, s0) (m1, s1)
  have hn : ((i 2).val + 3) / 4 = 2 * (k0_t1_loop i).trips + ((i 2).val + 3) / 4 % 2 := by rw [Cert.Proof.Head.trips1]; omega
  by_cases hc : k0_cond1 i = 1#1
  · sl_exec_parts
    sl_step
    iapply Hk
    have hodd := (Cert.Proof.Head.cond_iff i).mp hc
    rw [hodd] at hn
    isplitl [H3]; · iexact H3
    isplitl [H6]; · iexact H6
    isplitl [H7]
    · iexists _; isplitl [H7]; · iexact H7
      ipureintro
      refine out_read _ _ _ _ _ _ _ _ _ ?_ ?_
      · have h := car_one (F := F) x0 (arg4.view.read (Elt F) X4) (arg5.view.read (Elt F) X5) 0 (m0, s0) (k0_t1_loop i).trips (b := fun a => lg x0 (arg4.view.read (Elt F) X4) 0 (8 * (k0_t1_loop i).trips + a.val)) (fun a => rfl)
          (fun a => (ld19 i (arg5.view.read (Elt F) X5) hc a).trans (congrArg (fun j => vwin (arg5.view.read (Elt F) X5) 0 (8 * j + a.val)) (Cert.Proof.Head.trips1 i).symm))
        unfold headOut
        rw [← hx0, ← hs0, hn, ← h]
        sl_unfold_words
        simp only [View.readAt_eq_ld, View.ld_unit_zero (S := S256x256) hz, hL30, hL32, hL34, hL36]
        rfl
      · have h := car_one (F := F) x1 (arg4.view.read (Elt F) X4) (arg5.view.read (Elt F) X5) 1 (m1, s1) (k0_t1_loop i).trips (b := fun a => lg x1 (arg4.view.read (Elt F) X4) 1 (8 * (k0_t1_loop i).trips + a.val)) (fun a => rfl)
          (fun a => (ld20 i (arg5.view.read (Elt F) X5) hc a).trans (congrArg (fun j => vwin (arg5.view.read (Elt F) X5) 1 (8 * j + a.val)) (Cert.Proof.Head.trips1 i).symm))
        unfold headOut
        rw [← hx1, ← hs1, hn, ← h]
        sl_unfold_words
        simp only [View.readAt_eq_ld, View.ld_unit_zero (S := S256x256) hz, hL38, hL40, hL42, hL44]
        rfl
    isplitl [H4]; · iexact H4
    isplitl [H5]; · iexact H5
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23
  · sl_exec_parts
    sl_step
    iapply Hk
    have heven : ((i 2).val + 3) / 4 % 2 = 0 := by
      have := mt (Cert.Proof.Head.cond_iff i).mpr hc; omega
    rw [heven] at hn
    isplitl [H3]; · iexact H3
    isplitl [H6]; · iexact H6
    isplitl [H7]
    · iexists _; isplitl [H7]; · iexact H7
      ipureintro
      refine out_read _ _ _ _ _ _ _ _ _ ?_ ?_
      · unfold headOut
        rw [← hx0, ← hs0, hn]
        sl_unfold_words
        rfl
      · unfold headOut
        rw [← hx1, ← hs1, hn]
        sl_unfold_words
        rfl
    isplitl [H4]; · iexact H4
    isplitl [H5]; · iexact H5
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

section Launch

variable (m : (ℓ : Loc nD τ sig) → Buf (Elt F) ℓ) (ρ : Dev nD → PrngReg)

/-- The output block of point `t`, from its input blocks. -/
def outAt (c : Dev nD) (t : Fin cfg0.N) : Vec F S256x256 .bf16 :=
  outB ((grid0.coords t) 2).val (iblk m c 0 t) (iblk m c 1 t) (iblk m c 2 t) (iblk m c 3 t)

/-- The proof data on core `c`: the arrays as the region finds them; each input's staging buffer left at its block, the
    output's at the point's block; the invariant the scratch at anything; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d

/-- What the body is called with at point `t`, and what it returns: the input blocks owned as fetched, the output at
    anything, the scratch at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem pt_whole (c : Dev nD) (b : Ref sig .tc) : (iprop(∃ f : Buf (Elt F) ((c : Thread nD τ).loc b), ((c : Thread nD τ).loc b) ↦{fullShare} f) : sProp 𝕄)
    = iprop(∃ f, pt c (Memref.whole b) f) := by
  exact congrArg (fun S => (iprop(∃ f : Buf (Elt F) ((c : Thread nD τ).loc b), ((c : Thread nD τ).loc b) ↦[S]{fullShare} f) : sProp 𝕄)) (View.set_whole b).symm

/-- The scratch of the kernel, one logit buffer after the other. -/
theorem scratch_eq (c : Dev nD) : (Pipeline.scopedRest (Ix := Unit) (Name := ℕ) (U := UR sig nD τ) (Lvl := ℕ) (Val := Elt F) spec0 c : sProp 𝕄)
    = scratch c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) := by
  rw [scopedRest0_eq]
  iterate 15 refine congrArg₂ BIBase.sep (pt_whole c _) ?_
  exact pt_whole c _

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scratch_eq]
  unfold owns
  iintro ⟨⟨HS, Hg⟩, HO, ⟨%_, %X3, %e3, H3⟩, ⟨%_, %X4, %e4, H4⟩, ⟨%_, %X5, %e5, H5⟩, ⟨%_, %X6, %e6, H6⟩, ⟨%d, %X7, %e7, H7⟩⟩
  iapply (kernelRun (F := F) c (grid0.coords t) _ _ _ _ _ _ _ _ _ _ _ _ _ _ _ _ _ _ _ _ _ _ _ _ _ _ _ _ _ _ _ _ _ _ _ _ _ _ _ _ _ _ X3 X4 X5 X6 _)
  isplitl [H3]; · iexact H3
  isplitl [H6]; · iexact H6
  isplitl [H7]; · iexists X7; iexact H7
  isplitl [H4]; · iexact H4
  isplitl [H5]; · iexact H5
  isplitl [HS]; · iexact HS
  iintro ⟨H3, H6, ⟨%f7, H7, %e7'⟩, H4, H5, HS⟩
  isplitl [HS Hg]
  · isplitl [HS]; · iexact HS
    iexact Hg
  isplitl [HO]; · iexact HO
  isplitl [H3]; · iexists X3; isplitr; · ipureintro; exact e3
                  iexact H3
  isplitl [H4]; · iexists X4; isplitr; · ipureintro; exact e4
                  iexact H4
  isplitl [H5]; · iexists X5; isplitr; · ipureintro; exact e5
                  iexact H5
  isplitl [H6]; · iexists X6; isplitr; · ipureintro; exact e6
                  iexact H6
  iexists f7; isplitr; · ipureintro; exact e7'.trans (congr (congr (congr (congrArg (outB ((grid0.coords t) 2).val) e3) e4) e5) e6)
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

/-- From any memory with zero counters every weakly fair execution of @main terminates; every array ends with its blocks
    written, every buffer the region does not stage ends as the region found it, and every counter ends at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
    (run_main m ρ)

end Launch

end Cert.Proof.KernelIdeal

end
-- ==== Proof.KernelIdealResult.lean ====
/- The attention kernel's result array: each grid point's block, in its place. -/
module

public import proofs.«01_k».proof.Proof.KernelIdealRun
public import Idealize.ShloMosaic.Lib.Pointwise

@[expose] public section

noncomputable section

namespace Cert.Proof.KernelIdeal

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The grid's points, the row blocks fastest, then the head pairs, then the batches. -/
theorem coords_eq : ∀ t : Fin grid0.N, ((grid0.coords t) 0).val = t.val / 128 ∧ ((grid0.coords t) 1).val = t.val / 32 % 4
    ∧ ((grid0.coords t) 2).val = t.val % 32 := by decide +kernel

theorem word_lt {a : ℕ} (h : a < 2 ^ 32) : (BitVec.ofNat 32 a).toNat = a := by
  rw [BitVec.toNat_ofNat, Nat.mod_eq_of_lt h]

theorem row_word {a b : ℕ} (ha : a < 2) (hb : b < 32) :
    (Scalar.addi (Scalar.muli (BitVec.ofNat 32 a) 32#32) (BitVec.ofNat 32 b)).toNat = a * 32 + b := by
  unfold Scalar.addi Scalar.muli IntOp.addi IntOp.muli
  simp
  omega

theorem tr0 (i : grid0.Coords) : cc0_transform_0 i 0 = (i 0).val * 32 + (i 2).val ∧ cc0_transform_0 i 1 = (i 1).val := by
  have h0 : (i 0).val < 2 := (i 0).isLt
  have h1 : (i 1).val < 4 := (i 1).isLt
  have h2 : (i 2).val < 32 := (i 2).isLt
  exact ⟨row_word h0 h2, word_lt (by omega)⟩

theorem tr1 (i : grid0.Coords) : cc0_transform_1 i 0 = (i 0).val ∧ cc0_transform_1 i 1 = (i 1).val := by
  have h0 : (i 0).val < 2 := (i 0).isLt
  have h1 : (i 1).val < 4 := (i 1).isLt
  exact ⟨word_lt (by omega), word_lt (by omega)⟩

theorem tr2 (i : grid0.Coords) : cc0_transform_2 i 0 = (i 0).val ∧ cc0_transform_2 i 1 = (i 1).val ∧ cc0_transform_2 i 2 = 0 := by
  have h0 : (i 0).val < 2 := (i 0).isLt
  have h1 : (i 1).val < 4 := (i 1).isLt
  exact ⟨word_lt (by omega), word_lt (by omega), rfl⟩

theorem tr3 (i : grid0.Coords) : cc0_transform_3 i 0 = (i 0).val ∧ cc0_transform_3 i 1 = 0 ∧ cc0_transform_3 i 2 = (i 1).val := by
  have h0 : (i 0).val < 2 := (i 0).isLt
  have h1 : (i 1).val < 4 := (i 1).isLt
  exact ⟨word_lt (by omega), rfl, word_lt (by omega)⟩

theorem tr4 (i : grid0.Coords) : cc0_transform_4 i 0 = (i 0).val * 32 + (i 2).val ∧ cc0_transform_4 i 1 = (i 1).val := by
  have h0 : (i 0).val < 2 := (i 0).isLt
  have h1 : (i 1).val < 4 := (i 1).isLt
  have h2 : (i 2).val < 32 := (i 2).isLt
  exact ⟨row_word h0 h2, word_lt (by omega)⟩

/-- The point of batch `b`, head pair `p` and row block `n`. -/
def point (b : Fin 2) (p : Fin 4) (n : Fin 32) : Fin cfg0.N :=
  ⟨128 * b.val + 32 * p.val + n.val, by rw [show cfg0.N = 256 from N_0]; omega⟩

theorem point_coords (b : Fin 2) (p : Fin 4) (n : Fin 32) : ((grid0.coords (point b p n)) 0).val = b.val
    ∧ ((grid0.coords (point b p n)) 1).val = p.val ∧ ((grid0.coords (point b p n)) 2).val = n.val := by
  obtain ⟨h0, h1, h2⟩ := coords_eq (point b p n)
  have e : (point b p n).val = 128 * b.val + 32 * p.val + n.val := rfl
  refine ⟨h0.trans ?_, h1.trans ?_, h2.trans ?_⟩ <;> rw [e] <;> omega

/-- The point that writes row `y` and lane `z`. -/
def pointOf (y : Fin 16384) (z : Fin 1024) : Fin cfg0.N :=
  point ⟨y.val / 8192, by omega⟩ ⟨z.val / 256, by omega⟩ ⟨y.val / 256 % 32, by omega⟩

/-- The result array. -/
def result (c : Dev nD) : Buf (Elt F) ((c : Thread nD τ).loc main_v22) := fun (i : S16384x1024.Idx) =>
  outAt m c (pointOf (i 0) (i 1)) (ix2 ⟨(i 0).val % 256, by omega⟩ ⟨(i 1).val % 256, by omega⟩)

theorem result_at (c : Dev nD) (y : Fin 16384) (z : Fin 1024) (t : Fin cfg0.N) (r e : Fin 256)
    (hy : y.val = (((grid0.coords t) 0).val * 32 + ((grid0.coords t) 2).val) * 256 + r.val)
    (hz : z.val = ((grid0.coords t) 1).val * 256 + e.val) :
    result m c (ix2 y z) = outAt m c t (ix2 r e) := by
  show outAt m c (pointOf y z) (ix2 ⟨y.val % 256, by omega⟩ ⟨z.val % 256, by omega⟩) = _
  obtain ⟨h0, h1, h2⟩ := coords_eq t
  have ht : t.val < 256 := lt_of_lt_of_eq t.isLt N_0
  rw [h0, h2] at hy
  rw [h1] at hz
  have e1 : pointOf y z = t := Fin.ext (by show 128 * (y.val / 8192) + 32 * (z.val / 256) + y.val / 256 % 32 = t.val; omega)
  have e2 : (⟨y.val % 256, by omega⟩ : Fin 256) = r := Fin.ext (by show y.val % 256 = r.val; omega)
  have e3 : (⟨z.val % 256, by omega⟩ : Fin 256) = e := Fin.ext (by show z.val % 256 = e.val; omega)
  rw [e1, e2, e3]

theorem flushed_eq (c : Dev nD) (t : Fin cfg0.N) (hf : (cfg0.win 4).flush t = true) :
    (dats m 0 c).flushed 4 t = ((cfg0.win 4).blk t).view.read (Elt F) (result m c) := by
  show (cfg0.win 4).cut (grid0.coords t) ((dats m 0 c).after 4 t) = _
  obtain ⟨h0, h1⟩ := tr4 (grid0.coords t)
  have k0 : ((grid0.coords t) 0).val < 2 := ((grid0.coords t) 0).isLt
  have k1 : ((grid0.coords t) 1).val < 4 := ((grid0.coords t) 1).isLt
  have k2 : ((grid0.coords t) 2).val < 32 := ((grid0.coords t) 2).isLt
  funext (j : S256x256.Idx)
  rw [View.read_apply]
  have j0 : (j 0).val < 256 := (j 0).isLt
  have j1 : (j 1).val < 256 := (j 1).isLt
  have e := result_at m c ⟨(((grid0.coords t) 0).val * 32 + ((grid0.coords t) 2).val) * 256 + (j 0).val, by omega⟩
    ⟨((grid0.coords t) 1).val * 256 + (j 1).val, by omega⟩ t (j 0) (j 1) rfl rfl
  refine Eq.trans ?_ (e.symm.trans ?_)
  · show outAt m c t _ = _
    refine congrArg (outAt m c t) (funext fun (a : Fin 2) => ?_)
    match a with
    | ⟨0, _⟩ => rfl
    | ⟨1, _⟩ => rfl
  · refine congrArg (result m c) (funext fun (a : Fin 2) => Fin.ext ?_)
    match a with
    | ⟨0, _⟩ => show (((grid0.coords t) 0).val * 32 + ((grid0.coords t) 2).val) * 256 + (j 0).val = cc0_transform_4 (grid0.coords t) 0 * 256 + 1 * (j 0).val
                rw [h0]; omega
    | ⟨1, _⟩ => show ((grid0.coords t) 1).val * 256 + (j 1).val = cc0_transform_4 (grid0.coords t) 1 * 256 + 1 * (j 1).val
                rw [h1]; omega

/-- The launch leaves it. -/
theorem final (c : Dev nD) : (dats m 0 c).arrAt 4 cfg0.N = result m c :=
  (dats m 0 c).arrAt_eq_of_cover 4 (result m c) (flushed_eq m c) fun (i : S16384x1024.Idx) =>
    ⟨pointOf (i 0) (i 1), flush0_4 _, by
      have i0 : (i 0).val < 16384 := (i 0).isLt
      have i1 : (i 1).val < 1024 := (i 1).isLt
      show i ∈ ((View.whole main_v22).slice (win0_4.rect (pointOf (i 0) (i 1)))).set
      obtain ⟨h0, h1⟩ := tr4 (grid0.coords (pointOf (i 0) (i 1)))
      obtain ⟨p0, p1, p2⟩ := point_coords ⟨(i 0).val / 8192, by omega⟩ ⟨(i 1).val / 256, by omega⟩ ⟨(i 0).val / 256 % 32, by omega⟩
      rw [View.set_slice_whole, Rect.mem_set_unit]
      intro a
      match a with
      | ⟨0, _⟩ => show cc0_transform_4 (grid0.coords (pointOf (i 0) (i 1))) 0 * 256 ≤ (i 0).val ∧ (i 0).val < cc0_transform_4 (grid0.coords (pointOf (i 0) (i 1))) 0 * 256 + 256
                  rw [h0, show ((grid0.coords (pointOf (i 0) (i 1))) 0).val = (i 0).val / 8192 from p0, show ((grid0.coords (pointOf (i 0) (i 1))) 2).val = (i 0).val / 256 % 32 from p2]
                  omega
      | ⟨1, _⟩ => show cc0_transform_4 (grid0.coords (pointOf (i 0) (i 1))) 1 * 256 ≤ (i 1).val ∧ (i 1).val < cc0_transform_4 (grid0.coords (pointOf (i 0) (i 1))) 1 * 256 + 256
                  rw [h1, show ((grid0.coords (pointOf (i 0) (i 1))) 1).val = (i 1).val / 256 from p1]
                  omega⟩

/-- The run: the result array as said, the arguments unchanged. -/
theorem run_result : θ_run defs (onTc (τ := τ) (main (F := F))) ⟨m, fun _ => 0, ρ⟩ fun r => ∀ c : Dev nD,
    r.2.mem ((c.tc : Thread nD τ).loc main_v22) = result m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 4).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end Cert.Proof.KernelIdeal

end
-- ==== Proof.Spec.lean ====
/- The mathematics both programs compute, on the extended reals: the attended keys' weights and values, and the
   selection of the three past blocks with the greatest scores. -/
module

public import Idealize.ShloMosaic.PureOps.Ideal
public import Idealize.ShloMosaic.PureOps.Ideal.Laws

@[expose] public section

noncomputable section

namespace Cert.Proof.Spec

open Idealize.ShloMosaic

/-! ## The selection -/

/-- Block `j'` comes before block `j`: a greater score, or the same one and a lower number. -/
def bef (x : Fin 32 → EReal) (j' j : Fin 32) : Prop := x j < x j' ∨ (x j' = x j ∧ j' < j)

theorem bef_total (x : Fin 32 → EReal) {a b : Fin 32} (h : a ≠ b) : bef x a b ∨ bef x b a := by
  unfold bef
  rcases lt_trichotomy (x a) (x b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- `T` holds the first `k` of the blocks below `n` in that order, or all of them. -/
structure IsTop (n : ℕ) (x : Fin 32 → EReal) (k : ℕ) (T : Finset (Fin 32)) : Prop where
  sub : ∀ j ∈ T, j.val < n
  init : ∀ j ∈ T, ∀ j' : Fin 32, j'.val < n → bef x j' j → j' ∈ T
  full : T.card = k ∨ ∀ j : Fin 32, j.val < n → j ∈ T
  card_le : T.card ≤ k

theorem IsTop.unique {n : ℕ} {x : Fin 32 → EReal} {k : ℕ} {T U : Finset (Fin 32)} (hT : IsTop n x k T) (hU : IsTop n x k U) : T = U := by
  have key : T ⊆ U ∨ U ⊆ T := by
    by_contra h
    push Not at h
    obtain ⟨h1, h2⟩ := h
    obtain ⟨a, haT, haU⟩ := Finset.not_subset.mp h1
    obtain ⟨b, hbU, hbT⟩ := Finset.not_subset.mp h2
    have hne : a ≠ b := fun e => hbT (e ▸ haT)
    rcases bef_total x hne with h | h
    · exact haU (hU.init b hbU a (hT.sub a haT) h)
    · exact hbT (hT.init a haT b (hU.sub b hbU) h)
  rcases key with h | h
  · rcases hT.full with hc | hf
    · exact Finset.eq_of_subset_of_card_le h (hc ▸ hU.card_le)
    · exact Finset.Subset.antisymm h fun j hj => hf j (hU.sub j hj)
  · rcases hU.full with hc | hf
    · exact (Finset.eq_of_subset_of_card_le h (hc ▸ hT.card_le)).symm
    · exact Finset.Subset.antisymm (fun j hj => hf j (hT.sub j hj)) h

/-- The scores with the blocks from `n` on, and the blocks of `T`, at −∞. -/
def maskd (n : ℕ) (s : Fin 32 → ℝ) (T : Finset (Fin 32)) (j : Fin 32) : EReal := if j.val < n ∧ j ∉ T then (s j : EReal) else ⊥

/-- One round of the selection: the lowest block `p` among those of the greatest masked score joins. -/
theorem IsTop.step {n : ℕ} {s : Fin 32 → ℝ} {k : ℕ} {T : Finset (Fin 32)} (hT : IsTop n (maskd n s ∅) k T) (p : Fin 32)
    (hmax : ∀ j, maskd n s T j ≤ maskd n s T p)
    (hlow : ∀ j, maskd n s T j = maskd n s T p → p ≤ j) :
    IsTop n (maskd n s ∅) (k + 1) (if p.val < n then insert p T else T) ∧ ((p.val < n ∧ p ∉ T) ∨ ∀ j : Fin 32, j.val < n → j ∈ T) := by
  by_cases hf : ∀ j : Fin 32, j.val < n → j ∈ T
  · refine ⟨?_, Or.inr hf⟩
    have e : (if p.val < n then insert p T else T) = T := by
      split
      · exact Finset.insert_eq_of_mem (hf p ‹_›)
      · rfl
    rw [e]
    exact ⟨hT.sub, hT.init, Or.inr hf, hT.card_le.trans (Nat.le_succ k)⟩
  · have hk : T.card = k := hT.full.resolve_right hf
    push Not at hf
    obtain ⟨a, han, haT⟩ := hf
    have hp : p.val < n ∧ p ∉ T := by
      by_contra hp
      have := hmax a
      rw [maskd, if_pos ⟨han, haT⟩, maskd, if_neg hp] at this
      exact absurd (le_bot_iff.mp this) (EReal.coe_ne_bot _)
    refine ⟨?_, Or.inl hp⟩
    rw [if_pos hp.1]
    have hs : ∀ j, j.val < n → maskd n s ∅ j = s j := fun j hj => by simp [maskd, hj]
    refine ⟨fun j hj => ?_, fun j hj j' hj' hb => ?_, Or.inl ?_, ?_⟩
    · rcases Finset.mem_insert.mp hj with rfl | h
      · exact hp.1
      · exact hT.sub j h
    · rcases Finset.mem_insert.mp hj with rfl | h
      · by_contra hn
        rw [Finset.mem_insert, not_or] at hn
        have h1 := hmax j'
        have e1 : maskd n s T j' = s j' := by simp [maskd, hj', hn.2]
        have e2 : maskd n s T j = s j := by simp [maskd, hp]
        rw [e1, e2] at h1
        rw [bef, hs _ hj', hs _ hp.1] at hb
        rcases hb with h2 | ⟨h2, h3⟩
        · exact absurd h1 (not_le.mpr h2)
        · exact absurd (hlow j' (by rw [e1, e2, h2])) (not_le.mpr h3)
      · exact Finset.mem_insert_of_mem (hT.init j h j' hj' hb)
    · rw [Finset.card_insert_of_notMem hp.2, hk]
    · rw [Finset.card_insert_of_notMem hp.2, hk]

theorem IsTop.zero (n : ℕ) (x : Fin 32 → EReal) : IsTop n x 0 ∅ :=
  ⟨fun _ h => absurd h (Finset.notMem_empty _), fun _ h => absurd h (Finset.notMem_empty _), Or.inl rfl, le_refl _⟩

/-- The masked scores after a round. -/
theorem maskd_step {n : ℕ} {s : Fin 32 → ℝ} {T : Finset (Fin 32)} {p : Fin 32}
    (h : (p.val < n ∧ p ∉ T) ∨ ∀ j : Fin 32, j.val < n → j ∈ T) (j : Fin 32) :
    (if j = p then (⊥ : EReal) else maskd n s T j) = maskd n s (if p.val < n then insert p T else T) j := by
  unfold maskd
  rcases h with h | h
  · rw [if_pos h.1]
    by_cases hj : j = p
    · simp [hj]
    · simp [hj]
  · have e : (if p.val < n then insert p T else T) = T := by
      split
      · exact Finset.insert_eq_of_mem (h p ‹_›)
      · rfl
    rw [e]
    have : ¬(j.val < n ∧ j ∉ T) := fun hh => hh.2 (h j hh.1)
    simp [this]

/-! ## The weights -/

/-- The logits' scale: the reference's literal, exactly. -/
def s0 : ℝ := 11863283 / 134217728

/-- Over query row `r` of block `n`: the sum of `f` over the keys of the own block up to the row, and over the keys of the
    blocks of `T`. -/
def mass (n : Fin 32) (r : Fin 256) (T : Finset (Fin 32)) (f : Fin 32 → Fin 256 → EReal) : EReal :=
  (∑ i : Fin 256, if i ≤ r then f n i else 0) + ∑ j : Fin 32, if j ∈ T then ∑ i : Fin 256, f j i else 0

/-- The attention of that row: the attended values by the exponentials of the scaled logits, over the exponentials' sum. -/
def attn (n : Fin 32) (r : Fin 256) (T : Finset (Fin 32)) (S : Fin 32 → Fin 256 → ℝ) (V : Fin 32 → Fin 256 → EReal) : EReal :=
  Ideal.div (mass n r T fun j i => (Real.exp (s0 * S j i) : EReal) * V j i)
    (mass n r T fun j i => (Real.exp (s0 * S j i) : EReal))

/-- A sum of reals is real. -/
theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- A real factor that is not negative distributes over a sum of extended reals. -/
theorem coe_mul_sum {ι : Type*} (t : Finset ι) {a : ℝ} (ha : 0 ≤ a) (f : ι → EReal) :
    (a : EReal) * ∑ i ∈ t, f i = ∑ i ∈ t, (a : EReal) * f i := by
  classical
  induction t using Finset.induction_on with
  | empty => simp
  | insert i t hi ih =>
    rw [Finset.sum_insert hi, Finset.sum_insert hi, EReal.left_distrib_of_nonneg_of_ne_top (EReal.coe_nonneg.mpr ha) (EReal.coe_ne_top a), ih]

theorem coe_mul_mass (n r T) {a : ℝ} (ha : 0 ≤ a) (f : Fin 32 → Fin 256 → EReal) :
    (a : EReal) * mass n r T f = mass n r T fun j i => (a : EReal) * f j i := by
  unfold mass
  rw [EReal.left_distrib_of_nonneg_of_ne_top (EReal.coe_nonneg.mpr ha) (EReal.coe_ne_top a), coe_mul_sum _ ha, coe_mul_sum _ ha]
  congr 1
  · exact Finset.sum_congr rfl fun i _ => by split <;> simp
  · exact Finset.sum_congr rfl fun j _ => by split <;> simp [coe_mul_sum _ ha]

/-- The mass of positive reals is a positive real: the row's own key is attended. -/
theorem mass_pos (n r T) (w : Fin 32 → Fin 256 → ℝ) (hw : ∀ j i, 0 < w j i) :
    ∃ b : ℝ, 0 < b ∧ mass n r T (fun j i => (w j i : EReal)) = (b : EReal) := by
  refine ⟨(∑ i : Fin 256, if i ≤ r then w n i else 0) + ∑ j : Fin 32, if j ∈ T then ∑ i : Fin 256, w j i else 0, ?_, ?_⟩
  · refine add_pos_of_pos_of_nonneg ?_ ?_
    · refine lt_of_lt_of_le (hw n r) ?_
      have := Finset.single_le_sum (f := fun i : Fin 256 => if i ≤ r then w n i else 0)
        (fun i _ => by split <;> [exact (hw n i).le; exact le_refl _]) (Finset.mem_univ r)
      simpa using this
    · exact Finset.sum_nonneg fun j _ => by split <;> [exact Finset.sum_nonneg fun i _ => (hw j i).le; exact le_refl _]
  · unfold mass
    rw [EReal.coe_add, coe_sum, coe_sum]
    congr 1
    · exact Finset.sum_congr rfl fun i _ => by split <;> rfl
    · exact Finset.sum_congr rfl fun j _ => by split <;> [exact (coe_sum _ _).symm; rfl]

/-- A positive real factor on both sides of a quotient cancels. -/
theorem div_scale {a b : ℝ} (ha : 0 < a) (hb : 0 < b) (x : EReal) :
    Ideal.div ((a : EReal) * x) ((a : EReal) * (b : EReal)) = Ideal.div x (b : EReal) := by
  have e : ((a : EReal) * (b : EReal)) = ((a * b : ℝ) : EReal) := (EReal.coe_mul a b).symm
  rw [e, Ideal.div, Ideal.div, if_neg (by exact_mod_cast (mul_pos ha hb).ne'), if_neg (by exact_mod_cast hb.ne'),
    ← EReal.coe_inv, ← EReal.coe_inv, mul_comm (a : EReal) x, mul_assoc, ← EReal.coe_mul]
  congr 2
  field_simp

/-- The attention may subtract any real from the logits before it takes their exponentials. -/
theorem attn_shift (n r T S V) (m : ℝ) :
    Ideal.div (mass n r T fun j i => (Real.exp (s0 * (S j i - m)) : EReal) * V j i)
      (mass n r T fun j i => (Real.exp (s0 * (S j i - m)) : EReal)) = attn n r T S V := by
  have e : ∀ j i, (Real.exp (s0 * (S j i - m)) : EReal) = (Real.exp (-(s0 * m)) : EReal) * (Real.exp (s0 * S j i) : EReal) := fun j i => by
    rw [← EReal.coe_mul, ← Real.exp_add]; congr 2; ring
  simp only [e, mul_assoc]
  have hp := Real.exp_pos (-(s0 * m))
  rw [← coe_mul_mass n r T hp.le, ← coe_mul_mass n r T hp.le]
  obtain ⟨b, hb, eb⟩ := mass_pos n r T (fun j i => Real.exp (s0 * S j i)) fun j i => Real.exp_pos _
  unfold attn
  rw [eb, div_scale hp hb]

/-- The quotient by the sum may be taken of each weight. -/
theorem mass_div (n r T) (w : Fin 32 → Fin 256 → EReal) (V : Fin 32 → Fin 256 → EReal) {b : ℝ} (hb : 0 < b) :
    (mass n r T fun j i => Ideal.div (w j i) (b : EReal) * V j i) = Ideal.div (mass n r T fun j i => w j i * V j i) (b : EReal) := by
  have hd : ∀ x : EReal, Ideal.div x (b : EReal) = ((b⁻¹ : ℝ) : EReal) * x := fun x => by
    rw [Ideal.div, if_neg (by exact_mod_cast hb.ne'), mul_comm, EReal.coe_inv]
  simp only [hd, mul_assoc]
  exact (coe_mul_mass n r T (inv_pos.mpr hb).le _).symm

/-! ## The exponentials -/

/-- The kernel's constant: the scale over `log 2`. -/
def cc : ℝ := (11863283 / 134217728) * (Real.log 2)⁻¹

theorem exp2_coe (x : ℝ) : Ideal.exp2 (((x * cc : ℝ)) : EReal) = (Real.exp (s0 * x) : EReal) := by
  rw [Ideal.exp2_coe]
  congr 1
  show (2 : ℝ) ^ (x * cc) = _
  rw [Real.rpow_def_of_pos (by norm_num)]
  congr 1
  have : Real.log 2 ≠ 0 := (Real.log_pos (by norm_num)).ne'
  unfold cc s0
  field_simp

theorem cc_pos : 0 < cc := mul_pos (by norm_num) (inv_pos.mpr (Real.log_pos (by norm_num)))

/-- The weight of a real logit against a real maximum. -/
theorem weight (x m : ℝ) : Ideal.exp2 (((x : EReal) - (m : EReal)) * (cc : EReal)) = (Real.exp (s0 * (x - m)) : EReal) := by
  rw [← EReal.coe_sub, ← EReal.coe_mul, exp2_coe]

/-- A masked logit weighs nothing. -/
theorem weight_bot (m : ℝ) : Ideal.exp2 (((⊥ : EReal) - (m : EReal)) * (cc : EReal)) = 0 := by
  rw [EReal.bot_sub, EReal.bot_mul_coe_of_pos cc_pos, Ideal.exp2_bot]

end Cert.Proof.Spec

end
-- ==== Proof.HeadValue.lean ====
/- One head of one query block over the extended reals: the selection its three rounds make, the logits its augmented
   product gives, and the quotient it stores, which is the attention of `Spec`. -/
module

public import proofs.«01_k».proof.Proof.Head
public import proofs.«01_k».proof.Proof.Spec
public import Idealize.ShloMosaic.Lib.Pointwise

@[expose] public section

noncomputable section

namespace Cert.Proof.Head

open Cert.KernelIdeal Cert.KernelIdeal.Gen Cert.Proof.Spec
open Idealize.ShloMosaic Idealize.ShloMosaic.TcCoe

/-! ## Constants and windows -/

theorem mask_eq : Named.named (F := Ideal) κ "mask" (φ := .f32) 0xF149F2CA#32 = (⊥ : EReal) :=
  IdealRules.named_const.ideal_named_scalar _ _ _ _ rfl

theorem c_eq : Named.named (F := Ideal) κ "c" (φ := .f32) 0x3E0293EE#32 = (cc : EReal) :=
  IdealRules.named_const.ideal_named_scalar _ _ _ _ rfl

theorem ninf_eq : Ideal.ofBits .f32 0xFF800000#32 = (⊥ : EReal) := by simp [Ideal.ofBits, Ideal.ieee]

theorem kwin_at (K : Vec Ideal S8192x512 .bf16) (c : Fin 2) (j : Fin 32) (i e : Fin 256) :
    kwin (F := Ideal) K c j.val (ix2 i e) = K (ix2 ⟨256 * j.val + i.val, by omega⟩ ⟨256 * c.val + e.val, by omega⟩) := by
  unfold kwin
  refine congrArg K (funext fun a => Fin.ext ?_)
  match a with
  | ⟨0, _⟩ => show min j.val 31 * 256 + 1 * i.val = 256 * j.val + i.val; omega
  | ⟨1, _⟩ => show 256 * c.val + 1 * e.val = 256 * c.val + e.val; omega

theorem kown_at (K : Vec Ideal S8192x512 .bf16) (c : Fin 2) (j : Fin 32) (i : Fin 256) (e : Fin 128) :
    kown (F := Ideal) K c j.val (ix2 i e) = K (ix2 ⟨256 * j.val + i.val, by omega⟩ ⟨256 * c.val + e.val, by omega⟩) := by
  unfold kown
  refine congrArg K (funext fun a => Fin.ext ?_)
  match a with
  | ⟨0, _⟩ => show min j.val 31 * 256 + 1 * i.val = 256 * j.val + i.val; omega
  | ⟨1, _⟩ => show 256 * c.val + 1 * e.val = 256 * c.val + e.val; omega

theorem qwin_at (Q : Vec Ideal S256x256 .bf16) (c : Fin 2) (r : Fin 256) (e : Fin 128) :
    qwin (F := Ideal) Q c (ix2 r e) = Q (ix2 r ⟨128 * c.val + e.val, by omega⟩) := by
  unfold qwin
  refine congrArg Q (funext fun a => Fin.ext ?_)
  match a with
  | ⟨0, _⟩ => show 0 + 1 * r.val = r.val; omega
  | ⟨1, _⟩ => show 128 * c.val + 1 * e.val = 128 * c.val + e.val; omega

theorem mwin_at (M : Vec Ideal S32x1x256 .f32) (c : Fin 2) (j : Fin 32) (e : Fin 128) :
    mwin (F := Ideal) M c (ix3 j 0 e) = M (ix3 j 0 ⟨128 * c.val + e.val, by omega⟩) := by
  unfold mwin
  refine congrArg M (funext fun a => Fin.ext ?_)
  match a with
  | ⟨0, _⟩ => show 0 + 1 * j.val = j.val; omega
  | ⟨1, _⟩ => rfl
  | ⟨2, _⟩ => show 128 * c.val + 1 * e.val = 128 * c.val + e.val; omega

theorem vwin_at (W : Vec Ideal S32x288x256 .bf16) (c : Fin 2) (j : Fin 32) (e : Fin 144) (i : Fin 256) :
    vwin (F := Ideal) W c j.val (ix3 0 e i) = W (ix3 j ⟨144 * c.val + e.val, by omega⟩ i) := by
  unfold vwin
  refine congrArg W (funext fun a => Fin.ext ?_)
  match a with
  | ⟨0, _⟩ => show min j.val 31 + 1 * 0 = j.val; omega
  | ⟨1, _⟩ => show 144 * c.val + 1 * e.val = 144 * c.val + e.val; omega
  | ⟨2, _⟩ => show 0 + 1 * i.val = i.val; omega

/-! ## The selection's rounds -/

/-- The running minimum of words is one of them, and none is less. -/
theorem fold_minsi {ι : Type} (t : Finset ι) (b : BitVec 32) (f : ι → BitVec 32) :
    (∀ x ∈ t, (t.fold IntOp.minsi b f).toInt ≤ (f x).toInt) ∧ (t.fold IntOp.minsi b f).toInt ≤ b.toInt ∧
      (t.fold IntOp.minsi b f = b ∨ ∃ x ∈ t, t.fold IntOp.minsi b f = f x) := by
  classical
  induction t using Finset.induction_on with
  | empty => exact ⟨fun x h => absurd h (Finset.notMem_empty x), le_refl _, Or.inl rfl⟩
  | insert i t hi ih =>
    rw [Finset.fold_insert hi]
    obtain ⟨h1, h2, h3⟩ := ih
    generalize t.fold IntOp.minsi b f = w at h1 h2 h3
    unfold IntOp.minsi
    by_cases hc : (f i).slt w
    · rw [if_pos hc]
      rw [BitVec.slt_iff_toInt_lt] at hc
      refine ⟨fun x hx => ?_, by omega, Or.inr ⟨i, Finset.mem_insert_self i t, rfl⟩⟩
      rcases Finset.mem_insert.mp hx with rfl | hx
      · exact le_refl _
      · have := h1 x hx; omega
    · rw [if_neg hc]
      rw [BitVec.slt_iff_toInt_lt] at hc
      refine ⟨fun x hx => ?_, h2, ?_⟩
      · rcases Finset.mem_insert.mp hx with rfl | hx
        · omega
        · exact h1 x hx
      · rcases h3 with h | ⟨x, hx, h⟩
        · exact Or.inl h
        · exact Or.inr ⟨x, Finset.mem_insert_of_mem hx, h⟩

theorem toInt_small {a : ℕ} (h : a ≤ 32) : (BitVec.ofNat 32 a).toInt = a := by
  interval_cases a <;> rfl

/-- A round's pick is the lowest block among those of the greatest score. -/
theorem pick (y : Fin 32 → EReal) :
    ∃ p : Fin 32, Finset.fold IntOp.minsi 2147483647#32
        (fun x : Fin 32 => if y x = Finset.fold max (⊥ : EReal) y Finset.univ then BitVec.ofNat 32 x.val else 32#32) Finset.univ
        = BitVec.ofNat 32 p.val ∧ (∀ j, y j ≤ y p) ∧ (∀ j, y j = y p → p ≤ j) := by
  generalize hM : Finset.fold max (⊥ : EReal) y Finset.univ = M
  have hle : ∀ j, y j ≤ M := fun j => by rw [← hM]; exact Finset.le_fold_max (y j) |>.mpr (Or.inr ⟨j, Finset.mem_univ j, le_refl _⟩)
  have hex : ∃ j, y j = M := by
    rcases (Finset.le_fold_max (f := y) (b := (⊥ : EReal)) (s := Finset.univ) M).mp (le_of_eq hM.symm) with h | ⟨j, -, h⟩
    · exact ⟨0, le_antisymm (hle 0) (h.trans bot_le)⟩
    · exact ⟨j, le_antisymm (hle j) h⟩
  obtain ⟨h1, h2, h3⟩ := fold_minsi Finset.univ 2147483647#32 (fun x : Fin 32 => if y x = M then BitVec.ofNat 32 x.val else 32#32)
  generalize Finset.fold IntOp.minsi 2147483647#32 (fun x : Fin 32 => if y x = M then BitVec.ofNat 32 x.val else 32#32) Finset.univ = w at h1 h2 h3
  obtain ⟨a, ha⟩ := hex
  have hw : w.toInt ≤ a.val := by
    have := h1 a (Finset.mem_univ a)
    rwa [if_pos ha, toInt_small (by omega)] at this
  have hp : ∃ p : Fin 32, y p = M ∧ w = BitVec.ofNat 32 p.val := by
    rcases h3 with h | ⟨x, -, h⟩
    · rw [h] at hw; have : (2147483647#32 : BitVec 32).toInt = 2147483647 := by decide
      omega
    · by_cases hx : y x = M
      · exact ⟨x, hx, by rw [h, if_pos hx]⟩
      · rw [if_neg hx] at h; rw [h] at hw; have : (32#32 : BitVec 32).toInt = 32 := by decide
        omega
  obtain ⟨p, hpM, hpw⟩ := hp
  refine ⟨p, hpw, fun j => hpM ▸ hle j, fun j hj => ?_⟩
  have := h1 j (Finset.mem_univ j)
  rw [if_pos (hj.trans hpM), hpw, toInt_small (by omega), toInt_small (by omega)] at this
  exact Fin.le_def.mpr (by omega)

theorem cmp_eq_small {a b : ℕ} (ha : a ≤ 32) (hb : b ≤ 32) :
    IntOp.cmpi .eq (BitVec.ofNat 32 a) (BitVec.ofNat 32 b) = BitVec.ofBool (decide (a = b)) := by
  interval_cases a <;> interval_cases b <;> rfl
theorem cmp_slt_small {a b : ℕ} (ha : a ≤ 32) (hb : b ≤ 32) :
    IntOp.cmpi .slt (BitVec.ofNat 32 a) (BitVec.ofNat 32 b) = BitVec.ofBool (decide (a < b)) := by
  interval_cases a <;> interval_cases b <;> rfl

/-- The blocks a round's pick joins. -/
def joined (n : ℕ) (T : Finset (Fin 32)) (p : Fin 32) : Finset (Fin 32) := if p.val < n then insert p T else T

/-- The bias of the chosen blocks. -/
def bias (T : Finset (Fin 32)) (j : Fin 32) : EReal := if j ∈ T then 0 else ⊥

/-- The bias after a round. -/
theorem bias_step (n : Fin 32) (T : Finset (Fin 32)) (p j : Fin 32) :
    Scalar.select (IntOp.andi (IntOp.cmpi .eq (BitVec.ofNat 32 j.val) (BitVec.ofNat 32 p.val))
        (IntOp.cmpi .slt (BitVec.ofNat 32 p.val) (BitVec.ofNat 32 n.val))) (0 : EReal) (bias T j)
      = bias (joined n.val T p) j := by
  rw [cmp_eq_small (by omega) (by omega), cmp_slt_small (by omega) (by omega)]
  unfold bias joined
  by_cases h1 : j = p
  · subst h1
    by_cases h2 : j.val < n.val <;> simp [h2, Scalar.select, IntOp.andi]
  · have h1' : ¬ j.val = p.val := fun h => h1 (Fin.ext h)
    by_cases h2 : p.val < n.val <;> simp [h1, h1', h2, Scalar.select, IntOp.andi]

/-- The masked scores after a round. -/
theorem score_step (p j : Fin 32) (y : EReal) :
    Scalar.select (IntOp.cmpi .eq (BitVec.ofNat 32 j.val) (BitVec.ofNat 32 p.val)) (⊥ : EReal) y = if j = p then ⊥ else y := by
  rw [cmp_eq_small (by omega) (by omega)]
  by_cases h1 : j = p
  · subst h1; simp [Scalar.select]
  · have h1' : ¬ j.val = p.val := fun h => h1 (Fin.ext h)
    simp [h1, h1', Scalar.select]

section Select

variable (n : Fin 32) (sc : Vec Ideal S32x256 .f32) (r : Fin 256) (s : Fin 32 → ℝ) (hs : ∀ j, sc (ix2 j r) = (s j : EReal))
include hs

theorem p107 (j : Fin 32) : k0_pay107 (F := Ideal) (BitVec.ofNat 32 n.val) blk sc (ix2 j r) = maskd n.val s ∅ j := by
  pointwise [k0_pay107]
  rw [ninf_eq, hs, cmp_slt_small (by omega) (by omega)]
  unfold maskd
  by_cases h : j.val < n.val <;> simp [h, Scalar.select]

theorem p108 : ∃ p : Fin 32, k0_pay108 (F := Ideal) (BitVec.ofNat 32 n.val) blk sc (ix2 0 r) = BitVec.ofNat 32 p.val
    ∧ (∀ j, maskd n.val s ∅ j ≤ maskd n.val s ∅ p) ∧ (∀ j, maskd n.val s ∅ j = maskd n.val s ∅ p → p ≤ j) := by
  obtain ⟨p, h1, h2⟩ := pick (maskd n.val s ∅)
  refine ⟨p, ?_, h2⟩
  rw [← h1]
  pointwise [k0_pay108]
  simp only [ninf_eq, p107 n sc r s hs]

omit hs in
/-- The augmented queries' columns, from the state after the first round. -/
theorem p113 (q : Vec Ideal S256x128 .bf16) (a b : Vec Ideal S32x256 .f32) (d : Vec Ideal S1x256 .f32) (T : Finset (Fin 32))
    (ha : ∀ j, a (ix2 j r) = bias T j) (hb : ∀ j, b (ix2 j r) = maskd n.val s T j)
    (hd : d (ix2 0 r) = Finset.fold max (⊥ : EReal) (maskd n.val s T) Finset.univ) (hT : IsTop n.val (maskd n.val s ∅) 1 T) :
    ∃ U, IsTop n.val (maskd n.val s ∅) 3 U ∧ ∀ e : Fin 256, k0_pay113 (F := Ideal) (BitVec.ofNat 32 n.val) blk q a b d (ix2 r e)
      = if h : e.val < 128 then q (ix2 r ⟨e.val, h⟩) else if h : e.val - 128 < 32 then bias U ⟨e.val - 128, h⟩ else ⊥ := by
  obtain ⟨p, h1, h2, h3⟩ := pick (maskd n.val s T)
  obtain ⟨hU, hm⟩ := hT.step p h2 h3
  have hm' : ∀ j, (if j = p then (⊥ : EReal) else maskd n.val s T j) = maskd n.val s (joined n.val T p) j := maskd_step hm
  obtain ⟨p', h1', h2', h3'⟩ := pick (maskd n.val s (joined n.val T p))
  obtain ⟨hU', -⟩ := hU.step p' h2' h3'
  refine ⟨joined n.val (joined n.val T p) p', hU', fun e => ?_⟩
  pointwise [k0_pay113]
  simp only [ninf_eq, mask_eq, hb, hd, ha, h1, score_step, hm']
  change (if h : e.val < 128 then _ else if h1 : e.val - 128 < 32 then Scalar.select (IntOp.andi (IntOp.cmpi .eq _ (Finset.fold IntOp.minsi 2147483647#32
        (fun x : Fin 32 => if maskd n.val s (joined n.val T p) x = Finset.fold max (⊥ : EReal) (maskd n.val s (joined n.val T p)) Finset.univ then BitVec.ofNat 32 x.val else 32#32) Finset.univ)) (IntOp.cmpi .slt (Finset.fold IntOp.minsi 2147483647#32
        (fun x : Fin 32 => if maskd n.val s (joined n.val T p) x = Finset.fold max (⊥ : EReal) (maskd n.val s (joined n.val T p)) Finset.univ then BitVec.ofNat 32 x.val else 32#32) Finset.univ) _)) _ _ else _) = _
  rw [h1']
  split
  · rfl
  · split
    · rename_i _ h
      rw [← bias_step n _ p' ⟨e.val - 128, h⟩, ← bias_step n _ p ⟨e.val - 128, h⟩]
    · rfl

/-- The augmented queries: the queries, then the bias of the three chosen blocks. -/
theorem aug (q : Vec Ideal S256x128 .bf16) :
    ∃ U, IsTop n.val (maskd n.val s ∅) 3 U ∧ ∀ e : Fin 256,
      k0_pay113 (F := Ideal) (BitVec.ofNat 32 n.val) blk q (k0_pay110 (BitVec.ofNat 32 n.val) blk sc) (k0_pay111 (BitVec.ofNat 32 n.val) blk sc)
        (k0_pay112 (BitVec.ofNat 32 n.val) blk sc) (ix2 r e)
      = if h : e.val < 128 then q (ix2 r ⟨e.val, h⟩) else if h : e.val - 128 < 32 then bias U ⟨e.val - 128, h⟩ else ⊥ := by
  obtain ⟨p, h1, h2, h3⟩ := p108 n sc r s hs
  obtain ⟨hU, hm⟩ := (IsTop.zero n.val (maskd n.val s ∅)).step p h2 h3
  have e111 : ∀ j, k0_pay111 (F := Ideal) (BitVec.ofNat 32 n.val) blk sc (ix2 j r) = maskd n.val s (joined n.val ∅ p) j := fun j => by
    pointwise [k0_pay111, k0_pay109]
    rw [ninf_eq, h1, p107 n sc r s hs, score_step]
    exact maskd_step hm j
  refine p113 n r s q _ _ _ (joined n.val ∅ p) (fun j => ?_) e111 ?_ hU
  · pointwise [k0_pay110, k0_pay109]
    rw [mask_eq, h1, ← bias_step]
    try rfl
  · pointwise [k0_pay112]
    simp only [ninf_eq, e111]

end Select

/-! ## The logits and the accumulators -/

section Value

variable (n : Fin 32) (c : Fin 2) (r : Fin 256) (Q : Vec Ideal S256x256 .bf16) (K : Vec Ideal S8192x512 .bf16)
  (W : Vec Ideal S32x288x256 .bf16) (M : Vec Ideal S32x1x256 .f32)
  (q : Fin 256 → Fin 128 → ℝ) (kk : Fin 32 → Fin 256 → Fin 128 → ℝ) (v : Fin 32 → Fin 256 → Fin 128 → EReal)

/-- The logit of a key, before its scale. -/
def dotp (q : Fin 256 → Fin 128 → ℝ) (kk : Fin 32 → Fin 256 → Fin 128 → ℝ) (r : Fin 256) (j : Fin 32) (i : Fin 256) : ℝ :=
  ∑ d, kk j i d * q r d

/-- The score of a block: its mean key's product with the query. -/
def score (q : Fin 256 → Fin 128 → ℝ) (kk : Fin 32 → Fin 256 → Fin 128 → ℝ) (r : Fin 256) (j : Fin 32) : ℝ :=
  ∑ d, ((∑ i, kk j i d) * (1 / 256)) * q r d

/-- A row of the values' block: a value's column, or ones. -/
def vrow (v : Fin 32 → Fin 256 → Fin 128 → EReal) (e : Fin 144) (j : Fin 32) (i : Fin 256) : EReal :=
  if h : e.val < 128 then v j i ⟨e.val, h⟩ else 1

/-- What the point's blocks hold of head `c`. -/
structure Blocks : Prop where
  hQ : ∀ (r : Fin 256) (d : Fin 128), Q (ix2 r ⟨128 * c.val + d.val, by omega⟩) = (q r d : EReal)
  hK : ∀ (j : Fin 32) (i e : Fin 256), K (ix2 ⟨256 * j.val + i.val, by omega⟩ ⟨256 * c.val + e.val, by omega⟩)
    = if h : e.val < 128 then (kk j i ⟨e.val, h⟩ : EReal) else if e.val - 128 = j.val then 1 else 0
  hW : ∀ (j : Fin 32) (e : Fin 144) (i : Fin 256), W (ix3 j ⟨144 * c.val + e.val, by omega⟩ i) = vrow v e j i
  hM : ∀ (j : Fin 32) (d : Fin 128), M (ix3 j 0 ⟨128 * c.val + d.val, by omega⟩) = (((∑ i, kk j i d) * (1 / 256) : ℝ) : EReal)

variable {n c r Q K W M q kk v}
variable (B : Blocks c Q K W M q kk v)
include B

theorem score_at (j : Fin 32) : k0_pay99 (F := Ideal) (qwin Q c) (mwin M c) (ix2 j r) = (score q kk r j : EReal) := by
  pointwise [k0_pay99, k0_pay95]
  unfold score
  rw [coe_sum]
  exact Finset.sum_congr rfl fun d _ => by rw [mwin_at, qwin_at, B.hQ, B.hM, ← EReal.coe_mul]

/-- A sum over 256 columns as two sums over 128. -/
theorem sum_halves (f : Fin 256 → EReal) :
    ∑ e, f e = (∑ d : Fin 128, f ⟨d.val, by omega⟩) + ∑ d : Fin 128, f ⟨128 + d.val, by omega⟩ :=
  Fin.sum_univ_add (a := 128) (b := 128) f

/-- The one-hot rows pick the block's bias. -/
theorem onehot_sum (T : Finset (Fin 32)) (j : Fin 32) :
    ∑ d : Fin 128, (if (d : ℕ) = j.val then (1 : EReal) else 0) * (if h : d.val < 32 then bias T ⟨d.val, h⟩ else ⊥) = bias T j := by
  rw [Finset.sum_eq_single (⟨j.val, by omega⟩ : Fin 128)]
  · simp
  · intro d _ hd
    rw [if_neg (fun h => hd (Fin.ext h)), zero_mul]
  · intro h; exact absurd (Finset.mem_univ _) h

/-- The head's selection and its logits: of a chosen block the products, of the others −∞. -/
theorem logits : ∃ T, IsTop n.val (maskd n.val (score q kk r) ∅) 3 T ∧
    ∀ (j : Fin 32) (i : Fin 256), lg (F := Ideal) (qa n.val Q M c) K c j.val (ix2 i r)
      = if j ∈ T then (dotp q kk r j i : EReal) else ⊥ := by
  obtain ⟨T, hT, hq⟩ := aug n (k0_pay99 (F := Ideal) (qwin Q c) (mwin M c)) r (score q kk r) (fun j => score_at B j) (k0_pay95 (qwin Q c))
  refine ⟨T, hT, fun j i => ?_⟩
  have e : lg (F := Ideal) (qa n.val Q M c) K c j.val (ix2 i r)
      = ∑ e : Fin 256, kwin K c j.val (ix2 i e) * qa n.val Q M c (ix2 r e) := by pointwise [lg, fill, k0_pay2]
  rw [e, sum_halves B]
  have e1 : ∀ d : Fin 128, kwin K c j.val (ix2 i ⟨d.val, by omega⟩) * qa n.val Q M c (ix2 r ⟨d.val, by omega⟩) = ((kk j i d * q r d : ℝ) : EReal) := fun d => by
    rw [kwin_at, B.hK, dif_pos d.isLt, qa, qaug, hq, dif_pos d.isLt, EReal.coe_mul]
    congr 1
    pointwise [k0_pay95]
    rw [qwin_at, B.hQ]
  have e2 : ∀ d : Fin 128, kwin K c j.val (ix2 i ⟨128 + d.val, by omega⟩) * qa n.val Q M c (ix2 r ⟨128 + d.val, by omega⟩)
      = (if (d : ℕ) = j.val then (1 : EReal) else 0) * (if h : d.val < 32 then bias T ⟨d.val, h⟩ else ⊥) := fun d => by
    have h1 : ¬ 128 + d.val < 128 := by omega
    have h2 : 128 + d.val - 128 = d.val := by omega
    rw [kwin_at, B.hK, qa, qaug, hq]
    simp only [h1, h2, dite_false]
  rw [Finset.sum_congr rfl fun d _ => e1 d, Finset.sum_congr rfl fun d _ => e2 d, onehot_sum B, ← coe_sum]
  unfold bias dotp
  split
  · rw [add_zero]
  · rw [EReal.add_bot]

end Value

end Cert.Proof.Head
end
-- ==== Proof.HeadSum.lean ====
/- One head's carried maximum and accumulator over the extended reals, group by group: the accumulator is the attended
   values' sum weighted against the maximum, whatever real that is, so the stored quotient is the attention of `Spec`. -/
module

public import proofs.«01_k».proof.Proof.HeadValue

@[expose] public section

noncomputable section

namespace Cert.Proof.Head

open Cert.KernelIdeal Cert.KernelIdeal.Gen Cert.Proof.Spec
open Idealize.ShloMosaic Idealize.ShloMosaic.TcCoe

theorem cmp_sle_small {a b : ℕ} (ha : a < 256) (hb : b < 256) :
    IntOp.cmpi .sle (BitVec.ofNat 32 a) (BitVec.ofNat 32 b) = BitVec.ofBool (decide (a ≤ b)) := by
  show BitVec.ofBool (BitVec.sle _ _) = _
  rw [BitVec.sle_eq_decide, BitVec.toInt_eq_toNat_of_lt, BitVec.toInt_eq_toNat_of_lt, BitVec.toNat_ofNat, BitVec.toNat_ofNat,
    Nat.mod_eq_of_lt (by omega), Nat.mod_eq_of_lt (by omega)]
  · simp
  · rw [BitVec.toNat_ofNat]; omega
  · rw [BitVec.toNat_ofNat]; omega

/-- A maximum of logits is below +∞. -/
theorem fold_lt_top {ι : Type} [Fintype ι] (f : ι → EReal) (h : ∀ i, f i < ⊤) : Finset.fold max (⊥ : EReal) f Finset.univ < ⊤ :=
  (Finset.fold_max_lt _).mpr ⟨bot_lt_top, fun i _ => h i⟩

theorem exists_real {x : EReal} (m : ℝ) (h : (m : EReal) ≤ x) (h' : x < ⊤) : ∃ m' : ℝ, x = m' := by
  induction x with
  | bot => exact absurd (le_bot_iff.mp h) (EReal.coe_ne_bot m)
  | top => exact absurd h' (lt_irrefl _)
  | coe x => exact ⟨x, rfl⟩

/-- The weight of a logit against a real maximum, where the logit is attended. -/
def wt (p : Prop) [Decidable p] (x m : ℝ) : EReal := if p then (Real.exp (s0 * (x - m)) : EReal) else 0

theorem exp2_wt (p : Prop) [Decidable p] (x m : ℝ) :
    Ideal.exp2 (((if p then (x : EReal) else ⊥) - (m : EReal)) * (cc : EReal)) = wt p x m := by
  unfold wt
  split
  · exact weight x m
  · exact weight_bot m

/-- A sum over 1024 rows as four over 256. -/
theorem sum_four (f : Fin 1024 → EReal) :
    ∑ x, f x = (∑ i : Fin 256, f ⟨i.val, by omega⟩) + (∑ i : Fin 256, f ⟨256 + i.val, by omega⟩)
      + (∑ i : Fin 256, f ⟨512 + i.val, by omega⟩) + ∑ i : Fin 256, f ⟨768 + i.val, by omega⟩ := by
  rw [Fin.sum_univ_add (a := 768) (b := 256) f, Fin.sum_univ_add (a := 512) (b := 256) (fun i => f (Fin.castAdd 256 i)),
    Fin.sum_univ_add (a := 256) (b := 256) (fun i => f (Fin.castAdd 256 (Fin.castAdd 256 i)))]
  rfl

/-- Four blocks' maximum over a real one is real. -/
theorem stepM_real (m : Vec Ideal S1x256 .f32) (b : Fin 4 → Vec Ideal S256x256 .f32) (r : Fin 256) (x : ℝ)
    (hm : m (ix2 0 r) = (x : EReal)) (hb : ∀ a i, b a (ix2 i r) < ⊤) : ∃ x' : ℝ, stepM (F := Ideal) m b (ix2 0 r) = (x' : EReal) := by
  pointwise [stepM, k0_pay12, k0_pay11]
  simp only [ninf_eq, hm]
  refine exists_real x ?_ (max_lt (max_lt (max_lt (max_lt (EReal.coe_lt_top x) ?_) ?_) ?_) ?_)
  · exact (((le_max_left _ _).trans (le_max_left _ _)).trans (le_max_left _ _)).trans (le_max_left _ _)
  all_goals exact fold_lt_top _ fun i => hb _ i

/-- Four blocks' weighted values join the accumulator, which moves to the new maximum. -/
theorem stepA_at (m : Vec Ideal S1x256 .f32) (a : Vec Ideal S144x256 .f32) (b : Fin 4 → Vec Ideal S256x256 .f32)
    (w : Fin 4 → Vec Ideal S1x144x256 .bf16) (e : Fin 144) (r : Fin 256) (x x' : ℝ) (p : Fin 4 → Prop) [∀ k, Decidable (p k)]
    (S : Fin 4 → Fin 256 → ℝ) (hm : m (ix2 0 r) = (x : EReal)) (hm' : stepM (F := Ideal) m b (ix2 0 r) = (x' : EReal))
    (hb : ∀ k i, b k (ix2 i r) = if p k then (S k i : EReal) else ⊥) :
    stepA (F := Ideal) m a b w (ix2 e r) = a (ix2 e r) * (Real.exp (s0 * (x - x')) : EReal)
      + ∑ k, ∑ i, w k (ix3 0 e i) * wt (p k) (S k i) x' := by
  have hM : k0_pay12 (F := Ideal) (k0_pay11 m (b 0) (b 1) (b 2)) (b 3) = stepM m b := rfl
  unfold stepA
  generalize stepM m b = mm at hM hm'
  pointwise [k0_pay16, k0_pay13, k0_pay14, k0_pay15]
  rw [hM]
  change _ * Ideal.exp2 _ + _ = _
  rw [sum_four, Fin.sum_univ_four, c_eq, hm, hm', weight]
  have h0 : ∀ k i, Ideal.exp2 ((b k (ix2 i r) - (x' : EReal)) * (cc : EReal)) = wt (p k) (S k i) x' := fun k i => by
    rw [hb, exp2_wt]
  have e1 : ∀ i : Fin 256, ¬ 256 + i.val < 256 := fun i => by omega
  have e1' : ∀ i : Fin 256, 256 + i.val - 256 = i.val := fun i => by omega
  have e2 : ∀ i : Fin 256, ¬ 512 + i.val < 256 := fun i => by omega
  have e2' : ∀ i : Fin 256, 512 + i.val - 256 = 256 + i.val := fun i => by omega
  have e3 : ∀ i : Fin 256, ¬ 768 + i.val < 256 := fun i => by omega
  have e3' : ∀ i : Fin 256, 768 + i.val - 256 = 512 + i.val := fun i => by omega
  have e0 : ∀ i : Fin 256, i.val < 256 := fun i => i.isLt
  have ex : ∀ y : EReal, (FloatOps.exp2 (F := Ideal) (φ := .f32) y : EReal) = Ideal.exp2 y := fun y => rfl
  simp only [e0, e1, e1', e2, e2', e3, e3', dite_true, dite_false]
  simp only [ex, h0]

/-! ## The invariant -/

section Value

variable {n : Fin 32} {c : Fin 2} {r : Fin 256} {Q : Vec Ideal S256x256 .bf16} {K : Vec Ideal S8192x512 .bf16}
  {W : Vec Ideal S32x288x256 .bf16} {M : Vec Ideal S32x1x256 .f32}
  {q : Fin 256 → Fin 128 → ℝ} {kk : Fin 32 → Fin 256 → Fin 128 → ℝ} {v : Fin 32 → Fin 256 → Fin 128 → EReal}

/-- The mass over the own block and the chosen blocks below `N`. -/
def upTo (n : Fin 32) (r : Fin 256) (T : Finset (Fin 32)) (N : ℕ) (f : Fin 32 → Fin 256 → EReal) : EReal :=
  (∑ i : Fin 256, if i ≤ r then f n i else 0)
    + ∑ j ∈ Finset.range N, if h : j < 32 then (if (⟨j, h⟩ : Fin 32) ∈ T then ∑ i : Fin 256, f ⟨j, h⟩ i else 0) else 0

theorem coe_mul_upTo (n r T N) {a : ℝ} (ha : 0 ≤ a) (f : Fin 32 → Fin 256 → EReal) :
    (a : EReal) * upTo n r T N f = upTo n r T N fun j i => (a : EReal) * f j i := by
  unfold upTo
  rw [EReal.left_distrib_of_nonneg_of_ne_top (EReal.coe_nonneg.mpr ha) (EReal.coe_ne_top a), coe_mul_sum _ ha, coe_mul_sum _ ha]
  congr 1
  · exact Finset.sum_congr rfl fun i _ => by split <;> simp
  · refine Finset.sum_congr rfl fun j _ => ?_
    split
    · split <;> simp [coe_mul_sum _ ha]
    · simp

/-- Once every block below `n` is passed, that is the whole mass. -/
theorem upTo_eq (n r) {T : Finset (Fin 32)} (hT : ∀ j ∈ T, j.val < n.val) {N : ℕ} (hN : n.val ≤ N) (f : Fin 32 → Fin 256 → EReal) :
    upTo n r T N f = mass n r T f := by
  unfold upTo mass
  congr 1
  set g : ℕ → EReal := fun j => if h : j < 32 then (if (⟨j, h⟩ : Fin 32) ∈ T then ∑ i : Fin 256, f ⟨j, h⟩ i else 0) else 0 with hg
  have h0 : ∀ j, n.val ≤ j → g j = 0 := fun j hj => by
    rw [hg]; dsimp only
    split
    · rw [if_neg]
      intro h; have := hT _ h; simp only at this; omega
    · rfl
  have e1 : ∀ L, n.val ≤ L → ∑ j ∈ Finset.range L, g j = ∑ j ∈ Finset.range n.val, g j := fun L hL =>
    (Finset.sum_subset (Finset.range_mono hL) fun j _ hj => h0 j (by rw [Finset.mem_range] at hj; omega)).symm
  rw [e1 N hN, ← e1 32 (by omega), Finset.sum_range]
  exact Finset.sum_congr rfl fun j _ => by rw [hg]; simp

theorem upTo_step (n r T) (N : ℕ) (hN : N + 4 ≤ 32) (f : Fin 32 → Fin 256 → EReal) :
    upTo n r T (N + 4) f = upTo n r T N f
      + ∑ a : Fin 4, if (⟨N + a.val, by omega⟩ : Fin 32) ∈ T then ∑ i : Fin 256, f ⟨N + a.val, by omega⟩ i else 0 := by
  unfold upTo
  rw [Finset.sum_range_add, ← add_assoc]
  congr 1
  rw [Finset.sum_range]
  refine Finset.sum_congr rfl fun a _ => ?_
  rw [dif_pos]

variable (B : Blocks c Q K W M q kk v)
include B

theorem p97_at (i : Fin 256) : k0_pay97 (F := Ideal) (qwin Q c) (kown K c n.val) (ix2 i r)
    = if i ≤ r then (dotp q kk r n i : EReal) else ⊥ := by
  pointwise [k0_pay97, k0_pay95]
  rw [mask_eq, cmp_sle_small i.isLt r.isLt]
  have e : ∑ x : Fin 128, kown K c n.val (ix2 i x) * qwin Q c (ix2 r x) = (dotp q kk r n i : EReal) := by
    unfold dotp
    rw [coe_sum]
    refine Finset.sum_congr rfl fun d _ => ?_
    rw [kown_at, qwin_at, B.hQ, EReal.coe_mul]
    congr 1
    exact (B.hK n i ⟨d.val, by omega⟩).trans (by rw [dif_pos d.isLt])
  rw [e]
  by_cases h : i ≤ r
  · have : i.val ≤ r.val := h
    simp [h, Scalar.select]
  · have : ¬ i.val ≤ r.val := h
    simp [h, Scalar.select]

theorem own_real : ∃ m : ℝ, m0 (F := Ideal) (qwin Q c) (kown K c n.val) (ix2 0 r) = (m : EReal) := by
  pointwise [m0, k0_pay101]
  simp only [ninf_eq, p97_at B]
  refine exists_real (dotp q kk r n r) ?_ (fold_lt_top _ fun i => by split <;> simp [EReal.coe_lt_top])
  exact (Finset.le_fold_max _).mpr (Or.inr ⟨r, Finset.mem_univ r, by simp⟩)

theorem own_sum (m : ℝ) (hm : m0 (F := Ideal) (qwin Q c) (kown K c n.val) (ix2 0 r) = (m : EReal)) (e : Fin 144) :
    a0 (F := Ideal) (qwin Q c) (kown K c n.val) (vwin W c n.val) (ix2 e r)
      = ∑ i : Fin 256, if i ≤ r then (Real.exp (s0 * (dotp q kk r n i - m)) : EReal) * vrow v e n i else 0 := by
  have hm' : k0_pay101 (F := Ideal) (qwin Q c) (kown K c n.val) (ix2 0 r) = (m : EReal) := hm
  pointwise [a0, k0_pay104, k0_pay103, k0_pay102]
  have ex : ∀ y : EReal, (FloatOps.exp2 (F := Ideal) (φ := .f32) y : EReal) = Ideal.exp2 y := fun y => rfl
  simp only [ex, hm', p97_at B, c_eq, exp2_wt, vwin_at, B.hW]
  refine Finset.sum_congr rfl fun i _ => ?_
  unfold wt
  split
  · exact mul_comm _ _
  · exact mul_zero _

/-- After `g` groups the accumulator is the mass of the blocks passed, against the carried maximum. -/
theorem car_inv {T : Finset (Fin 32)}
    (hl : ∀ (j : Fin 32) (i : Fin 256), lg (F := Ideal) (qa n.val Q M c) K c j.val (ix2 i r)
      = if j ∈ T then (dotp q kk r j i : EReal) else ⊥) (g : ℕ) (hg : g ≤ 8) :
    ∃ m : ℝ, (car (F := Ideal) (qa n.val Q M c) K W c (own n.val Q K W c) g).1 (ix2 0 r) = (m : EReal) ∧
      ∀ e : Fin 144, (car (F := Ideal) (qa n.val Q M c) K W c (own n.val Q K W c) g).2 (ix2 e r)
        = upTo n r T (4 * g) fun j i => (Real.exp (s0 * (dotp q kk r j i - m)) : EReal) * vrow v e j i := by
  induction g with
  | zero =>
    obtain ⟨m, hm⟩ := own_real (n := n) (r := r) B
    simp only [car, own]
    refine ⟨m, hm, fun e => ?_⟩
    rw [own_sum B m hm e]
    unfold upTo
    simp
  | succ g ih =>
    obtain ⟨m, hm, ha⟩ := ih (by omega)
    have hb : ∀ (k : Fin 4) (i : Fin 256), lg (F := Ideal) (qa n.val Q M c) K c (4 * g + k.val) (ix2 i r)
        = if (⟨4 * g + k.val, by omega⟩ : Fin 32) ∈ T then (dotp q kk r ⟨4 * g + k.val, by omega⟩ i : EReal) else ⊥ :=
      fun k i => hl ⟨4 * g + k.val, by omega⟩ i
    simp only [car]
    generalize car (F := Ideal) (qa n.val Q M c) K W c (own n.val Q K W c) g = s at hm ha
    obtain ⟨m', hm'⟩ := stepM_real s.1 (fun a => lg (F := Ideal) (qa n.val Q M c) K c (4 * g + a.val)) r m hm
      (fun k i => by rw [hb]; split <;> simp [EReal.coe_lt_top])
    refine ⟨m', hm', fun e => ?_⟩
    rw [stepA_at s.1 s.2 _ _ e r m m' (fun k => (⟨4 * g + k.val, by omega⟩ : Fin 32) ∈ T) (fun k i => dotp q kk r ⟨4 * g + k.val, by omega⟩ i)
      hm hm' hb, ha, show 4 * (g + 1) = 4 * g + 4 from by ring, upTo_step n r T (4 * g) (by omega), mul_comm,
      coe_mul_upTo n r T _ (Real.exp_pos _).le]
    congr 1
    · congr 1
      funext j i
      rw [← mul_assoc, ← EReal.coe_mul, ← Real.exp_add]
      congr 3
      ring
    · refine Finset.sum_congr rfl fun k _ => ?_
      unfold wt
      split
      · exact Finset.sum_congr rfl fun i _ => by
          rw [vwin_at W c ⟨4 * g + k.val, by omega⟩ e i, B.hW, mul_comm]
      · simp

/-- The head's output is the attention of the own block and the three chosen ones. -/
theorem headOut_at : ∃ T, IsTop n.val (maskd n.val (score q kk r) ∅) 3 T ∧
    ∀ e : Fin 128, headOut (F := Ideal) n.val Q K W M c (ix2 r e) = attn n r T (dotp q kk r) fun j i => v j i e := by
  obtain ⟨T, hT, hl⟩ := logits (n := n) (r := r) B
  refine ⟨T, hT, fun e => ?_⟩
  obtain ⟨m, -, ha⟩ := car_inv B hl ((n.val + 3) / 4) (by omega)
  have hN : n.val ≤ 4 * ((n.val + 3) / 4) := by omega
  unfold headOut
  generalize (car (F := Ideal) (qa n.val Q M c) K W c (own n.val Q K W c) ((n.val + 3) / 4)).2 = a at ha
  pointwise [k0_pay132]
  rw [ha, ha, upTo_eq n r hT.sub hN, upTo_eq n r hT.sub hN, ← attn_shift n r T (dotp q kk r) _ m]
  congr 1
  · congr 1; funext j i; congr 1
    unfold vrow; rw [dif_pos e.isLt]
  · congr 1; funext j i
    unfold vrow; rw [dif_neg (by decide), mul_one]

end Value

end Cert.Proof.Head
end
-- ==== Proof.Rows.lean ====
/- The rows of the queries and of the keys one head of one batch reads. -/
module

public import proofs.«01_k».proof.Proof.Spec

@[expose] public section

noncomputable section

namespace Cert.Proof.Spec

/-- Key `i` of block `j`. -/
def tok (j : Fin 32) (i : Fin 256) : Fin 8192 := ⟨256 * j.val + i.val, by omega⟩

/-- Head `h`'s rows of block `n`, of batch `b`. -/
def blockRows (X : Fin 2 → Fin 8192 → Fin 8 → Fin 128 → ℝ) (b : Fin 2) (h : Fin 8) (n : Fin 32) (r : Fin 256) (d : Fin 128) : ℝ :=
  X b (tok n r) h d

end Cert.Proof.Spec

end
-- ==== Proof.KernelIdealValue.lean ====
/- What the attention kernel stores over the extended reals, from real queries and keys: the host's packing read at an
   index, each grid point's blocks as the rows `HeadValue` asks for, and so the attention of `Spec` at each row, head and
   lane. -/
module

public import proofs.«01_k».proof.Proof.KernelIdealResult
public import proofs.«01_k».proof.Proof.HeadSum
public import proofs.«01_k».proof.Proof.Rows
public import Idealize.ShloMosaic.Lib.Pointwise
public import Idealize.ShloMosaic.Lib.StableHlo.ReadAt

@[expose] public section

noncomputable section

namespace Cert.Proof.KernelIdeal

open Cert.KernelIdeal Cert.KernelIdeal.Gen Cert.Proof.Spec Cert.Proof.Head
open Idealize.ShloMosaic Idealize.ShloMosaic.TcCoe Idealize.ShloMosaic.Tactic

variable (m : (ℓ : Loc nD τ sig) → Buf (Elt Ideal) ℓ) (c : Dev nD)

/-- The arguments. -/
abbrev argQ : Vec Ideal S2x8192x8x128 .f32 := m ((c.tc : Thread nD τ).loc main_arg0)
abbrev argK : Vec Ideal S2x8192x8x128 .f32 := m ((c.tc : Thread nD τ).loc main_arg1)
abbrev argV : Vec Ideal S2x8192x8x128 .f32 := m ((c.tc : Thread nD τ).loc main_arg2)

/-! ## The host's packing -/

theorem packedQ (y : Fin 16384) (z : Fin 1024) : (V m c main_v1 : Vec Ideal S16384x1024 .bf16) (ix2 y z)
    = argQ m c (ix4 ⟨y.val / 8192, by omega⟩ ⟨y.val % 8192, by omega⟩ ⟨z.val / 128, by omega⟩ ⟨z.val % 128, by omega⟩) := by
  unfold V
  after_reads_at

theorem onehot_word {a b : ℕ} (ha : a < 2 ^ 31) (hb : b < 2 ^ 31) :
    Scalar.select (IntOp.cmpi .eq (BitVec.ofNat 32 a) (BitVec.ofNat 32 b)) (1 : EReal) 0 = if a = b then 1 else 0 := by
  have e : (BitVec.ofNat 32 a = BitVec.ofNat 32 b) ↔ a = b := by
    constructor
    · intro h
      have := congrArg BitVec.toNat h
      rw [BitVec.toNat_ofNat, BitVec.toNat_ofNat, Nat.mod_eq_of_lt (by omega), Nat.mod_eq_of_lt (by omega)] at this
      exact this
    · rintro rfl; rfl
  by_cases h : a = b
  · simp [Scalar.select, IntOp.cmpi, h]
  · have h' : ¬ BitVec.ofNat 32 a = BitVec.ofNat 32 b := fun hh => h (e.mp hh)
    simp [Scalar.select, IntOp.cmpi, h, beq_eq_false_iff_ne.mpr h']

theorem packedK (y : Fin 16384) (z : Fin 2048) : (V m c main_v10 : Vec Ideal S16384x2048 .bf16) (ix2 y z)
    = if z.val % 256 < 128 then argK m c (ix4 ⟨y.val / 8192, by omega⟩ ⟨y.val / 256 % 32 * 256 + y.val % 256, by omega⟩ ⟨z.val / 256, by omega⟩ ⟨z.val % 256 % 128, by omega⟩)
      else if z.val % 256 - 128 = y.val / 256 % 32 then 1 else 0 := by
  unfold V
  after_reads_at
  split
  · after_reads_at
    refine congrArg (argK m c) (funext fun (a : Fin 4) => Fin.ext ?_)
    match a with
    | ⟨0, _⟩ => rfl
    | ⟨1, _⟩ => rfl
    | ⟨2, _⟩ => rfl
    | ⟨3, _⟩ => show z.val % 256 = z.val % 256 % 128; omega
  · rw [← onehot_word (by omega) (by omega)]
    after_reads_at

theorem packedV (y : Fin 64) (z : Fin 1152) (w : Fin 256) : (V m c main_v16 : Vec Ideal S64x1152x256 .bf16) (ix3 y z w)
    = if h : z.val % 144 < 128 then argV m c (ix4 ⟨y.val / 32, by omega⟩ ⟨y.val % 32 * 256 + w.val, by omega⟩ ⟨z.val / 144, by omega⟩ ⟨z.val % 144, h⟩)
      else 1 := by
  unfold V
  after_reads_at
  split
  · after_reads_at
  · after_reads_at

theorem packedM (y : Fin 64) (z : Fin 1024) : (V m c main_v21 : Vec Ideal S64x1x1024 .f32) (ix3 y 0 z)
    = (∑ x : Fin 256, argK m c (ix4 ⟨y.val / 32, by omega⟩ ⟨y.val % 32 * 256 + x.val, by omega⟩ ⟨z.val / 128, by omega⟩ ⟨z.val % 128, by omega⟩))
      * Ideal.ofBits .f32 998244352#32 := by
  unfold V
  after_reads_at

theorem per256 : Ideal.ofBits .f32 998244352#32 = ((1 / 256 : ℝ) : EReal) := by
  simp [Ideal.ofBits, Ideal.ieee]
  rw [← EReal.coe_mul]
  congr 1
  norm_num

/-! ## The blocks -/

section Blocks

variable (b : Fin 2) (p : Fin 4) (n : Fin 32)

theorem iblkQ (r e : Fin 256) : iblk m c 0 (point b p n) (ix2 r e)
    = (V m c main_v1 : Vec Ideal S16384x1024 .bf16) (ix2 ⟨(b.val * 32 + n.val) * 256 + r.val, by omega⟩ ⟨p.val * 256 + e.val, by omega⟩) := by
  obtain ⟨p0, p1, p2⟩ := point_coords b p n
  obtain ⟨h0, h1⟩ := tr0 (grid0.coords (point b p n))
  unfold iblk
  rw [View.read_apply]
  refine congrArg (V m c main_v1 : Vec Ideal S16384x1024 .bf16) (funext fun (a : Fin 2) => Fin.ext ?_)
  match a with
  | ⟨0, _⟩ => show cc0_transform_0 (grid0.coords (point b p n)) 0 * 256 + 1 * r.val = (b.val * 32 + n.val) * 256 + r.val
              rw [h0, p0, p2]; omega
  | ⟨1, _⟩ => show cc0_transform_0 (grid0.coords (point b p n)) 1 * 256 + 1 * e.val = p.val * 256 + e.val
              rw [h1, p1]; omega

theorem iblkK (y : Fin 8192) (e : Fin 512) : iblk m c 1 (point b p n) (ix2 y e)
    = (V m c main_v10 : Vec Ideal S16384x2048 .bf16) (ix2 ⟨b.val * 8192 + y.val, by omega⟩ ⟨p.val * 512 + e.val, by omega⟩) := by
  obtain ⟨p0, p1, p2⟩ := point_coords b p n
  obtain ⟨h0, h1⟩ := tr1 (grid0.coords (point b p n))
  unfold iblk
  rw [View.read_apply]
  refine congrArg (V m c main_v10 : Vec Ideal S16384x2048 .bf16) (funext fun (a : Fin 2) => Fin.ext ?_)
  match a with
  | ⟨0, _⟩ => show cc0_transform_1 (grid0.coords (point b p n)) 0 * 8192 + 1 * y.val = b.val * 8192 + y.val
              rw [h0, p0]; omega
  | ⟨1, _⟩ => show cc0_transform_1 (grid0.coords (point b p n)) 1 * 512 + 1 * e.val = p.val * 512 + e.val
              rw [h1, p1]; omega

theorem iblkV (j : Fin 32) (e : Fin 288) (i : Fin 256) : iblk m c 2 (point b p n) (ix3 j e i)
    = (V m c main_v16 : Vec Ideal S64x1152x256 .bf16) (ix3 ⟨b.val * 32 + j.val, by omega⟩ ⟨p.val * 288 + e.val, by omega⟩ i) := by
  obtain ⟨p0, p1, p2⟩ := point_coords b p n
  obtain ⟨h0, h1, h2⟩ := tr2 (grid0.coords (point b p n))
  unfold iblk
  rw [View.read_apply]
  refine congrArg (V m c main_v16 : Vec Ideal S64x1152x256 .bf16) (funext fun (a : Fin 3) => Fin.ext ?_)
  match a with
  | ⟨0, _⟩ => show cc0_transform_2 (grid0.coords (point b p n)) 0 * 32 + 1 * j.val = b.val * 32 + j.val
              rw [h0, p0]; omega
  | ⟨1, _⟩ => show cc0_transform_2 (grid0.coords (point b p n)) 1 * 288 + 1 * e.val = p.val * 288 + e.val
              rw [h1, p1]; omega
  | ⟨2, _⟩ => show cc0_transform_2 (grid0.coords (point b p n)) 2 * 256 + 1 * i.val = i.val
              rw [h2]; omega

theorem iblkM (j : Fin 32) (e : Fin 256) : iblk m c 3 (point b p n) (ix3 j 0 e)
    = (V m c main_v21 : Vec Ideal S64x1x1024 .f32) (ix3 ⟨b.val * 32 + j.val, by omega⟩ 0 ⟨p.val * 256 + e.val, by omega⟩) := by
  obtain ⟨p0, p1, p2⟩ := point_coords b p n
  obtain ⟨h0, h1, h2⟩ := tr3 (grid0.coords (point b p n))
  unfold iblk
  rw [View.read_apply]
  refine congrArg (V m c main_v21 : Vec Ideal S64x1x1024 .f32) (funext fun (a : Fin 3) => Fin.ext ?_)
  match a with
  | ⟨0, _⟩ => show cc0_transform_3 (grid0.coords (point b p n)) 0 * 32 + 1 * j.val = b.val * 32 + j.val
              rw [h0, p0]; omega
  | ⟨1, _⟩ => show cc0_transform_3 (grid0.coords (point b p n)) 1 * 1 + 1 * 0 = 0
              rw [h1]
  | ⟨2, _⟩ => show cc0_transform_3 (grid0.coords (point b p n)) 2 * 256 + 1 * e.val = p.val * 256 + e.val
              rw [h2, p1]; omega

variable {Q K : Fin 2 → Fin 8192 → Fin 8 → Fin 128 → ℝ}
  (hq : ∀ b t h d, argQ m c (ix4 b t h d) = (Q b t h d : EReal)) (hk : ∀ b t h d, argK m c (ix4 b t h d) = (K b t h d : EReal))

/-- Head `x` of pair `p`. -/
def headOf (p : Fin 4) (x : Fin 2) : Fin 8 := ⟨2 * p.val + x.val, by omega⟩

include hq hk in
theorem blocks (x : Fin 2) : Blocks x (iblk m c 0 (point b p n)) (iblk m c 1 (point b p n)) (iblk m c 2 (point b p n)) (iblk m c 3 (point b p n))
    (blockRows Q b (headOf p x) n) (blockRows K b (headOf p x)) fun j i e => argV m c (ix4 b (tok j i) (headOf p x) e) where
  hQ r d := by
    rw [iblkQ, packedQ]
    refine Eq.trans (congrArg (argQ m c) (funext fun (a : Fin 4) => Fin.ext ?_)) (hq b (tok n r) (headOf p x) d)
    match a with
    | ⟨0, _⟩ => show ((b.val * 32 + n.val) * 256 + r.val) / 8192 = b.val; omega
    | ⟨1, _⟩ => show ((b.val * 32 + n.val) * 256 + r.val) % 8192 = 256 * n.val + r.val; omega
    | ⟨2, _⟩ => show (p.val * 256 + (128 * x.val + d.val)) / 128 = 2 * p.val + x.val; omega
    | ⟨3, _⟩ => show (p.val * 256 + (128 * x.val + d.val)) % 128 = d.val; omega
  hK j i e := by
    rw [iblkK, packedK]
    have e1 : (p.val * 512 + (256 * x.val + e.val)) % 256 = e.val := by omega
    have e2 : (b.val * 8192 + (256 * j.val + i.val)) / 256 % 32 = j.val := by omega
    dsimp only
    simp only [e1, e2]
    by_cases he : e.val < 128
    · rw [if_pos he, dif_pos he]
      refine Eq.trans (congrArg (argK m c) (funext fun (a : Fin 4) => Fin.ext ?_)) (hk b (tok j i) (headOf p x) ⟨e.val, he⟩)
      match a with
      | ⟨0, _⟩ => show (b.val * 8192 + (256 * j.val + i.val)) / 8192 = b.val; omega
      | ⟨1, _⟩ => show j.val * 256 + (b.val * 8192 + (256 * j.val + i.val)) % 256 = 256 * j.val + i.val; omega
      | ⟨2, _⟩ => show (p.val * 512 + (256 * x.val + e.val)) / 256 = 2 * p.val + x.val; omega
      | ⟨3, _⟩ => show e.val % 128 = e.val; omega
    · rw [if_neg he, dif_neg he]
  hW j e i := by
    rw [iblkV, packedV]
    have e1 : (p.val * 288 + (144 * x.val + e.val)) % 144 = e.val := by omega
    unfold vrow
    dsimp only
    by_cases he : e.val < 128
    · rw [dif_pos he, dif_pos (by omega)]
      refine congrArg (argV m c) (funext fun (a : Fin 4) => Fin.ext ?_)
      match a with
      | ⟨0, _⟩ => show (b.val * 32 + j.val) / 32 = b.val; omega
      | ⟨1, _⟩ => show (b.val * 32 + j.val) % 32 * 256 + i.val = 256 * j.val + i.val; omega
      | ⟨2, _⟩ => show (p.val * 288 + (144 * x.val + e.val)) / 144 = 2 * p.val + x.val; omega
      | ⟨3, _⟩ => exact e1
    · rw [dif_neg he, dif_neg (by omega)]
  hM j d := by
    rw [iblkM, packedM, per256, EReal.coe_mul, coe_sum]
    refine congrArg (· * _) (Finset.sum_congr rfl fun i _ => ?_)
    refine Eq.trans (congrArg (argK m c) (funext fun (a : Fin 4) => Fin.ext ?_)) (hk b (tok j i) (headOf p x) d)
    match a with
    | ⟨0, _⟩ => show (b.val * 32 + j.val) / 32 = b.val; omega
    | ⟨1, _⟩ => show (b.val * 32 + j.val) % 32 * 256 + i.val = 256 * j.val + i.val; omega
    | ⟨2, _⟩ => show (p.val * 256 + (128 * x.val + d.val)) / 128 = 2 * p.val + x.val; omega
    | ⟨3, _⟩ => show (p.val * 256 + (128 * x.val + d.val)) % 128 = d.val; omega

include hq hk in
/-- The kernel's result at row `r` of block `n` of batch `b`, head `x` of pair `p`, lane `e`. -/
theorem kernel_at (x : Fin 2) (r : Fin 256) (e : Fin 128) (y : Fin 16384) (z : Fin 1024)
    (hy : y.val = b.val * 8192 + (tok n r).val) (hz : z.val = (headOf p x).val * 128 + e.val) :
    ∃ T, IsTop n.val (maskd n.val (score (blockRows Q b (headOf p x) n) (blockRows K b (headOf p x)) r) ∅) 3 T
      ∧ result m c (ix2 y z) = attn n r T (dotp (blockRows Q b (headOf p x) n) (blockRows K b (headOf p x)) r)
        fun j i => argV m c (ix4 b (tok j i) (headOf p x) e) := by
  obtain ⟨T, hT, h⟩ := headOut_at (n := n) (r := r) (blocks m c b p n hq hk x)
  refine ⟨T, hT, Eq.trans ?_ (h e)⟩
  obtain ⟨p0, p1, p2⟩ := point_coords b p n
  have ht : (tok n r).val = 256 * n.val + r.val := rfl
  have hh : (headOf p x).val = 2 * p.val + x.val := rfl
  rw [result_at m c y z (point b p n) r ⟨128 * x.val + e.val, by omega⟩ (by rw [p0, p2]; omega) (by rw [p1]; dsimp only; omega)]
  unfold outAt outB
  rw [p2]
  refine congr (congrArg (headOut (F := Ideal) n.val _ _ _ _) (Fin.ext ?_)) (funext fun (a : Fin 2) => Fin.ext ?_)
  · show (128 * x.val + e.val) / 128 = x.val
    omega
  · match a with
    | ⟨0, _⟩ => rfl
    | ⟨1, _⟩ => show (128 * x.val + e.val) % 128 = e.val; omega

end Blocks

end Cert.Proof.KernelIdeal

end
-- ==== Proof.RefStages.lean ====
/- The reference's stages, each a function of the queries, the keys and the values, at the indices the attention takes
   them. -/
module

public import proofs.«01_k».proof.Defs
public import proofs.«01_k».proof.Proof.Gen.ReferenceIdeal.Run
public import proofs.«01_k».proof.Proof.Spec
public import Idealize.ShloMosaic.Lib.Pointwise

@[expose] public section

noncomputable section

namespace Cert.Proof.Ref

open Cert.ReferenceIdeal Cert.ReferenceIdeal.Gen Cert.Proof.Spec
open Idealize.ShloMosaic Idealize.ShloMosaic.TcCoe Idealize.ShloMosaic.StableHlo

variable {F : FTy → Type} [FloatOps F]

/-- The block of each query. -/
def sOwn : IVec S8192 32 :=
  select (andi (cmpi .ne (signi (iotaInDim S8192 32 0)) (broadcastInDim S8192 ![] bcast_S_S8192 (signi (id (constantI S_ 32 256#32))))) (cmpi .ne (Host.remsi (iotaInDim S8192 32 0) (broadcastInDim S8192 ![] bcast_S_S8192 (id (constantI S_ 32 256#32)))) (broadcastInDim S8192 ![] bcast_S_S8192 (constantI S_ 32 0#32)))) (subi (Host.divsi (iotaInDim S8192 32 0) (broadcastInDim S8192 ![] bcast_S_S8192 (id (constantI S_ 32 256#32)))) (broadcastInDim S8192 ![] bcast_S_S8192 (constantI S_ 32 1#32))) (Host.divsi (iotaInDim S8192 32 0) (broadcastInDim S8192 ![] bcast_S_S8192 (id (constantI S_ 32 256#32))))

/-- The blocks' mean keys. -/
def sMean (k : FVec F S2x8192x8x128 .f32) : FVec F S2x32x8x128 .f32 :=
  Host.divf (Host.reduceAdd (shapeCast _ k shapeCasts_S2x8192x8x128_S2x32x256x8x128) (constant S_ .f32 0x00000000#32) reducesTo_S2x32x256x8x128_S2x32x8x128_d2 h_S_) (broadcastInDim S2x32x8x128 ![] bcast_S_S2x32x8x128 (constant S_ .f32 0x43800000#32))

/-- The blocks' scores, those not wholly past at −∞. -/
def sScore (q : FVec F S2x8192x8x128 .f32) (k : FVec F S2x8192x8x128 .f32) : FVec F S2x8192x8x32 .f32 :=
  select (broadcastInDim S2x8192x8x32 ![0, 1, 2, 3] bcast_S1x8192x1x32_S2x8192x8x32_0_1_2_3 (broadcastInDim S1x8192x1x32 ![1, 3] bcast_S8192x32_S1x8192x1x32_1_3 (cmpi .slt (broadcastInDim S8192x32 ![0, 1] bcast_S1x32_S8192x32_0_1 (broadcastInDim S1x32 ![1] bcast_S32_S1x32_1 (iotaInDim S32 32 0))) (broadcastInDim S8192x32 ![0, 1] bcast_S8192x1_S8192x32_0_1 (broadcastInDim S8192x1 ![0] bcast_S8192_S8192x1_0 sOwn))))) (transpose S2x8192x8x32 [0, 3, 1, 2] (Host.dotGeneral dot_S2x32x8x128_S2x8192x8x128_S2x8x32x8192_3_3_1_1_02_02 none (sMean k) q) transposes_S2x8x32x8192_S2x8192x8x32_0_3_1_2) (broadcastInDim S2x8192x8x32 ![] bcast_S_S2x8192x8x32 (id (constant S_ .f32 0xFF800000#32)))

/-- The three greatest scores' blocks. -/
def sIdx (q : FVec F S2x8192x8x128 .f32) (k : FVec F S2x8192x8x128 .f32) : IVec S2x8192x8x3 32 :=
  (Host.topK S2x8192x8x3 3 (FloatOps.cmpfTotal .gt) (sScore q k) sliceFits_S2x8192x8x32_S2x8192x8x3).2

/-- The blocks attended: those three and the own one. -/
def sSel (q : FVec F S2x8192x8x128 .f32) (k : FVec F S2x8192x8x128 .f32) : IVec S2x8192x8x4 32 :=
  concatenate S2x8192x8x4 3 [⟨S2x8192x8x3, (sIdx q k)⟩, ⟨S2x8192x8x1, (broadcastInDim S2x8192x8x1 ![0, 1, 2, 3] bcast_S1x8192x1x1_S2x8192x8x1_0_1_2_3 (broadcastInDim S1x8192x1x1 ![1] bcast_S8192_S1x8192x1x1_1 sOwn))⟩] concatenates_S2x8192x8x3_S2x8192x8x1_S2x8192x8x4_d3

/-- Which of them are. -/
def sValid (q : FVec F S2x8192x8x128 .f32) (k : FVec F S2x8192x8x128 .f32) : IVec S2x8192x8x4 1 :=
  concatenate S2x8192x8x4 3 [⟨S2x8192x8x3, (cmpi .slt (sIdx q k) (broadcastInDim S2x8192x8x3 ![0, 1, 2, 3] bcast_S1x8192x1x1_S2x8192x8x3_0_1_2_3 (broadcastInDim S1x8192x1x1 ![1] bcast_S8192_S1x8192x1x1_1 sOwn)))⟩, ⟨S2x8192x8x1, (broadcastInDim S2x8192x8x1 ![] bcast_S_S2x8192x8x1 (constantI S_ 1 1#1))⟩] concatenates_S2x8192x8x3_S2x8192x8x1_S2x8192x8x4_d3

/-- Their numbers, counted from the front. -/
def sWrap (q : FVec F S2x8192x8x128 .f32) (k : FVec F S2x8192x8x128 .f32) : IVec S2x8192x8x4 32 :=
  select (cmpi .slt (sSel q k) (broadcastInDim S2x8192x8x4 ![] bcast_S_S2x8192x8x4 (constantI S_ 32 0#32))) (addi (sSel q k) (broadcastInDim S2x8192x8x4 ![] bcast_S_S2x8192x8x4 (constantI S_ 32 32#32))) (sSel q k)

/-- The gathers' positions: batch, block, head. -/
def sIx (q : FVec F S2x8192x8x128 .f32) (k : FVec F S2x8192x8x128 .f32) : IVec S2x8192x8x4x3 32 :=
  concatenate S2x8192x8x4x3 4 [⟨S2x8192x8x4x1, ((broadcastInDim S2x8192x8x4x1 ![0, 1, 2, 3] bcast_S2x8192x8x4_S2x8192x8x4x1_0_1_2_3 (broadcastInDim S2x8192x8x4 ![0, 1, 2, 3] bcast_S2x1x1x1_S2x8192x8x4_0_1_2_3 (select (cmpi .slt (broadcastInDim S2x1x1x1 ![0] bcast_S2_S2x1x1x1_0 (iotaInDim S2 32 0)) (broadcastInDim S2x1x1x1 ![] bcast_S_S2x1x1x1 (constantI S_ 32 0#32))) (addi (broadcastInDim S2x1x1x1 ![0] bcast_S2_S2x1x1x1_0 (iotaInDim S2 32 0)) (broadcastInDim S2x1x1x1 ![] bcast_S_S2x1x1x1 (constantI S_ 32 2#32))) (broadcastInDim S2x1x1x1 ![0] bcast_S2_S2x1x1x1_0 (iotaInDim S2 32 0))))) : (⟨S2x8192x8x4x1, .i32⟩ : BufTy).Contents (Elt F))⟩, ⟨S2x8192x8x4x1, ((broadcastInDim S2x8192x8x4x1 ![0, 1, 2, 3] bcast_S2x8192x8x4_S2x8192x8x4x1_0_1_2_3 (sWrap q k)) : (⟨S2x8192x8x4x1, .i32⟩ : BufTy).Contents (Elt F))⟩, ⟨S2x8192x8x4x1, ((broadcastInDim S2x8192x8x4x1 ![0, 1, 2, 3] bcast_S2x8192x8x4_S2x8192x8x4x1_0_1_2_3 (broadcastInDim S2x8192x8x4 ![0, 1, 2, 3] bcast_S1x1x8x1_S2x8192x8x4_0_1_2_3 (select (cmpi .slt (broadcastInDim S1x1x8x1 ![2] bcast_S8_S1x1x8x1_2 (iotaInDim S8 32 0)) (broadcastInDim S1x1x8x1 ![] bcast_S_S1x1x8x1 (constantI S_ 32 0#32))) (addi (broadcastInDim S1x1x8x1 ![2] bcast_S8_S1x1x8x1_2 (iotaInDim S8 32 0)) (broadcastInDim S1x1x8x1 ![] bcast_S_S1x1x8x1 (constantI S_ 32 8#32))) (broadcastInDim S1x1x8x1 ![2] bcast_S8_S1x1x8x1_2 (iotaInDim S8 32 0))))) : (⟨S2x8192x8x4x1, .i32⟩ : BufTy).Contents (Elt F))⟩] concatenates_S2x8192x8x4x1_S2x8192x8x4x1_S2x8192x8x4x1_S2x8192x8x4x3_d4

/-- The keys of the blocks attended. -/
def sKg (q : FVec F S2x8192x8x128 .f32) (k : FVec F S2x8192x8x128 .f32) : FVec F S2x8192x8x4x256x128 .f32 :=
  Host.gather gather_S2x32x256x8x128_S2x8192x8x4x3_S2x8192x8x4x256x128_45_013_n_n_013_4_112561128 (shapeCast _ k shapeCasts_S2x8192x8x128_S2x32x256x8x128) (sIx q k)

/-- The values of the blocks attended. -/
def sVg (q : FVec F S2x8192x8x128 .f32) (k : FVec F S2x8192x8x128 .f32) (v : FVec F S2x8192x8x128 .f32) : FVec F S2x8192x8x4x256x128 .f32 :=
  Host.gather gather_S2x32x256x8x128_S2x8192x8x4x3_S2x8192x8x4x256x128_45_013_n_n_013_4_112561128 (shapeCast _ v shapeCasts_S2x8192x8x128_S2x32x256x8x128) (sIx q k)

/-- Which keys are attended. -/
def sMask (q : FVec F S2x8192x8x128 .f32) (k : FVec F S2x8192x8x128 .f32) : IVec S2x8192x8x4x256 1 :=
  andi (broadcastInDim S2x8192x8x4x256 ![0, 1, 2, 3, 4] bcast_S2x8192x8x4x1_S2x8192x8x4x256_0_1_2_3_4 (broadcastInDim S2x8192x8x4x1 ![0, 1, 2, 3] bcast_S2x8192x8x4_S2x8192x8x4x1_0_1_2_3 (sValid q k))) (cmpi .sle (addi (broadcastInDim S2x8192x8x4x256 ![0, 1, 2, 3, 4] bcast_S2x8192x8x4x1_S2x8192x8x4x256_0_1_2_3_4 (muli (broadcastInDim S2x8192x8x4x1 ![0, 1, 2, 3] bcast_S2x8192x8x4_S2x8192x8x4x1_0_1_2_3 (sSel q k)) (broadcastInDim S2x8192x8x4x1 ![] bcast_S_S2x8192x8x4x1 (constantI S_ 32 256#32)))) (broadcastInDim S2x8192x8x4x256 ![0, 1, 2, 3, 4] bcast_S1x1x1x1x256_S2x8192x8x4x256_0_1_2_3_4 (broadcastInDim S1x1x1x1x256 ![4] bcast_S256_S1x1x1x1x256_4 (iotaInDim S256 32 0)))) (broadcastInDim S2x8192x8x4x256 ![0, 1, 2, 3, 4] bcast_S1x8192x1x1x1_S2x8192x8x4x256_0_1_2_3_4 (broadcastInDim S1x8192x1x1x1 ![1] bcast_S8192_S1x8192x1x1x1_1 (iotaInDim S8192 32 0))))

/-- The scaled logits, masked. -/
def sLog (q : FVec F S2x8192x8x128 .f32) (k : FVec F S2x8192x8x128 .f32) : FVec F S2x8192x8x4x256 .f32 :=
  select (sMask q k) (mulf (Host.dotGeneral dot_S2x8192x8x128_S2x8192x8x4x256x128_S2x8192x8x4x256_3_5_n_34_012_012 none q (sKg q k)) (broadcastInDim S2x8192x8x4x256 ![] bcast_S_S2x8192x8x4x256 (constant S_ .f32 0x3DB504F3#32))) (broadcastInDim S2x8192x8x4x256 ![] bcast_S_S2x8192x8x4x256 (id (constant S_ .f32 0xFF800000#32)))

/-- A row's logits in one line. -/
def sFlat (q : FVec F S2x8192x8x128 .f32) (k : FVec F S2x8192x8x128 .f32) : FVec F S2x8192x8x1024 .f32 :=
  shapeCast _ (sLog q k) shapeCasts_S2x8192x8x4x256_S2x8192x8x1024

/-- A row's maximum. -/
def rowMax (x : FVec F S2x8192x8x1024 .f32) : FVec F S2x8192x8 .f32 :=
  maximumf (broadcastInDim S2x8192x8 ![] bcast_S_S2x8192x8 (constant S_ .f32 0xFF800000#32)) (Host.reduce FloatOps.maximumf x (constant S_ .f32 0xFF800000#32) reducesTo_S2x8192x8x1024_S2x8192x8_d3 h_S_)

/-- The exponentials of a row's entries over the row's `y`. -/
def overMax (x : FVec F S2x8192x8x1024 .f32) (y : FVec F S2x8192x8 .f32) : FVec F S2x8192x8x1024 .f32 :=
  Host.exp (subf x (broadcastInDim S2x8192x8x1024 ![0, 1, 2, 3] bcast_S2x8192x8x1_S2x8192x8x1024_0_1_2_3 (broadcastInDim S2x8192x8x1 ![0, 1, 2] bcast_S2x8192x8_S2x8192x8x1_0_1_2 y)))

/-- The logits' maximum. -/
def sMax (q : FVec F S2x8192x8x128 .f32) (k : FVec F S2x8192x8x128 .f32) : FVec F S2x8192x8 .f32 :=
  rowMax (sFlat q k)

/-- The exponentials of the logits over their maximum. -/
def sExp (q : FVec F S2x8192x8x128 .f32) (k : FVec F S2x8192x8x128 .f32) : FVec F S2x8192x8x1024 .f32 :=
  overMax (sFlat q k) (sMax q k)

/-- The weights. -/
def sP (q : FVec F S2x8192x8x128 .f32) (k : FVec F S2x8192x8x128 .f32) : FVec F S2x8192x8x1024 .f32 :=
  Host.divf (sExp q k) (broadcastInDim S2x8192x8x1024 ![0, 1, 2, 3] bcast_S2x8192x8x1_S2x8192x8x1024_0_1_2_3 (broadcastInDim S2x8192x8x1 ![0, 1, 2] bcast_S2x8192x8_S2x8192x8x1_0_1_2 (Host.reduceAdd (sExp q k) (constant S_ .f32 0x00000000#32) reducesTo_S2x8192x8x1024_S2x8192x8_d3 h_S_)))

/-- The reference's result. -/
def sOut (q k v : FVec F S2x8192x8x128 .f32) : FVec F S16384x1024 .bf16 :=
  truncf .bf16 (shapeCast _ (Host.dotGeneral dot_S2x8192x8x4x256_S2x8192x8x4x256x128_S2x8192x8x128_34_34_n_5_012_012 none (shapeCast _ (sP q k) shapeCasts_S2x8192x8x1024_S2x8192x8x4x256) (sVg q k v)) shapeCasts_S2x8192x8x128_S16384x1024) bitsLt_bf16_f32

set_option maxRecDepth 8192 in
set_option maxHeartbeats 4000000 in
theorem out_eq (m : (ℓ : Loc nD τ sig) → Buf (Elt F) ℓ) (c : Dev nD) :
    Cert.ReferenceIdeal.Value.res_main_v106 m c = sOut (m ((c.tc : Thread nD τ).loc main_arg0)) (m ((c.tc : Thread nD τ).loc main_arg1)) (m ((c.tc : Thread nD τ).loc main_arg2)) := rfl

end Cert.Proof.Ref
end
-- ==== Proof.Sorted.lean ====
/- A stable sort, greater first, puts the blocks in `Spec`'s order, so its first three are `Spec`'s three; and a sum over
   the three and the own block is `Spec`'s mass. -/
module

public import proofs.«01_k».proof.Proof.Spec
public import Idealize.ShloMosaic.Lib.SortFacts
public import Idealize.ShloMosaic.Lib.SortPrefix

@[expose] public section

noncomputable section

namespace Cert.Proof.Spec

open Idealize.ShloMosaic

/-- On a list in increasing order the stable sort by a key alone is the sort by the key and then the position. -/
theorem stableSort_lex {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_of_positions {n : ℕ} (R R' : Fin n → Fin n → Bool) (h : sortPositions n R = sortPositions n R') :
    sortedFrom R = sortedFrom R' := by
  funext k
  unfold sortedFrom
  rw [List.get_of_eq h]
  rfl

open scoped Classical in
/-- The order of `Spec`, decided. -/
def befB (x : Fin 32 → EReal) (k k' : Fin 32) : Bool := decide (bef x k k')

theorem befB_true {x : Fin 32 → EReal} {k k' : Fin 32} : befB x k k' = true ↔ bef x k k' := by simp [befB]
theorem befB_false {x : Fin 32 → EReal} {k k' : Fin 32} : befB x k k' = false ↔ ¬ bef x k k' := by simp [befB]

theorem sortedFrom_key (x : Fin 32 → EReal) (R : Fin 32 → Fin 32 → Bool) (hR : ∀ k k', R k k' = true ↔ x k' < x k) :
    sortedFrom R = sortedFrom (befB x) := by
  refine sortedFrom_of_positions _ _ (stableSort_lex R (befB x) (fun a b hab => ?_) _ (List.pairwise_lt_finRange 32))
  have : ¬ b < a := not_lt.mpr hab.le
  rw [Bool.eq_iff_iff, hR, befB_true]
  unfold bef
  tauto

/-- No block is before one sorted ahead of it. -/
theorem sorted_order (x : Fin 32 → EReal) (i j : Fin 32) (hij : i < j) : ¬ bef x (sortedFrom (befB x) j) (sortedFrom (befB x) i) := by
  refine befB_false.mp (sortedFrom_noInversion (befB x) (befB x) (fun a b h => ?_) (fun _ _ h => h) (fun a b c h1 h2 => ?_) i j hij)
  · rw [befB_true] at h
    rw [befB_false]
    unfold bef at *
    rintro (h' | ⟨h', h''⟩) <;> rcases h with h | ⟨h, h3⟩
    · exact absurd h (not_lt.mpr h'.le)
    · exact absurd h' (by rw [h]; exact lt_irrefl _)
    · exact absurd h (by rw [h']; exact lt_irrefl _)
    · exact absurd h3 (not_lt.mpr h''.le)
  · rw [befB_false] at *
    unfold bef at *
    rw [not_or] at *
    obtain ⟨h1, h1'⟩ := h1
    obtain ⟨h2, h2'⟩ := h2
    rw [not_lt] at *
    refine ⟨h1.trans h2, fun ⟨e, hlt⟩ => ?_⟩
    have e1 : x a = x b := le_antisymm h1 (h2.trans (le_of_eq e.symm))
    have e2 : x b = x c := e1.symm.trans e
    have g1 : ¬ a < b := fun h => h1' ⟨e1, h⟩
    have g2 : ¬ b < c := fun h => h2' ⟨e2, h⟩
    rw [not_lt] at g1 g2
    exact absurd hlt (not_lt.mpr (g2.trans g1))

/-- The first three of the sort, those of them wholly past. -/
def tops (n : ℕ) (σ : Fin 32 → Fin 32) : Finset (Fin 32) :=
  (Finset.univ.image fun a : Fin 3 => σ (a.castLE (by decide))).filter fun j => j.val < n

theorem isTop_sorted (n : ℕ) (s : Fin 32 → ℝ) :
    IsTop n (maskd n s ∅) 3 (tops n (sortedFrom (befB (maskd n s ∅)))) := by
  set x := maskd n s ∅ with hx
  set σ := sortedFrom (befB x) with hσ
  have mem : ∀ j, j ∈ tops n σ ↔ (∃ a : Fin 3, σ (a.castLE (by decide)) = j) ∧ j.val < n := fun j => by
    simp [tops]
  have lift : ∀ (j' : Fin 32) (a : Fin 3), bef x j' (σ (a.castLE (by decide))) → j'.val < n → j' ∈ tops n σ := fun j' a hb hn => by
    obtain ⟨i, hi⟩ := sortedFrom_surjective (befB x) j'
    rw [mem]
    refine ⟨?_, hn⟩
    by_cases h : i.val < 3
    · exact ⟨⟨i.val, h⟩, hi⟩
    · refine absurd hb ?_
      rw [← hi]
      exact sorted_order x _ _ (by rw [Fin.lt_def]; show a.val < i.val; omega)
  have cardim : ∀ t : Finset (Fin 3), (t.image fun a : Fin 3 => σ (a.castLE (by decide))).card = t.card := fun t =>
    Finset.card_image_of_injective t fun a b h => Fin.castLE_injective _ (sortedFrom_injective _ h)
  refine ⟨fun j hj => ((mem j).mp hj).2, fun j hj j' hn hb => ?_, ?_, ?_⟩
  · obtain ⟨⟨a, rfl⟩, -⟩ := (mem j).mp hj
    exact lift j' a hb hn
  · by_cases h : ∀ a : Fin 3, (σ (a.castLE (by decide))).val < n
    · left
      rw [tops, Finset.filter_true_of_mem, cardim]
      · rfl
      · intro j hj
        obtain ⟨a, -, rfl⟩ := Finset.mem_image.mp hj
        exact h a
    · right
      push Not at h
      obtain ⟨a, ha⟩ := h
      intro j hj
      refine lift j a (Or.inl ?_) hj
      rw [hx]
      unfold maskd
      rw [if_neg (fun h => absurd h.1 (not_lt.mpr ha)), if_pos ⟨hj, Finset.notMem_empty j⟩]
      exact EReal.bot_lt_coe _
  · exact (Finset.card_filter_le _ _).trans ((cardim _).le.trans (by simp))

/-- The sum over the four slots is the mass. -/
theorem mass_slots (n : Fin 32) (r : Fin 256) (σ : Fin 32 → Fin 32) (hσ : Function.Injective σ) (f : Fin 32 → Fin 256 → EReal) :
    (∑ a : Fin 3, if (σ (a.castLE (by decide))).val < n.val then ∑ i : Fin 256, f (σ (a.castLE (by decide))) i else 0)
      + (∑ i : Fin 256, if i ≤ r then f n i else 0) = mass n r (tops n.val σ) f := by
  unfold mass
  rw [add_comm]
  congr 1
  rw [Finset.sum_ite_mem, Finset.univ_inter]
  unfold tops
  rw [Finset.sum_filter, Finset.sum_image fun a _ b _ h => Fin.castLE_injective _ (hσ h)]

end Cert.Proof.Spec

end
-- ==== Proof.RefAt.lean ====
/- The reference's stages read at an index: the own block's number, the sorted blocks' numbers, the gathers, the softmax and
   the sum over the attended keys. -/
module

public import proofs.«01_k».proof.Proof.RefStages
public import proofs.«01_k».proof.Proof.Sorted

@[expose] public section

noncomputable section

namespace Cert.Proof.Ref

open Cert.ReferenceIdeal Cert.ReferenceIdeal.Gen Cert.Proof.Spec
open Idealize.ShloMosaic Idealize.ShloMosaic.TcCoe Idealize.ShloMosaic.StableHlo

theorem toInt_ofNat {a : ℕ} (h : a < 2 ^ 31) : (BitVec.ofNat 32 a).toInt = a := by
  rw [BitVec.toInt_eq_toNat_of_lt] <;> rw [BitVec.toNat_ofNat, Nat.mod_eq_of_lt (by omega)]
  omega
theorem slt_ofNat {a b : ℕ} (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt_eq_decide, toInt_ofNat ha, toInt_ofNat hb]
  simp
theorem sle_ofNat {a b : ℕ} (ha : a < 2 ^ 31) (hb : b < 2 ^ 31) :
    IntOp.cmpi .sle (BitVec.ofNat 32 a) (BitVec.ofNat 32 b) = BitVec.ofBool (decide (a ≤ b)) := by
  show BitVec.ofBool (BitVec.sle _ _) = _
  rw [BitVec.sle_eq_decide, toInt_ofNat ha, toInt_ofNat hb]
  simp

theorem div256 {a : ℕ} (h : a < 8192) : IntOp.divsi ArithUnit.host (BitVec.ofNat 32 a) 256#32 = BitVec.ofNat 32 (a / 256) := by
  unfold IntOp.divsi
  rw [if_neg (by unfold IntOp.SDivCorner; simp)]
  have m1 : (BitVec.ofNat 32 a).msb = false := by
    rw [BitVec.msb_eq_false_iff_two_mul_lt, BitVec.toNat_ofNat]; omega
  have m2 : (256#32 : BitVec 32).msb = false := by decide
  rw [BitVec.sdiv_eq, m1, m2]
  apply BitVec.eq_of_toNat_eq
  simp only [BitVec.udiv_eq, BitVec.toNat_udiv, BitVec.toNat_ofNat]
  rw [Nat.mod_eq_of_lt (by omega : a < 2 ^ 32), Nat.mod_eq_of_lt (by omega : a / 256 < 2 ^ 32)]
theorem rem256_zero : IntOp.remsi ArithUnit.host (BitVec.ofNat 32 0) 256#32 = 0#32 := by
  unfold IntOp.remsi
  rw [if_neg (by unfold IntOp.SDivCorner; simp)]
  decide

variable (q k v : FVec Ideal S2x8192x8x128 .f32) (b : Fin 2) (t : Fin 8192) (h : Fin 8) (j : Fin 32) (d : Fin 128) (s : Fin 4) (i : Fin 256)

theorem own_word {a : ℕ} (ht : a < 8192) : Scalar.select
      (IntOp.andi
        (IntOp.cmpi CmpIPredicate.ne
          (if BitVec.ofNat 32 a = 0 then (0 : BitVec 32) else if (BitVec.ofNat 32 a).msb = true then -1 else 1)
          (if (256#32 : BitVec 32) = 0 then 0 else if (256#32 : BitVec 32).msb = true then -1 else 1))
        (IntOp.cmpi CmpIPredicate.ne (IntOp.remsi ArithUnit.host (BitVec.ofNat 32 a) 256#32) 0#32))
      (IntOp.subi (BitVec.ofNat 32 (a / 256)) 1#32) (BitVec.ofNat 32 (a / 256)) =
    BitVec.ofNat 32 (a / 256) := by
  generalize hw : BitVec.ofNat 32 (a / 256) = w
  by_cases h0 : a = 0
  · subst h0
    rw [rem256_zero]
    subst hw
    decide
  · have h1 : BitVec.ofNat 32 a ≠ 0 := fun h => h0 (by
      have := congrArg BitVec.toNat h
      rw [BitVec.toNat_ofNat, Nat.mod_eq_of_lt (by omega)] at this
      exact this)
    have m1 : (BitVec.ofNat 32 a).msb = false := by
      rw [BitVec.msb_eq_false_iff_two_mul_lt, BitVec.toNat_ofNat]; omega
    have e256 : (if (256#32 : BitVec 32) = 0 then (0 : BitVec 32) else if (256#32 : BitVec 32).msb = true then -1 else 1) = 1 := by decide
    rw [if_neg h1, m1, e256]
    have e1 : IntOp.cmpi .ne (if false = true then (-1 : BitVec 32) else 1) 1 = 0#1 := by decide
    rw [e1]
    generalize IntOp.cmpi .ne _ _ = y
    have e2 : IntOp.andi 0#1 y = 0#1 := by unfold IntOp.andi; simp
    rw [e2]
    rfl

theorem own_at : sOwn (ix1 t) = BitVec.ofNat 32 (t.val / 256) := by
  pointwise [sOwn]
  simp only [id_eq, constantI, div256 t.isLt]
  exact own_word t.isLt

set_option maxRecDepth 8192 in
theorem gather_at (x : FVec Ideal S2x32x256x8x128 .f32) (idx : IVec S2x8192x8x4x3 32) :
    Host.gather gather_S2x32x256x8x128_S2x8192x8x4x3_S2x8192x8x4x256x128_45_013_n_n_013_4_112561128 x idx (ix6 b t h s i d)
      = x (ix5 ⟨min (idx (ix5 b t h s 0)).toInt.toNat 1, by omega⟩ ⟨min (idx (ix5 b t h s 1)).toInt.toNat 31, by omega⟩ i
          ⟨min (idx (ix5 b t h s 2)).toInt.toNat 7, by omega⟩ d) := by
  unfold Host.gather
  refine congrArg x (funext fun (a : Fin 5) => Fin.ext ?_)
  show GatherDims.start _ _ _ _ + GatherDims.batchCoord _ _ _ + GatherDims.offCoord _ _ _ = _
  rw [GatherDims.batchCoord_eq_zero _ _ _ (fun h => List.not_mem_nil h), Nat.add_zero]
  have h5 : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  have hs : ∀ (a : Fin 5) (n : ℕ) (hn : n < 3), a ∈ [(0 : Fin 5), 1, 3] → List.idxOf a [(0 : Fin 5), 1, 3] = n →
      GatherDims.start gather_S2x32x256x8x128_S2x8192x8x4x3_S2x8192x8x4x256x128_45_013_n_n_013_4_112561128 (ix6 b t h s i d) idx a
        = min (idx (ix5 b t h s ⟨n, hn⟩)).toInt.toNat (S2x32x256x8x128.size a - (![1, 1, 256, 1, 128] : Fin 5 → ℕ) a) := fun a n hn ha hi => by
    unfold GatherDims.start
    refine (dif_pos (show a ∈ gather_S2x32x256x8x128_S2x8192x8x4x3_S2x8192x8x4x256x128_45_013_n_n_013_4_112561128.startIndexMap from ha)).trans ?_
    congr 4
    funext (e : Fin 5)
    refine Fin.ext ?_
    match e with
    | ⟨0, _⟩ => rfl
    | ⟨1, _⟩ => rfl
    | ⟨2, _⟩ => rfl
    | ⟨3, _⟩ => rfl
    | ⟨4, _⟩ => exact hi
  rcases h5 with rfl | rfl | rfl | rfl | rfl
  · rw [hs 0 0 (by decide) (by decide) (by decide), GatherDims.offCoord_eq_zero _ _ _ (fun h => ((GatherDims.mem_sKept _ _).mp h).1 (by decide))]
    rfl
  · rw [hs 1 1 (by decide) (by decide) (by decide), GatherDims.offCoord_eq_zero _ _ _ (fun h => ((GatherDims.mem_sKept _ _).mp h).1 (by decide))]
    rfl
  · have e0 : GatherDims.start gather_S2x32x256x8x128_S2x8192x8x4x3_S2x8192x8x4x256x128_45_013_n_n_013_4_112561128 (ix6 b t h s i d) idx (2 : Fin 5) = 0 :=
      dif_neg (show (2 : Fin 5) ∉ [(0 : Fin 5), 1, 3] by decide)
    rw [e0, Nat.zero_add]
    exact dif_pos ((GatherDims.mem_sKept _ _).mpr ⟨(show (2 : Fin 5) ∉ [(0 : Fin 5), 1, 3] by decide), List.not_mem_nil⟩)
  · rw [hs 3 2 (by decide) (by decide) (by decide), GatherDims.offCoord_eq_zero _ _ _ (fun h => ((GatherDims.mem_sKept _ _).mp h).1 (by decide))]
    rfl
  · have e0 : GatherDims.start gather_S2x32x256x8x128_S2x8192x8x4x3_S2x8192x8x4x256x128_45_013_n_n_013_4_112561128 (ix6 b t h s i d) idx (4 : Fin 5) = 0 :=
      dif_neg (show (4 : Fin 5) ∉ [(0 : Fin 5), 1, 3] by decide)
    rw [e0, Nat.zero_add]
    exact dif_pos ((GatherDims.mem_sKept _ _).mpr ⟨(show (4 : Fin 5) ∉ [(0 : Fin 5), 1, 3] by decide), List.not_mem_nil⟩)

/-- Sorted positions read at an index `J` of the score array whose first three components are `b`,
`t` and `h`. -/
theorem iota_sorted (x : FVec Ideal S2x8192x8x32 .f32) (J : S2x8192x8x32.Idx) (s : Fin 32)
    (hJ : ∀ k : Fin 32, J.along (3 : Fin 4) k = ix4 b t h k) (hs : J (3 : Fin 4) = s) :
    iotaInDim (w := 32) (s := S2x8192x8x32) (3 : Fin 4) (J.along (3 : Fin 4) (sortedFrom (fun k k' : Fin 32 =>
      FloatOps.cmpfTotal (F := Ideal) (φ := .f32) CmpDirection.gt (x (J.along (3 : Fin 4) k)) (x (J.along (3 : Fin 4) k')) == 1#1)
      (J (3 : Fin 4))))
    = BitVec.ofNat 32 (sortedFrom (befB fun j => x (ix4 b t h j)) s).val := by
  have key : sortedFrom (fun k k' : Fin 32 =>
      FloatOps.cmpfTotal (F := Ideal) (φ := .f32) CmpDirection.gt (x (J.along (3 : Fin 4) k)) (x (J.along (3 : Fin 4) k')) == 1#1)
      = sortedFrom (befB fun j => x (ix4 b t h j)) := by
    refine sortedFrom_key _ _ fun k k' => ?_
    rw [hJ, hJ, beq_iff_eq, Idealize.ShloMosaic.Ideal.cmpfTotal_def]
    simp only [Ideal.cmp, CmpDirection.ordered]
    by_cases hh : x (ix4 b t h k') < x (ix4 b t h k) <;> simp [hh]
  refine (congrArg (fun g : Fin 32 → Fin 32 => iotaInDim (w := 32) (s := S2x8192x8x32) (3 : Fin 4) (J.along (3 : Fin 4) (g (J (3 : Fin 4))))) key).trans ?_
  refine (congrArg (iotaInDim (w := 32) (s := S2x8192x8x32) (3 : Fin 4)) (hJ _)).trans ?_
  show BitVec.ofNat 32 (sortedFrom (befB fun j => x (ix4 b t h j)) (J (3 : Fin 4))).val = _
  rw [hs]

theorem idx_at (a : Fin 3) : sIdx q k (ix4 b t h a)
    = BitVec.ofNat 32 (sortedFrom (befB fun j => sScore q k (ix4 b t h j)) (a.castLE (by decide))).val := by
  unfold sIdx Host.topK
  dsimp only
  unfold Host.sort2
  rw [dif_pos (by decide)]
  unfold extractStridedSlice
  dsimp only
  rw [dif_pos (by decide)]
  refine iota_sorted b t h (sScore q k) _ (a.castLE (by decide)) (fun k => ?_) (Fin.ext (Nat.zero_add _))
  funext (e : Fin 4)
  refine Fin.ext ?_
  match e with
  | ⟨0, _⟩ => exact Nat.zero_add _
  | ⟨1, _⟩ => exact Nat.zero_add _
  | ⟨2, _⟩ => exact Nat.zero_add _
  | ⟨3, _⟩ => rfl

/-! ## The softmax -/

/-- A maximum along the last of four axes. -/
theorem row_max {n0 n1 n2 n3 : ℕ} (x : FVec Ideal ⟨4, ![n0, n1, n2, n3]⟩ .f32) (c : FVec Ideal S_ .f32)
    (hr : (⟨4, ![n0, n1, n2, n3]⟩ : Shape).ReducesTo [3] ⟨3, ![n0, n1, n2]⟩) (hu : 0 < S_.numel) (b : Fin n0) (t : Fin n1) (h : Fin n2) :
    Host.reduce FloatOps.maximumf x c hr hu (ix3 b t h) = Finset.univ.fold max (c (Shape.Idx.first hu)) fun z : Fin n3 => x (ix4 b t h z) := by
  simp only [pointwise]

theorem maximumf_at {s : Shape} (x y : FVec Ideal s .f32) (j : s.Idx) : maximumf x y j = max (x j) (y j) := rfl

theorem floor_at : (broadcastInDim S2x8192x8 ![] bcast_S_S2x8192x8 (constant (F := Ideal) S_ .f32 0xFF800000#32)) (ix3 b t h) = Ideal.ofBits .f32 0xFF800000#32 := by
  pointwise

theorem red_at (x : FVec Ideal S2x8192x8x1024 .f32) : Host.reduce FloatOps.maximumf x (constant S_ .f32 0xFF800000#32) reducesTo_S2x8192x8x1024_S2x8192x8_d3 h_S_ (ix3 b t h)
    = Finset.univ.fold max (Ideal.ofBits .f32 0xFF800000#32) fun z : Fin 1024 => x (ix4 b t h z) :=
  row_max x (constant S_ .f32 0xFF800000#32) reducesTo_S2x8192x8x1024_S2x8192x8_d3 h_S_ b t h
theorem rowMax_at (x : FVec Ideal S2x8192x8x1024 .f32) : rowMax x (ix3 b t h) = max (Ideal.ofBits .f32 0xFF800000#32)
    (Finset.univ.fold max (Ideal.ofBits .f32 0xFF800000#32) fun z : Fin 1024 => x (ix4 b t h z)) := by
  rw [← red_at b t h x, ← floor_at b t h]
  exact maximumf_at _ _ _

theorem max_at : sMax q k (ix3 b t h) = max (Ideal.ofBits .f32 0xFF800000#32)
    (Finset.univ.fold max (Ideal.ofBits .f32 0xFF800000#32) fun z : Fin 1024 => sFlat q k (ix4 b t h z)) :=
  rowMax_at b t h (sFlat q k)
theorem overMax_at (x : FVec Ideal S2x8192x8x1024 .f32) (y : FVec Ideal S2x8192x8 .f32) (z : Fin 1024) :
    overMax x y (ix4 b t h z) = Ideal.exp (x (ix4 b t h z) - y (ix3 b t h)) := by
  pointwise [overMax]

theorem exp_at (z : Fin 1024) : sExp q k (ix4 b t h z) = Ideal.exp (sFlat q k (ix4 b t h z) - sMax q k (ix3 b t h)) :=
  overMax_at b t h (sFlat q k) (sMax q k) z

theorem flat_at : sFlat q k (ix4 b t h ⟨256 * s.val + i.val, by omega⟩) = sLog q k (ix5 b t h s i) := by
  unfold sFlat
  generalize sLog q k = x
  refine shapeCast_apply x _ _ _ ?_
  rw [Shape.rowMajor_val_four, Shape.rowMajor_val_five]
  simp
  omega

theorem p_at (z : Fin 1024) : sP q k (ix4 b t h z) = Ideal.div (sExp q k (ix4 b t h z)) (∑ x, sExp q k (ix4 b t h x)) := by
  pointwise [sP]

theorem out_at (y : Fin 16384) (z : Fin 1024) (b : Fin 2) (t : Fin 8192) (h : Fin 8) (e : Fin 128) (hy : y.val = b.val * 8192 + t.val)
   (hz : z.val = h.val * 128 + e.val) : sOut q k v (ix2 y z) = ∑ s : Fin 4, ∑ i : Fin 256,
    sP q k (ix4 b t h ⟨256 * s.val + i.val, by omega⟩) * sVg q k v (ix6 b t h s i e) := by
  unfold sOut
  generalize sP q k = x
  generalize sVg q k v = w
  pointwise
  refine Finset.sum_congr rfl fun s _ => Finset.sum_congr rfl fun i _ => ?_
  have e1 : y.val / 8192 = b.val := by omega
  have e2 : y.val % 8192 = t.val := by omega
  have e3 : z.val / 128 = h.val := by omega
  have e4 : z.val % 128 = e.val := by omega
  simp only [e1, e2, e3, e4, mul_comm s.val 256]
end Cert.Proof.Ref
end
-- ==== Proof.RefValue.lean ====
/- The reference over the extended reals, from real queries and keys: at each row, head and lane the attention of `Spec`
   over the own block and the three chosen ones. -/
module

public import proofs.«01_k».proof.Proof.RefAt
public import proofs.«01_k».proof.Proof.HeadSum
public import proofs.«01_k».proof.Proof.Rows

@[expose] public section

noncomputable section

namespace Cert.Proof.Ref

open Cert.ReferenceIdeal Cert.ReferenceIdeal.Gen Cert.Proof.Spec
open Cert.Proof.Head (ninf_eq dotp score fold_lt_top exists_real)
open Idealize.ShloMosaic Idealize.ShloMosaic.TcCoe Idealize.ShloMosaic.StableHlo

theorem two56 : Ideal.ofBits .f32 1132462080#32 = ((256 : ℝ) : EReal) := by
  simp [Ideal.ofBits, Ideal.ieee]
  rw [← EReal.coe_mul]
  congr 1
  norm_num

theorem scale_eq : Ideal.ofBits .f32 1035273459#32 = (s0 : EReal) := by
  simp [Ideal.ofBits, Ideal.ieee, s0]
  rw [← EReal.coe_mul]
  congr 1
  norm_num

variable {q k : FVec Ideal S2x8192x8x128 .f32} (v : FVec Ideal S2x8192x8x128 .f32)
  {Q K : Fin 2 → Fin 8192 → Fin 8 → Fin 128 → ℝ}
  (hq : ∀ b t h d, q (ix4 b t h d) = (Q b t h d : EReal)) (hk : ∀ b t h d, k (ix4 b t h d) = (K b t h d : EReal))
  (b : Fin 2) (h : Fin 8) (n : Fin 32) (r : Fin 256)

theorem own_tok : sOwn (ix1 (tok n r)) = BitVec.ofNat 32 n.val := by
  rw [own_at]
  congr 1
  show (256 * n.val + r.val) / 256 = n.val
  omega

include hk in
theorem mean_at (j : Fin 32) (d : Fin 128) :
    sMean k (ix4 b j h d) = (((∑ i, blockRows K b h j i d) * (1 / 256) : ℝ) : EReal) := by
  pointwise [sMean]
  rw [two56, Ideal.div, if_neg (by exact_mod_cast (by norm_num : (256 : ℝ) ≠ 0)), ← EReal.coe_inv, EReal.coe_mul, coe_sum]
  congr 1
  · refine Finset.sum_congr rfl fun i _ => ?_
    rw [hk]
    unfold blockRows tok
    congr 2
    exact Fin.ext (by simp; omega)
  · norm_num

/-- The row's scores. -/
abbrev rowScore (Q K : Fin 2 → Fin 8192 → Fin 8 → Fin 128 → ℝ) (b : Fin 2) (h : Fin 8) (n : Fin 32) (r : Fin 256) : Fin 32 → ℝ :=
  score (blockRows Q b h n) (blockRows K b h) r

include hq hk in
theorem score_at (j : Fin 32) : sScore q k (ix4 b (tok n r) h j) = maskd n.val (rowScore Q K b h n r) ∅ j := by
  pointwise [sScore]
  rw [own_tok, slt_ofNat (by omega) (by omega)]
  have e : ∑ x : Fin 128, sMean k (ix4 b j h x) * q (ix4 b (tok n r) h x) = (rowScore Q K b h n r j : EReal) := by
    unfold rowScore score
    rw [coe_sum]
    refine Finset.sum_congr rfl fun d _ => ?_
    rw [mean_at hk, hq, EReal.coe_mul]
    rfl
  rw [e]
  unfold maskd
  by_cases hj : j.val < n.val
  · simp [hj, Scalar.select]
  · simp [hj, Scalar.select, constant]
    exact ninf_eq

/-- The blocks sorted, the greatest score first. -/
def order (Q K : Fin 2 → Fin 8192 → Fin 8 → Fin 128 → ℝ) (b : Fin 2) (h : Fin 8) (n : Fin 32) (r : Fin 256) : Fin 32 → Fin 32 :=
  sortedFrom (befB (maskd n.val (rowScore Q K b h n r) ∅))

/-- The block of each of the four slots. -/
def slot (Q K : Fin 2 → Fin 8192 → Fin 8 → Fin 128 → ℝ) (b : Fin 2) (h : Fin 8) (n : Fin 32) (r : Fin 256) (s : Fin 4) : Fin 32 :=
  if hs : s.val < 3 then order Q K b h n r ⟨s.val, by omega⟩ else n

include hq hk in
theorem idx_tok (a : Fin 3) : sIdx q k (ix4 b (tok n r) h a) = BitVec.ofNat 32 (order Q K b h n r (a.castLE (by decide))).val := by
  rw [idx_at]
  unfold order
  rw [show (fun j => sScore q k (ix4 b (tok n r) h j)) = maskd n.val (rowScore Q K b h n r) ∅ from funext (score_at hq hk b h n r)]

include hq hk in
theorem sel_at (s : Fin 4) : sSel q k (ix4 b (tok n r) h s) = BitVec.ofNat 32 (slot Q K b h n r s).val := by
  pointwise [sSel]
  unfold slot
  by_cases hs : s.val < 3
  · rw [dif_pos hs, dif_pos hs]
    exact idx_tok hq hk b h n r ⟨s.val, hs⟩
  · rw [dif_neg hs, dif_neg hs, own_tok]

include hq hk in
theorem valid_at (s : Fin 4) : sValid q k (ix4 b (tok n r) h s)
    = BitVec.ofBool (decide (s.val < 3 → (slot Q K b h n r s).val < n.val)) := by
  pointwise [sValid]
  unfold slot
  by_cases hs : s.val < 3
  · simp only [hs, dif_pos, forall_const]
    rw [own_tok, idx_tok hq hk b h n r ⟨s.val, hs⟩, slt_ofNat (by omega) (by omega)]
    rfl
  · simp [hs]

theorem wrap_word {a : ℕ} (ha : a < 2 ^ 31) (w : BitVec 32) :
    Scalar.select (IntOp.cmpi .slt (BitVec.ofNat 32 a) 0#32) w (BitVec.ofNat 32 a) = BitVec.ofNat 32 a := by
  rw [show (0#32 : BitVec 32) = BitVec.ofNat 32 0 from rfl, slt_ofNat ha (by omega)]
  simp [Scalar.select]

include hq hk in
theorem wrap_at (s : Fin 4) : sWrap q k (ix4 b (tok n r) h s) = BitVec.ofNat 32 (slot Q K b h n r s).val := by
  pointwise [sWrap]
  rw [sel_at hq hk]
  exact wrap_word (by omega) _

include hq hk in
theorem ix_at (s : Fin 4) : sIx q k (ix5 b (tok n r) h s 0) = BitVec.ofNat 32 b.val
    ∧ sIx q k (ix5 b (tok n r) h s 1) = BitVec.ofNat 32 (slot Q K b h n r s).val
    ∧ sIx q k (ix5 b (tok n r) h s 2) = BitVec.ofNat 32 h.val := by
  refine ⟨?_, ?_, ?_⟩
  · pointwise [sIx]
    exact wrap_word (by omega) _
  · pointwise [sIx]
    exact wrap_at hq hk b h n r s
  · pointwise [sIx]
    exact wrap_word (by omega) _

include hq hk in
theorem gathered (x : FVec Ideal S2x32x256x8x128 .f32) (s : Fin 4) (i : Fin 256) (d : Fin 128) :
    Host.gather gather_S2x32x256x8x128_S2x8192x8x4x3_S2x8192x8x4x256x128_45_013_n_n_013_4_112561128 x (sIx q k) (ix6 b (tok n r) h s i d)
      = x (ix5 b (slot Q K b h n r s) i h d) := by
  obtain ⟨e0, e1, e2⟩ := ix_at hq hk b h n r s
  rw [gather_at]
  refine congrArg x (funext fun (a : Fin 5) => Fin.ext ?_)
  match a with
  | ⟨0, _⟩ => show min (sIx q k (ix5 b (tok n r) h s 0)).toInt.toNat 1 = b.val; rw [e0, toInt_ofNat (by omega)]; omega
  | ⟨1, _⟩ => show min (sIx q k (ix5 b (tok n r) h s 1)).toInt.toNat 31 = (slot Q K b h n r s).val; rw [e1, toInt_ofNat (by omega)]; omega
  | ⟨2, _⟩ => rfl
  | ⟨3, _⟩ => show min (sIx q k (ix5 b (tok n r) h s 2)).toInt.toNat 7 = h.val; rw [e2, toInt_ofNat (by omega)]; omega
  | ⟨4, _⟩ => rfl

theorem blocked_at (x : FVec Ideal S2x8192x8x128 .f32) (j : Fin 32) (i : Fin 256) (d : Fin 128) :
    shapeCast S2x32x256x8x128 x shapeCasts_S2x8192x8x128_S2x32x256x8x128 (ix5 b j i h d) = x (ix4 b (tok j i) h d) := by
  refine shapeCast_apply x _ _ _ ?_
  rw [Shape.rowMajor_val_four, Shape.rowMajor_val_five]
  simp [tok]
  omega

include hq hk in
theorem kg_at (s : Fin 4) (i : Fin 256) (d : Fin 128) :
    sKg q k (ix6 b (tok n r) h s i d) = (blockRows K b h (slot Q K b h n r s) i d : EReal) := by
  unfold sKg
  rw [gathered hq hk, blocked_at, hk]
  rfl

include hq hk in
theorem vg_at (s : Fin 4) (i : Fin 256) (d : Fin 128) :
    sVg q k v (ix6 b (tok n r) h s i d) = v (ix4 b (tok (slot Q K b h n r s) i) h d) := by
  unfold sVg
  rw [gathered hq hk, blocked_at]

/-- Key `i` of slot `s` is attended: an earlier block's keys all, the own block's up to the row. -/
def att (Q K : Fin 2 → Fin 8192 → Fin 8 → Fin 128 → ℝ) (b : Fin 2) (h : Fin 8) (n : Fin 32) (r : Fin 256) (s : Fin 4) (i : Fin 256) : Prop :=
  if s.val < 3 then (slot Q K b h n r s).val < n.val else i ≤ r

instance (s : Fin 4) (i : Fin 256) : Decidable (att Q K b h n r s i) := by unfold att; infer_instance

theorem att_past {s : Fin 4} (hs : s.val < 3) (i : Fin 256) : att Q K b h n r s i ↔ (slot Q K b h n r s).val < n.val := by
  unfold att; rw [if_pos hs]

theorem att_own {s : Fin 4} (hs : ¬ s.val < 3) (i : Fin 256) : att Q K b h n r s i ↔ i ≤ r := by
  unfold att; rw [if_neg hs]

include hq hk in
theorem mask_at (s : Fin 4) (i : Fin 256) : sMask q k (ix5 b (tok n r) h s i) = BitVec.ofBool (decide (att Q K b h n r s i)) := by
  pointwise [sMask]
  rw [valid_at hq hk, sel_at hq hk]
  have e : IntOp.addi (IntOp.muli (BitVec.ofNat 32 (slot Q K b h n r s).val) 256#32) (BitVec.ofNat 32 i.val)
      = BitVec.ofNat 32 ((slot Q K b h n r s).val * 256 + i.val) := by
    unfold IntOp.addi IntOp.muli
    apply BitVec.eq_of_toNat_eq
    simp
  rw [e, sle_ofNat (by omega) (by omega)]
  have ht : (tok n r).val = 256 * n.val + r.val := rfl
  by_cases hs : s.val < 3
  · have ea := att_past (Q := Q) (K := K) b h n r hs i
    by_cases hv : (slot Q K b h n r s).val < n.val
    · have : (slot Q K b h n r s).val * 256 + i.val ≤ (tok n r).val := by omega
      simp [ea, hs, hv, this, IntOp.andi]
    · simp [ea, hs, hv, IntOp.andi]
  · have ea := att_own (Q := Q) (K := K) b h n r hs i
    have hsl : slot Q K b h n r s = n := by unfold slot; rw [dif_neg hs]
    rw [hsl]
    by_cases hi : i ≤ r
    · have h1 : i.val ≤ r.val := hi
      have : n.val * 256 + i.val ≤ (tok n r).val := by omega
      simp [ea, hs, this, hi, IntOp.andi]
    · have h1 : ¬ i.val ≤ r.val := hi
      have : ¬ n.val * 256 + i.val ≤ (tok n r).val := by omega
      simp [ea, hs, this, hi, IntOp.andi]

/-- The row's logits. -/
abbrev rowDot (Q K : Fin 2 → Fin 8192 → Fin 8 → Fin 128 → ℝ) (b : Fin 2) (h : Fin 8) (n : Fin 32) (r : Fin 256) : Fin 32 → Fin 256 → ℝ :=
  dotp (blockRows Q b h n) (blockRows K b h) r

include hq hk in
theorem log_at (s : Fin 4) (i : Fin 256) : sLog q k (ix5 b (tok n r) h s i)
    = if att Q K b h n r s i then ((s0 * rowDot Q K b h n r (slot Q K b h n r s) i : ℝ) : EReal) else ⊥ := by
  pointwise [sLog]
  rw [mask_at hq hk, scale_eq]
  have e : ∑ x : Fin 128, q (ix4 b (tok n r) h x) * sKg q k (ix6 b (tok n r) h s i x)
      = (rowDot Q K b h n r (slot Q K b h n r s) i : EReal) := by
    unfold rowDot dotp
    rw [coe_sum]
    refine Finset.sum_congr rfl fun d _ => ?_
    rw [kg_at hq hk, hq, EReal.coe_mul, mul_comm]
    rfl
  rw [e]
  by_cases ha : att Q K b h n r s i
  · simp [ha, Scalar.select, mul_comm]
  · simp [ha, Scalar.select, constant]
    exact ninf_eq

/-- A sum over a row in one line is the sum over its slots. -/
theorem sum_slots (f : Fin 1024 → EReal) : ∑ z, f z = ∑ s : Fin 4, ∑ i : Fin 256, f ⟨256 * s.val + i.val, by omega⟩ := by
  rw [Head.sum_four, Fin.sum_univ_four]
  simp

/-- The chosen blocks. -/
abbrev chosen (Q K : Fin 2 → Fin 8192 → Fin 8 → Fin 128 → ℝ) (b : Fin 2) (h : Fin 8) (n : Fin 32) (r : Fin 256) : Finset (Fin 32) :=
  tops n.val (order Q K b h n r)

/-- The sum over the attended keys of the slots is the mass. -/
theorem slots_mass (f : Fin 32 → Fin 256 → EReal) :
    (∑ s : Fin 4, ∑ i : Fin 256, if att Q K b h n r s i then f (slot Q K b h n r s) i else 0) = mass n r (chosen Q K b h n r) f := by
  rw [← mass_slots n r (order Q K b h n r) (sortedFrom_injective _) f, Fin.sum_univ_castSucc]
  refine congrArg₂ (· + ·) ?_ rfl
  · refine Finset.sum_congr rfl fun a _ => ?_
    have hs : (a.castSucc : Fin 4).val < 3 := a.isLt
    have hsl : slot Q K b h n r a.castSucc = order Q K b h n r (a.castLE (by decide)) := by unfold slot; rw [dif_pos hs]; rfl
    simp only [att_past b h n r hs, hsl]
    split <;> simp

include hq hk in
theorem max_real : ∃ m : ℝ, sMax q k (ix3 b (tok n r) h) = (m : EReal) := by
  have hf : ∀ z : Fin 1024, sFlat q k (ix4 b (tok n r) h z) = sLog q k (ix5 b (tok n r) h ⟨z.val / 256, by omega⟩ ⟨z.val % 256, by omega⟩) := fun z => by
    rw [← flat_at]
    congr 2
    exact Fin.ext (by simp; omega)
  rw [max_at, ninf_eq]
  refine exists_real (s0 * rowDot Q K b h n r n r) ?_ (max_lt bot_lt_top (fold_lt_top _ fun z => ?_))
  · refine le_max_of_le_right ((Finset.le_fold_max _).mpr (Or.inr ⟨⟨256 * (3 : Fin 4).val + r.val, by show 256 * 3 + r.val < 1024; omega⟩, Finset.mem_univ _, ?_⟩))
    have hs : ¬ (3 : Fin 4).val < 3 := by decide
    have hsl : slot Q K b h n r 3 = n := by unfold slot; rw [dif_neg hs]
    rw [flat_at, log_at hq hk, hsl, if_pos ((att_own b h n r hs r).mpr le_rfl)]
  · rw [hf, log_at hq hk]
    split
    · exact EReal.coe_lt_top _
    · exact bot_lt_top

include hq hk in
theorem exp_slot {m : ℝ} (hm : sMax q k (ix3 b (tok n r) h) = (m : EReal)) (s : Fin 4) (i : Fin 256) :
    sExp q k (ix4 b (tok n r) h ⟨256 * s.val + i.val, by omega⟩)
      = if att Q K b h n r s i then (Real.exp (s0 * (rowDot Q K b h n r (slot Q K b h n r s) i - m / s0)) : EReal) else 0 := by
  rw [exp_at, flat_at, hm, log_at hq hk]
  split
  · rw [← EReal.coe_sub, Ideal.exp_coe]
    have h0 : s0 ≠ 0 := by unfold s0; norm_num
    have e : ∀ x : ℝ, s0 * x - m = s0 * (x - m / s0) := fun x => by field_simp
    rw [e]
  · rw [EReal.bot_sub, Ideal.exp_bot]

include hq hk in
/-- The reference's result at row `r` of block `n` of batch `b`, head `h`, lane `e`. -/
theorem ref_at (y : Fin 16384) (z : Fin 1024) (e : Fin 128) (hy : y.val = b.val * 8192 + (tok n r).val) (hz : z.val = h.val * 128 + e.val)
    {T : Finset (Fin 32)} (hT : IsTop n.val (maskd n.val (rowScore Q K b h n r) ∅) 3 T) :
    sOut q k v (ix2 y z) = attn n r T (rowDot Q K b h n r) fun j i => v (ix4 b (tok j i) h e) := by
  obtain rfl : T = chosen Q K b h n r := hT.unique (isTop_sorted n.val (rowScore Q K b h n r))
  obtain ⟨m, hm⟩ := max_real hq hk b h n r
  have hx := exp_slot hq hk b h n r hm
  rw [out_at q k v y z b (tok n r) h e hy hz]
  have hS : ∑ x, sExp q k (ix4 b (tok n r) h x)
      = mass n r (chosen Q K b h n r) fun j i => (Real.exp (s0 * (rowDot Q K b h n r j i - m / s0)) : EReal) := by
    rw [sum_slots, ← slots_mass]
    exact Finset.sum_congr rfl fun s _ => Finset.sum_congr rfl fun i _ => hx s i
  obtain ⟨a, ha, hA⟩ := mass_pos n r (chosen Q K b h n r) (fun j i => Real.exp (s0 * (rowDot Q K b h n r j i - m / s0))) fun _ _ => Real.exp_pos _
  rw [← attn_shift n r _ _ _ (m / s0), hA, ← mass_div n r _ _ _ ha, ← slots_mass]
  refine Finset.sum_congr rfl fun s _ => Finset.sum_congr rfl fun i _ => ?_
  rw [p_at, hS, hA, hx, vg_at v hq hk]
  split
  · rfl
  · rw [Ideal.div, if_neg (by exact_mod_cast ha.ne'), zero_mul, zero_mul]

end Cert.Proof.Ref
end
-- ==== Proof.Agree.lean ====
/- The two programs' results agree: the precondition makes the queries and the keys real, and then both programs hold the
   attention of `Spec` at every index. -/
module

public import proofs.«01_k».proof.Defs
public import proofs.«01_k».proof.Proof.KernelIdealValue
public import proofs.«01_k».proof.Proof.RefValue
public import Idealize.ShloMosaic.Lib.ReduceAll

@[expose] public section

noncomputable section

namespace Cert.Proof.Agree

open Cert.Proof.Spec Idealize.ShloMosaic Idealize.ShloMosaic.TcCoe Idealize.ShloMosaic.Tactic

theorem facts : Cert.Pre_finite.Facts where
  bcast_S_S2x8192x8x128 := by decide
  reducesTo_S2x8192x8x128_S_d0_1_2_3 := by decide
  h_S_ := by decide

/-- A value smaller in magnitude than `+∞` is real. -/
theorem real_of_lt (x : EReal) (h : Ideal.cmp .olt (max x (-x)) (Ideal.ofBits .f32 0x7F800000#32) = 1#1) : x = (x.toReal : EReal) := by
  have e : Ideal.ofBits .f32 0x7F800000#32 = ⊤ := by simp [Ideal.ofBits, Ideal.ieee]
  rw [e] at h
  induction x with
  | bot => simp [Ideal.cmp] at h
  | coe x => rfl
  | top => simp [Ideal.cmp] at h

instance : Subsingleton Cert.Pre_finite.S_.Idx := ⟨fun x y => funext fun (a : Fin 0) => a.elim0⟩

/-- Under the precondition every query and every key is real. -/
theorem real (q k v : FVec Ideal Cert.Pre_finite.S2x8192x8x128 .f32)
    (h : @Cert.Pre_finite.fn facts Ideal _ q k v = fun _ => 1#1) :
    (∀ i, q i = ((q i).toReal : EReal)) ∧ ∀ i, k i = ((k i).toReal : EReal) := by
  have h0 := congrFun h (fun (a : Fin 0) => a.elim0)
  have h1 := IntOp.andi_eq_one.mp h0
  exact ⟨fun i => real_of_lt _ (Host.reduce_andi_all _ _ _ _ _ h1.1 i), fun i => real_of_lt _ (Host.reduce_andi_all _ _ _ _ _ h1.2 i)⟩

/-- Every index of the result is a row of a block of a batch and a lane of a head. -/
theorem split (y : Fin 16384) (z : Fin 1024) : ∃ (b : Fin 2) (n : Fin 32) (r : Fin 256) (p : Fin 4) (x : Fin 2) (e : Fin 128),
    y.val = b.val * 8192 + (tok n r).val ∧ z.val = (KernelIdeal.headOf p x).val * 128 + e.val := by
  refine ⟨⟨y.val / 8192, by omega⟩, ⟨y.val % 8192 / 256, by omega⟩, ⟨y.val % 256, by omega⟩, ⟨z.val / 256, by omega⟩,
    ⟨z.val % 256 / 128, by omega⟩, ⟨z.val % 128, by omega⟩, ?_, ?_⟩
  · show y.val = y.val / 8192 * 8192 + (256 * (y.val % 8192 / 256) + y.val % 256)
    omega
  · show z.val = (2 * (z.val / 256) + z.val % 256 / 128) * 128 + z.val % 128
    omega

theorem result_eq (m : (ℓ : Loc Cert.KernelIdeal.nD Cert.KernelIdeal.τ Cert.KernelIdeal.sig) → Buf (Elt Ideal) ℓ) (c : Dev Cert.KernelIdeal.nD)
    (hq : ∀ i, KernelIdeal.argQ m c i = ((KernelIdeal.argQ m c i).toReal : EReal)) (hk : ∀ i, KernelIdeal.argK m c i = ((KernelIdeal.argK m c i).toReal : EReal)) :
    KernelIdeal.result m c = Ref.sOut (F := Ideal) (KernelIdeal.argQ m c) (KernelIdeal.argK m c) (KernelIdeal.argV m c) := by
  funext (i : Cert.ReferenceIdeal.S16384x1024.Idx)
  obtain ⟨b, n, r, p, x, e, hy, hz⟩ := split (i 0) (i 1)
  have hi : i = ix2 (i 0) (i 1) := funext fun (a : Fin 2) => by
    match a with
    | ⟨0, _⟩ => rfl
    | ⟨1, _⟩ => rfl
  obtain ⟨T, hT, h⟩ := KernelIdeal.kernel_at m c b p n (Q := fun b t h d => (KernelIdeal.argQ m c (ix4 b t h d)).toReal)
    (K := fun b t h d => (KernelIdeal.argK m c (ix4 b t h d)).toReal) (fun b t h d => hq _) (fun b t h d => hk _) x r e (i 0) (i 1) hy hz
  rw [hi]
  exact h.trans (Ref.ref_at (KernelIdeal.argV m c) (fun b t h d => hq _) (fun b t h d => hk _) b (KernelIdeal.headOf p x) n r (i 0) (i 1) e hy hz hT).symm

end Cert.Proof.Agree

end
-- ==== Proof.FfnBody.lean ====
/- One grid point of the feed-forward kernel at any instance: what its body leaves in each output block and each scratch
   buffer, from its input blocks and what the scratch held. -/
module

public import proofs.«01_k».proof.Defs
public import proofs.«01_k».proof.Proof.Gen.FfnIdeal
public import proofs.«01_k».proof.Proof.Gen.FfnIdeal.Frame
public import proofs.«01_k».proof.Proof.Gen.FfnIdeal.Points
public import proofs.«01_k».proof.Proof.Gen.FfnIdeal.Launch
public import Idealize.ShloMosaic.Lib.Exec
public import Idealize.ShloMosaic.Lib.WritesUnit
public import Idealize.ShloMosaic.Lib.VecWindow
public import Idealize.ShloMosaic.Lib.Pipeline.Value
public import Idealize.ShloMosaic.Lib.Pointwise
public import Idealize.ShloMosaic.Lib.Pipeline.FrameBody
public import Idealize.ShloMosaic.Lib.Tactic

@[expose] public section

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The normalized rows of a tile. -/
def H (Y : Vec F S512x1024 .f32) (G : Vec F S1x1024 .f32) : FVec F S512x1024 .bf16 :=
  truncf .bf16 (mulf (mulf Y (broadcastTo S512x1024 (rsqrt (addf (divf (shapeCast S512x1
      (multiReduction .add [1] S512 (mulf Y Y) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 G broadcasts_S1x1024_S512x1024)) bitsLt_bf16_f32

/-- A tile's rows through the first weight. -/
def U (h : Vec F S512x1024 .bf16) (W : Vec F S1024x1408 .bf16) : FVec F S512x1408 .f32 :=
  matmul dot_S512x1024_S1024x1408_S512x1408_1_0_0_1_n_n none h W (constant S512x1408 .f32 0x00000000#32)

/-- The eight rows carried in, and a tile's rows after them. -/
def ext (C : Vec F S1x8x1408 .f32) (u : FVec F S512x1408 .f32) : Vec F S520x1408 .f32 := fun y =>
  if h : (y 0).val < 8 then C (ix3 0 ⟨(y 0).val, h⟩ (y 1)) else u (ix2 ⟨(y 0).val - 8, by have : (y 0).val < 520 := (y 0).isLt; omega⟩ (y 1))

/-- A tile's last eight rows. -/
def last (u : FVec F S512x1408 .f32) : Vec F S1x8x1408 .f32 := fun y =>
  u (ix2 ⟨504 + (y 1).val, by have : (y 1).val < 8 := (y 1).isLt; omega⟩ (y 2))

/-- The convolution of a tile's rows, from the carried rows. -/
def conv (cw : Vec F S3x1408 .f32) (cb : Vec F S1x1408 .f32) (C : Vec F S1x8x1408 .f32) (u : FVec F S512x1408 .f32) : FVec F S512x1408 .f32 :=
  addf (addf (addf (mulf (broadcastTo S512x1408 (View.ld cw (Rect.unit ![2, 0] S1x1408.size inb_S3x1408_S1x1408_2_0)) broadcasts_S1x1408_S512x1408) u)
      (broadcastTo S512x1408 cb broadcasts_S1x1408_S512x1408))
    (mulf (broadcastTo S512x1408 (View.ld cw (Rect.unit ![1, 0] S1x1408.size inb_S3x1408_S1x1408_1_0)) broadcasts_S1x1408_S512x1408)
      (View.ld (ext C u) (Rect.unit ![7, 0] S512x1408.size inb_S520x1408_S512x1408_7_0))))
    (mulf (broadcastTo S512x1408 (View.ld cw (Rect.unit ![0, 0] S1x1408.size inb_S3x1408_S1x1408_0_0)) broadcasts_S1x1408_S512x1408)
      (View.ld (ext C u) (Rect.unit ![6, 0] S512x1408.size inb_S520x1408_S512x1408_6_0)))

/-- The gated values of a tile. -/
def act (g v : FVec F S512x1408 .f32) : FVec F S512x1408 .f32 :=
  mulf (mulf g (divf (broadcast S512x1408 (Scalar.ofBits .f32 0x3F800000#32)) (addf (broadcast S512x1408 (Scalar.ofBits .f32 0x3F800000#32))
    (exp (subf (broadcast S512x1408 (Scalar.ofBits .f32 0x00000000#32)) g))))) v

/-- They through the second weight. -/
def O (a : FVec F S512x1408 .f32) (W : Vec F S1408x1024 .bf16) : FVec F S512x1024 .f32 :=
  matmul dot_S512x1408_S1408x1024_S512x1024_1_0_0_1_n_n none (truncf .bf16 a bitsLt_bf16_f32) W (constant S512x1024 .f32 0x00000000#32)

/-- No rows: zero. -/
def zrow : Vec F S1x8x1408 .f32 := fun _ => Scalar.ofBits .f32 0x00000000#32
def zacc : Vec F S512x1024 .f32 := fun _ => Scalar.ofBits .f32 0x00000000#32

/-- One of the two carries, and the carries with one replaced. -/
def slab (f : Fin 2) (C : Vec F S2x8x1408 .f32) : Vec F S1x8x1408 .f32 := fun y => C (ix3 f (y 1) (y 2))
def put (f : Fin 2) (C : Vec F S2x8x1408 .f32) (x : Vec F S1x8x1408 .f32) : Vec F S2x8x1408 .f32 := fun y =>
  if (y 0).val = f.val then x (ix3 0 (y 1) (y 2)) else C y

/-- What a point adds to the accumulator, from the normalized rows, the blocks and the carries. -/
def add (h : Vec F S512x1024 .bf16) (WG WV : Vec F S1024x1408 .bf16) (cwg cwv : Vec F S3x1408 .f32) (cbg cbv : Vec F S1x1408 .f32)
    (Wo : Vec F S1408x1024 .bf16) (Cg Cv : Vec F S1x8x1408 .f32) : FVec F S512x1024 .f32 :=
  O (act (conv cwg cbg Cg (U h WG)) (conv cwv cbv Cv (U h WV))) Wo

section Reads

variable {sg : RefSig} {κ : Kind} {sp : Space}

/-- The carried rows and the tile's rows, stored one under the other and read through a window. -/
theorem ext_cov (v : View sg κ sp S520x1408 .f32) (C : Vec F S1x8x1408 .f32) (u : FVec F S512x1408 .f32) (hC) (inb8 inb0)
    {off size : Fin 2 → ℕ} (inb) :
    v.readCov (Val := Elt F) [⟨Rect.unit (s := S520x1408) ![8, 0] S512x1408.size inb8, u⟩,
        ⟨Rect.unit (s := S520x1408) ![0, 0] S8x1408.size inb0, shapeCast S8x1408 C hC⟩] (Rect.unit (s := S520x1408) off size inb).toLoadRect
      = View.ld (Val := Elt F) (e' := .f32) (ext C u) (Rect.unit (s := S520x1408) off size inb) := by
  refine (View.readCov_eq_canon' v _ _).trans (funext fun j => ?_)
  show View.canon _ ((Rect.unit (s := S520x1408) off size inb).idx j) = ext C u ((Rect.unit (s := S520x1408) off size inb).idx j)
  generalize (Rect.unit (s := S520x1408) off size inb).idx j = y
  have hy : (y 0).val < 520 := (y 0).isLt
  have hy1 : (y 1).val < 1408 := (y 1).isLt
  rw [← View.read_writes_junk_apply_eq_canon v]
  unfold ext
  split
  · rename_i h
    rw [View.read_writes_cons_unit_of_not_mem v _ inb8 _ _ y rfl 0 (.inl (by show (y 0).val < 8; exact h)),
      View.read_writes_cons_unit_of_mem v _ inb0 _ _ y (ix2 ⟨(y 0).val, h⟩ (y 1)) rfl (fun a => by
        match a with
        | ⟨0, _⟩ => show (y 0).val = 0 + (y 0).val; omega
        | ⟨1, _⟩ => show (y 1).val = 0 + (y 1).val; omega)]
    refine shapeCast_apply _ _ _ _ ?_
    rw [Shape.rowMajor_val_two, Shape.rowMajor_val_three]
    show (0 * 8 + (y 0).val) * 1408 + (y 1).val = (y 0).val * 1408 + (y 1).val
    omega
  · rename_i h
    rw [View.read_writes_cons_unit_of_mem v _ inb8 _ _ y (ix2 ⟨(y 0).val - 8, by omega⟩ (y 1)) rfl (fun a => by
        match a with
        | ⟨0, _⟩ => show (y 0).val = 8 + ((y 0).val - 8); omega
        | ⟨1, _⟩ => show (y 1).val = 0 + (y 1).val; omega)]

/-- The last eight of them are the tile's own. -/
theorem last_eq (C : Vec F S1x8x1408 .f32) (u : FVec F S512x1408 .f32) (h : S8x1408.ShapeCasts S1x8x1408) (inb) :
    shapeCast S1x8x1408 (View.ld (Val := Elt F) (e' := .f32) (ext C u) (Rect.unit (s := S520x1408) ![512, 0] S8x1408.size inb)) h = last u := by
  funext y
  have h0 : (y 0).val < 1 := (y 0).isLt
  have h1 : (y 1).val < 8 := (y 1).isLt
  refine (shapeCast_apply _ _ y (ix2 (y 1) (y 2)) ?_).trans ?_
  · rw [Shape.rowMajor_val_two, Shape.rowMajor_val_three]
    show (y 1).val * 1408 + (y 2).val = ((y 0).val * 8 + (y 1).val) * 1408 + (y 2).val
    have : (y 0).val = 0 := by omega
    rw [this]; omega
  · show ext C u _ = _
    unfold ext last
    rw [dif_neg (by show ¬ 512 + 1 * (y 1).val < 8; omega)]
    refine congrArg u (funext fun a => ?_)
    match a with
    | ⟨0, _⟩ => exact Fin.ext (by show 512 + 1 * (y 1).val - 8 = 504 + (y 1).val; omega)
    | ⟨1, _⟩ => exact Fin.ext (by show 0 + 1 * (y 2).val = (y 2).val; omega)

theorem hz : (![0, 0] : Fin 2 → ℕ) = fun _ => 0 := funext fun a => by fin_cases a <;> rfl
/-- The carry of a point, read and replaced. -/
theorem ld_slab (i : grid0.Coords) {off : Fin 3 → ℕ} (ho : off = ![(i 1).val, 0, 0]) (C : Vec F S2x8x1408 .f32) (inb) :
    View.ld (Val := Elt F) (e' := .f32) C (Rect.unit (s := S2x8x1408) off S1x8x1408.size inb)
      = slab (i 1) C := by
  subst ho
  funext y
  have hy : (y 0).val < 1 := (y 0).isLt
  refine congrArg C (funext fun a => ?_)
  match a with
  | ⟨0, _⟩ => exact Fin.ext (by show (i 1).val + 1 * (y 0).val = (i 1).val; omega)
  | ⟨1, _⟩ => exact Fin.ext (by show 0 + 1 * (y 1).val = (y 1).val; omega)
  | ⟨2, _⟩ => exact Fin.ext (by show 0 + 1 * (y 2).val = (y 2).val; omega)

theorem put_read (i : grid0.Coords) {off : Fin 3 → ℕ} (ho : off = ![(i 1).val, 0, 0]) (v : View sg κ sp S2x8x1408 .f32) (f : v.ty.Contents (Elt F)) (x : Vec F S1x8x1408 .f32) (L) (inb) :
    v.read (Elt F) (v.writes (Elt F) f (⟨Rect.unit (s := S2x8x1408) off S1x8x1408.size inb, x⟩ :: L))
      = put (i 1) (v.read (Elt F) (v.writes (Elt F) f L)) x := by
  funext y
  have hi : (i 1).val < 2 := (i 1).isLt
  have hy : (y 0).val < 2 := (y 0).isLt
  unfold put
  split
  · rename_i h
    exact View.read_writes_cons_unit_of_mem v _ inb _ _ y (ix3 0 (y 1) (y 2)) ho (fun a => by
        match a with
        | ⟨0, _⟩ => exact h
        | ⟨1, _⟩ => show (y 1).val = 0 + (y 1).val; omega
        | ⟨2, _⟩ => show (y 2).val = 0 + (y 2).val; omega)
  · rename_i h
    exact View.read_writes_cons_unit_of_not_mem v _ inb _ _ y ho 0 (by show (y 0).val < (i 1).val ∨ (i 1).val + 1 ≤ (y 0).val; omega)

theorem row_cov (v : View sg κ sp S2x8x1408 .f32) {off off' : Fin 3 → ℕ} (ho : off = off') (x : Vec F S1x8x1408 .f32) (inb inb') :
    v.readCov (Val := Elt F) [⟨Rect.unit (s := S2x8x1408) off S1x8x1408.size inb, x⟩] (Rect.unit (s := S2x8x1408) off' S1x8x1408.size inb').toLoadRect = x := by
  subst ho
  exact View.readCov_cons_toLoadRect v (Rect.unit (s := S2x8x1408) off S1x8x1408.size inb) x []

theorem put_put (f : Fin 2) (C : Vec F S2x8x1408 .f32) (x z : Vec F S1x8x1408 .f32) : put f (put f C z) x = put f C x := by
  funext y; unfold put; split <;> simp_all

theorem bz_row (h) : shapeCast S1x8x1408 (broadcast S8x1408 (FloatOps.ofBits (F := F) .f32 0x00000000#32)) h = zrow := rfl
theorem bz_acc : broadcast S512x1024 (FloatOps.ofBits (F := F) .f32 0x00000000#32) = zacc := rfl

end Reads

abbrev 𝒱₀ : Variants := Variants.none

local notation "𝕄" => MT nD τ sig Unit (Elt F) ℕ (UR sig nD τ) ℕ

/-- Memref `M`'s buffer on core `c`: its contents type, it held whole at `f`, and it held whole reading `d`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
abbrev rd (c : Dev nD) {sp : Space} {S : Shape} {e : EltTy} (M : Memref sig .tc sp S e) (d : Vec F S e) : sProp 𝕄 :=
  iprop(∃ f : Bf (F := F) c M, pt c M f ∗ ⌜M.view.read (Elt F) f = d⌝)

variable (c : Dev nD) (i : grid0.Coords)
  (arg2 : Memref sig .tc .vmem S512x1024 .f32) (harg2 : arg2.IsWhole)
  (arg3 : Memref sig .tc .vmem S1x1024 .f32) (harg3 : arg3.IsWhole)
  (arg4 : Memref sig .tc .vmem S1024x1408 .bf16) (harg4 : arg4.IsWhole)
  (arg5 : Memref sig .tc .vmem S1024x1408 .bf16) (harg5 : arg5.IsWhole)
  (arg6 : Memref sig .tc .vmem S3x1408 .f32) (harg6 : arg6.IsWhole)
  (arg7 : Memref sig .tc .vmem S3x1408 .f32) (harg7 : arg7.IsWhole)
  (arg8 : Memref sig .tc .vmem S1x1408 .f32) (harg8 : arg8.IsWhole)
  (arg9 : Memref sig .tc .vmem S1x1408 .f32) (harg9 : arg9.IsWhole)
  (arg10 : Memref sig .tc .vmem S1408x1024 .bf16) (harg10 : arg10.IsWhole)
  (arg11 : Memref sig .tc .vmem S512x1024 .f32) (harg11 : arg11.IsWhole)
  (arg12 : Memref sig .tc .vmem S1x8x1408 .f32) (harg12 : arg12.IsWhole)
  (arg13 : Memref sig .tc .vmem S1x8x1408 .f32) (harg13 : arg13.IsWhole)
  (arg14 : Memref sig .tc .vmem S512x1024 .bf16) (harg14 : arg14.IsWhole)
  (arg15 : Memref sig .tc .vmem S520x1408 .f32) (harg15 : arg15.IsWhole)
  (arg16 : Memref sig .tc .vmem S520x1408 .f32) (harg16 : arg16.IsWhole)
  (arg17 : Memref sig .tc .vmem S2x8x1408 .f32) (harg17 : arg17.IsWhole)
  (arg18 : Memref sig .tc .vmem S2x8x1408 .f32) (harg18 : arg18.IsWhole)
  (arg19 : Memref sig .tc .vmem S512x1024 .f32) (harg19 : arg19.IsWhole)

theorem cond1_iff (i : grid0.Coords) : Scalar.cmpi .ne (Scalar.extui (Scalar.cmpi .eq (BitVec.ofNat 32 (i 1).val) 0#32) : BitVec 32) 0#32 = 1#1 ↔ (i 1).val = 0 := by
  have key : ∀ f : Fin 2, Scalar.cmpi .ne (Scalar.extui (Scalar.cmpi .eq (BitVec.ofNat 32 f.val) 0#32) : BitVec 32) 0#32 = 1#1 ↔ f.val = 0 := by decide
  exact key (i 1)

theorem cond3_iff (i : grid0.Coords) : k0_cond3 i = 1#1 ↔ (i 1).val = 1 := by
  have key : ∀ f : Fin 2, Scalar.cmpi .ne (Scalar.extui (Scalar.cmpi .eq (BitVec.ofNat 32 f.val) 1#32) : BitVec 32) 0#32 = 1#1 ↔ f.val = 1 := by decide
  exact key (i 1)

theorem off1 (i : grid0.Coords) : k0_off1 i = ![(i 1).val, 0, 0] := by
  have key : ∀ f : Fin 2, (![(Scalar.indexCast (BitVec.ofNat 32 f.val) : Index).toNat, 0, 0] : Fin 3 → ℕ) = ![f.val, 0, 0] := by decide
  exact key (i 1)
theorem off12 (i : grid0.Coords) : k0_off1 i = k0_off2 i := rfl
theorem off2 (i : grid0.Coords) : k0_off2 i = ![(i 1).val, 0, 0] := off1 i

/-- The accumulator before a point's addition, the normalized rows it uses, and the carry it takes in. -/
def acc0 (a : Vec F S512x1024 .f32) : Vec F S512x1024 .f32 := if (i 1).val = 0 then zacc else a
def h0 (Y : Vec F S512x1024 .f32) (G : Vec F S1x1024 .f32) (h : Vec F S512x1024 .bf16) : Vec F S512x1024 .bf16 :=
  if (i 1).val = 0 then H Y G else h
def out0 (Y X a : Vec F S512x1024 .f32) : Vec F S512x1024 .f32 := if (i 1).val = 1 then addf Y a else X
def c0 (C : Vec F S2x8x1408 .f32) : Vec F S1x8x1408 .f32 := if k0_cond2 i = 1#1 then zrow else slab (i 1) C

set_option maxHeartbeats 2000000 in
theorem bodyRun (X2 : Bf (F := F) c arg2) (X3 : Bf (F := F) c arg3) (X4 : Bf (F := F) c arg4) (X5 : Bf (F := F) c arg5) (X6 : Bf (F := F) c arg6)
    (X7 : Bf (F := F) c arg7) (X8 : Bf (F := F) c arg8) (X9 : Bf (F := F) c arg9) (X10 : Bf (F := F) c arg10) (X11 : Bf (F := F) c arg11)
    (X14 : Bf (F := F) c arg14) (X17 : Bf (F := F) c arg17) (X18 : Bf (F := F) c arg18) (X19 : Bf (F := F) c arg19)
    (h : Vec F S512x1024 .bf16) (hh : h = h0 i (arg2.view.read (Elt F) X2) (arg3.view.read (Elt F) X3) (arg14.view.read (Elt F) X14))
    (A : Vec F S512x1024 .f32)
    (hA : A = add h (arg4.view.read (Elt F) X4) (arg5.view.read (Elt F) X5) (arg6.view.read (Elt F) X6) (arg7.view.read (Elt F) X7)
      (arg8.view.read (Elt F) X8) (arg9.view.read (Elt F) X9) (arg10.view.read (Elt F) X10)
      (c0 i (arg17.view.read (Elt F) X17)) (c0 i (arg18.view.read (Elt F) X18)))
    (Q : PUnit → sProp 𝕄) :
    iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10
      ∗ pt c arg11 X11 ∗ (∃ f, pt c arg12 f) ∗ (∃ f, pt c arg13 f) ∗ pt c arg14 X14 ∗ (∃ f, pt c arg15 f) ∗ (∃ f, pt c arg16 f)
      ∗ pt c arg17 X17 ∗ pt c arg18 X18 ∗ pt c arg19 X19
      ∗ (iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10
        ∗ rd c arg11 (out0 i (arg2.view.read (Elt F) X2) (arg11.view.read (Elt F) X11) (addf (acc0 i (arg19.view.read (Elt F) X19)) A))
        ∗ rd c arg12 (last (U h (arg4.view.read (Elt F) X4))) ∗ rd c arg13 (last (U h (arg5.view.read (Elt F) X5)))
        ∗ rd c arg14 h ∗ (∃ f, pt c arg15 f) ∗ (∃ f, pt c arg16 f)
        ∗ rd c arg17 (put (i 1) (arg17.view.read (Elt F) X17) (last (U h (arg4.view.read (Elt F) X4))))
        ∗ rd c arg18 (put (i 1) (arg18.view.read (Elt F) X18) (last (U h (arg5.view.read (Elt F) X5))))
        ∗ rd c arg19 (addf (acc0 i (arg19.view.read (Elt F) X19)) A)) -∗ Q ⟨⟩))
    ⊢ wp frame (wpE (defs₀ (F := F)) 𝒱₀ c none) Set.univ (cc0_ffn_prompt (F := F) i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 harg18 arg19 harg19) Q := by
  iintro ⟨H2, H3, H4, H5, H6, H7, H8, H9, H10, H11, ⟨%f12, H12⟩, ⟨%f13, H13⟩, H14, ⟨%f15, H15⟩, ⟨%f16, H16⟩, H17, H18, H19, Hk⟩
  have hi : (i 1).val < 2 := (i 1).isLt
  by_cases hf : (i 1).val = 0 <;> by_cases hc2 : k0_cond2 i = 1#1
  all_goals
    first
    | have hc1 := (cond1_iff i).mpr hf
      have hc3 : ¬ k0_cond3 i = 1#1 := fun h => by have := (cond3_iff i).mp h; omega
      have e1 : ∀ a : Vec F S512x1024 .f32, acc0 i a = zacc := fun _ => if_pos hf
      have e2 : ∀ (Y : Vec F S512x1024 .f32) (G : Vec F S1x1024 .f32) (h : Vec F S512x1024 .bf16), h0 i Y G h = H Y G := fun _ _ _ => if_pos hf
      have e3 : ∀ Y X a : Vec F S512x1024 .f32, out0 i Y X a = X := fun _ _ _ => if_neg (by omega)
    | have hc1 := mt (cond1_iff i).mp hf
      have hc3 := (cond3_iff i).mpr (by omega)
      have e1 : ∀ a : Vec F S512x1024 .f32, acc0 i a = a := fun _ => if_neg hf
      have e2 : ∀ (Y : Vec F S512x1024 .f32) (G : Vec F S1x1024 .f32) (h : Vec F S512x1024 .bf16), h0 i Y G h = h := fun _ _ _ => if_neg hf
      have e3 : ∀ Y X a : Vec F S512x1024 .f32, out0 i Y X a = addf Y a := fun _ _ _ => if_pos (by omega)
    first
    | have e4 : ∀ C : Vec F S2x8x1408 .f32, c0 i C = zrow := fun _ => if_pos hc2
    | have e4 : ∀ C : Vec F S2x8x1408 .f32, c0 i C = slab (i 1) C := fun _ => if_neg hc2
    sl_exec_parts
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; isplitl [H11]; · iexact H11
                     ipureintro
                     sl_unfold_run_names
                     simp -proj only [hh, hA, e1, e2, e3, e4, add, View.readAt_eq_ld, View.writes_nil, View.ld_unit_zero (S := S512x1024) hz, View.ld_unit_zero (S := S1x1024) hz, View.ld_unit_zero (S := S1024x1408) hz, View.ld_unit_zero (S := S1408x1024) hz, View.ld_unit_zero (S := S1x1408) hz, View.read_writes_full (s := S512x1024), View.read_writes_full (s := S1x8x1408), View.readCov_full (s := S512x1024), View.readCov_cons_toLoadRect, shapeCast_id, ld_slab i (off1 i), ld_slab i (off2 i), put_read i (off1 i), put_read i (off2 i), put_put, bz_row, bz_acc]
                     try (repeat rw [ext_cov])
                     try (repeat rw [row_cov _ (off12 i)])
                     try rw [last_eq]
                     try rw [put_read i (off2 i)]
                     first | done | exact put_put _ _ _ _ | rfl
    isplitl [H12]; · iexists _; isplitl [H12]; · iexact H12
                     ipureintro
                     sl_unfold_run_names
                     simp -proj only [hh, hA, e1, e2, e3, e4, add, View.readAt_eq_ld, View.writes_nil, View.ld_unit_zero (S := S512x1024) hz, View.ld_unit_zero (S := S1x1024) hz, View.ld_unit_zero (S := S1024x1408) hz, View.ld_unit_zero (S := S1408x1024) hz, View.ld_unit_zero (S := S1x1408) hz, View.read_writes_full (s := S512x1024), View.read_writes_full (s := S1x8x1408), View.readCov_full (s := S512x1024), View.readCov_cons_toLoadRect, shapeCast_id, ld_slab i (off1 i), ld_slab i (off2 i), put_read i (off1 i), put_read i (off2 i), put_put, bz_row, bz_acc]
                     try (repeat rw [ext_cov])
                     try (repeat rw [row_cov _ (off12 i)])
                     try rw [last_eq]
                     try rw [put_read i (off2 i)]
                     first | done | exact put_put _ _ _ _ | rfl
    isplitl [H13]; · iexists _; isplitl [H13]; · iexact H13
                     ipureintro
                     sl_unfold_run_names
                     simp -proj only [hh, hA, e1, e2, e3, e4, add, View.readAt_eq_ld, View.writes_nil, View.ld_unit_zero (S := S512x1024) hz, View.ld_unit_zero (S := S1x1024) hz, View.ld_unit_zero (S := S1024x1408) hz, View.ld_unit_zero (S := S1408x1024) hz, View.ld_unit_zero (S := S1x1408) hz, View.read_writes_full (s := S512x1024), View.read_writes_full (s := S1x8x1408), View.readCov_full (s := S512x1024), View.readCov_cons_toLoadRect, shapeCast_id, ld_slab i (off1 i), ld_slab i (off2 i), put_read i (off1 i), put_read i (off2 i), put_put, bz_row, bz_acc]
                     try (repeat rw [ext_cov])
                     try (repeat rw [row_cov _ (off12 i)])
                     try rw [last_eq]
                     try rw [put_read i (off2 i)]
                     first | done | exact put_put _ _ _ _ | rfl
    isplitl [H14]; · iexists _; isplitl [H14]; · iexact H14
                     ipureintro
                     sl_unfold_run_names
                     simp -proj only [hh, hA, e1, e2, e3, e4, add, View.readAt_eq_ld, View.writes_nil, View.ld_unit_zero (S := S512x1024) hz, View.ld_unit_zero (S := S1x1024) hz, View.ld_unit_zero (S := S1024x1408) hz, View.ld_unit_zero (S := S1408x1024) hz, View.ld_unit_zero (S := S1x1408) hz, View.read_writes_full (s := S512x1024), View.read_writes_full (s := S1x8x1408), View.readCov_full (s := S512x1024), View.readCov_cons_toLoadRect, shapeCast_id, ld_slab i (off1 i), ld_slab i (off2 i), put_read i (off1 i), put_read i (off2 i), put_put, bz_row, bz_acc]
                     try (repeat rw [ext_cov])
                     try (repeat rw [row_cov _ (off12 i)])
                     try rw [last_eq]
                     try rw [put_read i (off2 i)]
                     first | done | exact put_put _ _ _ _ | rfl
    isplitl [H15]; · iexists _; iexact H15
    isplitl [H16]; · iexists _; iexact H16
    isplitl [H17]; · iexists _; isplitl [H17]; · iexact H17
                     ipureintro
                     sl_unfold_run_names
                     simp -proj only [hh, hA, e1, e2, e3, e4, add, View.readAt_eq_ld, View.writes_nil, View.ld_unit_zero (S := S512x1024) hz, View.ld_unit_zero (S := S1x1024) hz, View.ld_unit_zero (S := S1024x1408) hz, View.ld_unit_zero (S := S1408x1024) hz, View.ld_unit_zero (S := S1x1408) hz, View.read_writes_full (s := S512x1024), View.read_writes_full (s := S1x8x1408), View.readCov_full (s := S512x1024), View.readCov_cons_toLoadRect, shapeCast_id, ld_slab i (off1 i), ld_slab i (off2 i), put_read i (off1 i), put_read i (off2 i), put_put, bz_row, bz_acc]
                     try (repeat rw [ext_cov])
                     try (repeat rw [row_cov _ (off12 i)])
                     try rw [last_eq]
                     try rw [put_read i (off2 i)]
                     first | done | exact put_put _ _ _ _ | rfl
    isplitl [H18]; · iexists _; isplitl [H18]; · iexact H18
                     ipureintro
                     sl_unfold_run_names
                     simp -proj only [hh, hA, e1, e2, e3, e4, add, View.readAt_eq_ld, View.writes_nil, View.ld_unit_zero (S := S512x1024) hz, View.ld_unit_zero (S := S1x1024) hz, View.ld_unit_zero (S := S1024x1408) hz, View.ld_unit_zero (S := S1408x1024) hz, View.ld_unit_zero (S := S1x1408) hz, View.read_writes_full (s := S512x1024), View.read_writes_full (s := S1x8x1408), View.readCov_full (s := S512x1024), View.readCov_cons_toLoadRect, shapeCast_id, ld_slab i (off1 i), ld_slab i (off2 i), put_read i (off1 i), put_read i (off2 i), put_put, bz_row, bz_acc]
                     try (repeat rw [ext_cov])
                     try (repeat rw [row_cov _ (off12 i)])
                     try rw [last_eq]
                     try rw [put_read i (off2 i)]
                     first | done | exact put_put _ _ _ _ | rfl
    iexists _; isplitl [H19]; · iexact H19
    ipureintro
    sl_unfold_run_names
    simp -proj only [hh, hA, e1, e2, e3, e4, add, View.readAt_eq_ld, View.writes_nil, View.ld_unit_zero (S := S512x1024) hz, View.ld_unit_zero (S := S1x1024) hz, View.ld_unit_zero (S := S1024x1408) hz, View.ld_unit_zero (S := S1408x1024) hz, View.ld_unit_zero (S := S1x1408) hz, View.read_writes_full (s := S512x1024), View.read_writes_full (s := S1x8x1408), View.readCov_full (s := S512x1024), View.readCov_cons_toLoadRect, shapeCast_id, ld_slab i (off1 i), ld_slab i (off2 i), put_read i (off1 i), put_read i (off2 i), put_put, bz_row, bz_acc]
    try (repeat rw [ext_cov])
    try (repeat rw [row_cov _ (off12 i)])
    try rw [last_eq]
    try rw [put_read i (off2 i)]
    first | done | exact put_put _ _ _ _ | rfl

end Cert.Proof.Ffn

end
-- ==== Proof.FfnRun.lean ====
/- The feed-forward kernel's run on its whole grid, at any instance: what the scratch holds between the points, what each
   point leaves in each output block, and the frame. -/
module

public import proofs.«01_k».proof.Proof.FfnBody

@[expose] public section

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coord1 : ∀ t : Fin cfg0.N, ((grid0.coords t) 1).val = t.val % 2 :=
  (by decide +kernel : ∀ t : Fin grid0.N, ((grid0.coords t) 1).val = t.val % 2)
theorem cond2_first : ∀ t : Fin cfg0.N, t.val < 2 → k0_cond2 (grid0.coords t) = 1#1 :=
  (by decide +kernel : ∀ t : Fin grid0.N, t.val < 2 → k0_cond2 (grid0.coords t) = 1#1)

/-- The first point of a tile, and the same half of the tile before. -/
def even (t : Fin cfg0.N) : Fin cfg0.N := ⟨t.val - t.val % 2, by have := t.isLt; omega⟩
def back (t : Fin cfg0.N) : Fin cfg0.N := ⟨t.val - 2, by have := t.isLt; omega⟩

/-- A tile's normalized rows, through each first weight. -/
def hAt (c : Dev nD) (t : Fin cfg0.N) : Vec F S512x1024 .bf16 := H (iblk m c 0 (even t)) (iblk m c 1 (even t))
def UG (c : Dev nD) (t : Fin cfg0.N) : FVec F S512x1408 .f32 := U (hAt m c t) (iblk m c 2 t)
def UV (c : Dev nD) (t : Fin cfg0.N) : FVec F S512x1408 .f32 := U (hAt m c t) (iblk m c 3 t)
/-- The carries a point takes in. -/
def CG (c : Dev nD) (t : Fin cfg0.N) : Vec F S1x8x1408 .f32 := if k0_cond2 (grid0.coords t) = 1#1 then zrow else last (UG m c (back t))
def CV (c : Dev nD) (t : Fin cfg0.N) : Vec F S1x8x1408 .f32 := if k0_cond2 (grid0.coords t) = 1#1 then zrow else last (UV m c (back t))
/-- What a point adds, the accumulator after it, and a tile's output. -/
def addAt (c : Dev nD) (t : Fin cfg0.N) : FVec F S512x1024 .f32 :=
  add (hAt m c t) (iblk m c 2 t) (iblk m c 3 t) (iblk m c 4 t) (iblk m c 5 t) (iblk m c 6 t) (iblk m c 7 t) (iblk m c 8 t) (CG m c t) (CV m c t)
def accAt (c : Dev nD) (t : Fin cfg0.N) : FVec F S512x1024 .f32 :=
  if t.val % 2 = 0 then addf zacc (addAt m c t) else addf (addf zacc (addAt m c (even t))) (addAt m c t)
def outAt (c : Dev nD) (t : Fin cfg0.N) : FVec F S512x1024 .f32 := addf (iblk m c 0 t) (accAt m c t)

/-- What the scratch holds before point `n`: after a tile's first point its rows and its sum so far; after a tile's point,
    until the same half of the next tile, that half's last rows. -/
def Inv (c : Dev nD) (n : ℕ) (h : Vec F S512x1024 .bf16) (cg cv : Vec F S2x8x1408 .f32) (a : Vec F S512x1024 .f32) : Prop :=
  (∀ e : Fin cfg0.N, e.val + 1 = n → e.val % 2 = 0 → h = hAt m c e ∧ a = accAt m c e)
  ∧ ∀ e : Fin cfg0.N, n ≤ e.val + 2 → e.val < n →
    slab ((grid0.coords e) 1) cg = last (UG m c e) ∧ slab ((grid0.coords e) 1) cv = last (UV m c e)

section Steps
variable {m} {c : Dev nD} {t : Fin cfg0.N} {h : Vec F S512x1024 .bf16} {cg cv : Vec F S2x8x1408 .f32} {a : Vec F S512x1024 .f32}

theorem even_of (ht : t.val % 2 = 0) : even t = t := Fin.ext (by show t.val - t.val % 2 = t.val; omega)

theorem h_step (hI : Inv m c t.val h cg cv a) : hAt m c t = h0 (grid0.coords t) (iblk m c 0 t) (iblk m c 1 t) h := by
  have h1 := coord1 t
  unfold h0
  by_cases ht : t.val % 2 = 0
  · rw [if_pos (by omega)]; unfold hAt; rw [even_of ht]
  · rw [if_neg (by omega)]
    have hl := t.isLt
    let e : Fin cfg0.N := ⟨t.val - 1, by omega⟩
    have he : even e = even t := Fin.ext (by show t.val - 1 - (t.val - 1) % 2 = t.val - t.val % 2; omega)
    rw [(hI.1 e (by show t.val - 1 + 1 = t.val; omega) (by show (t.val - 1) % 2 = 0; omega)).1]
    unfold hAt; rw [he]

theorem a_step (hI : Inv m c t.val h cg cv a) : addf (acc0 (grid0.coords t) a) (addAt m c t) = accAt m c t := by
  have h1 := coord1 t
  unfold acc0 accAt
  by_cases ht : t.val % 2 = 0
  · rw [if_pos (by omega), if_pos ht]
  · rw [if_neg (by omega), if_neg ht]
    have hl := t.isLt
    let e : Fin cfg0.N := ⟨t.val - 1, by omega⟩
    have he : even t = e := Fin.ext (by show t.val - t.val % 2 = t.val - 1; omega)
    have h0 : e.val % 2 = 0 := by show (t.val - 1) % 2 = 0; omega
    rw [(hI.1 e (by show t.val - 1 + 1 = t.val; omega) h0).2, he]
    unfold accAt; rw [if_pos h0]

theorem c_step (hI : Inv m c t.val h cg cv a) : c0 (grid0.coords t) cg = CG m c t ∧ c0 (grid0.coords t) cv = CV m c t := by
  unfold c0 CG CV
  by_cases h2 : k0_cond2 (grid0.coords t) = 1#1
  · simp only [if_pos h2, and_self]
  · simp only [if_neg h2]
    have hl : ¬ t.val < 2 := fun hl => h2 (cond2_first t hl)
    have := hI.2 (back t) (by show t.val ≤ t.val - 2 + 2; omega) (by show t.val - 2 < t.val; omega)
    have hc : (grid0.coords (back t)) 1 = (grid0.coords t) 1 := Fin.ext (by
      rw [coord1, coord1]; show (t.val - 2) % 2 = t.val % 2; omega)
    rwa [hc] at this

theorem slab_put (f : Fin 2) (C : Vec F S2x8x1408 .f32) (x) : slab f (put f C x) = x := by
  funext y
  have h0 : (y 0).val < 1 := (y 0).isLt
  unfold slab put
  refine (if_pos rfl).trans ?_
  refine congrArg x (funext fun a => ?_)
  match a with
  | ⟨0, _⟩ => exact Fin.ext (by show 0 = (y 0).val; omega)
  | ⟨1, _⟩ => rfl
  | ⟨2, _⟩ => rfl

theorem slab_put_ne (f g : Fin 2) (h : f.val ≠ g.val) (C : Vec F S2x8x1408 .f32) (x) : slab f (put g C x) = slab f C := by
  funext y
  unfold slab put
  exact if_neg h

theorem inv_step (hI : Inv m c t.val h cg cv a) : Inv m c (t.val + 1) (hAt m c t) (put ((grid0.coords t) 1) cg (last (UG m c t)))
    (put ((grid0.coords t) 1) cv (last (UV m c t))) (accAt m c t) := by
  refine ⟨fun e he _ => ?_, fun e h1 h2 => ?_⟩
  · have : e = t := Fin.ext (by omega)
    subst this; exact ⟨rfl, rfl⟩
  · by_cases he : e.val = t.val
    · have : e = t := Fin.ext he
      subst this; exact ⟨slab_put _ _ _, slab_put _ _ _⟩
    · have hne : ((grid0.coords e) 1).val ≠ ((grid0.coords t) 1).val := by rw [coord1, coord1]; omega
      rw [slab_put_ne _ _ hne, slab_put_ne _ _ hne]
      exact hI.2 e (by omega) (by omega)

end Steps

/-- The invariant between the points. -/
def scr (c : Dev nD) (n : ℕ) : sProp 𝕄 :=
  iprop((∃ f0 : Bf (F := F) c (Memref.whole cc0_scratch0), ∃ f3 : Bf (F := F) c (Memref.whole cc0_scratch3), ∃ f4 : Bf (F := F) c (Memref.whole cc0_scratch4),
      ∃ f5 : Bf (F := F) c (Memref.whole cc0_scratch5),
      pt c (Memref.whole cc0_scratch0) f0 ∗ (∃ f, pt c (Memref.whole cc0_scratch1) f) ∗ (∃ f, pt c (Memref.whole cc0_scratch2) f)
      ∗ pt c (Memref.whole cc0_scratch3) f3 ∗ pt c (Memref.whole cc0_scratch4) f4 ∗ pt c (Memref.whole cc0_scratch5) f5
      ∗ ⌜Inv m c n ((Memref.whole cc0_scratch0).view.read (Elt F) f0) ((Memref.whole cc0_scratch3).view.read (Elt F) f3)
          ((Memref.whole cc0_scratch4).view.read (Elt F) f4) ((Memref.whole cc0_scratch5).view.read (Elt F) f5)⌝) ∗ ∃ r, prngReg c r)

/-- The proof data on core `c`: each input's staging buffer left at its block, the outputs' at the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨10, _⟩ => last (UG m c t)
    | ⟨11, _⟩ => last (UV m c t)
  Φ t := scr m c t.val
  q w := Pipeline.shareOf spec0 w
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d

/-- What the output window's buffer is left at: untouched at a tile's first point, the output at its second. -/
def post9 (c : Dev nD) (t : Fin cfg0.N) : sProp 𝕄 :=
  match cfg0.idle 9 (cfg0.grid.coords t) with
  | true =>
    match (cfg0.win 9).flush t with
    | false => iprop(∃ d, owns (c : Thread nD τ) (st0_9 t) fullShare ((dats m 0 c).before 9 t d))
    | true => owns (c : Thread nD τ) (st0_9 t) fullShare ((dats m 0 c).after 9 t)
  | false => owns (c : Thread nD τ) (st0_9 t) fullShare ((dats m 0 c).after 9 t)

theorem post9_of (c : Dev nD) (t : Fin cfg0.N) (d) :
    owns (c : Thread nD τ) (st0_9 t) fullShare (out0 (grid0.coords t) (iblk m c 0 t) ((dats m 0 c).before 9 t d) (accAt m c t)) ⊢ post9 m c t := by
  have h1 := coord1 t
  have hidle : cfg0.idle 9 (cfg0.grid.coords t) = !(k0_cond3 (grid0.coords t) == 1#1) := rfl
  unfold out0 post9
  by_cases ht : t.val % 2 = 1
  · rw [if_pos (by omega), hidle, (cond3_iff (grid0.coords t)).mpr (by omega)]
    exact .rfl
  · rw [if_neg (by omega), hidle]
    have h3 : (k0_cond3 (grid0.coords t) == 1#1) = false := by
      rw [beq_eq_false_iff_ne]; intro h; have := (cond3_iff (grid0.coords t)).mp h; omega
    have hf : (cfg0.win 9).flush t = false := by
      rw [← Bool.not_eq_true]; exact fun h => ht ((flush0_9 t).mp h)
    rw [h3, hf]
    show _ ⊢ iprop(∃ d, owns (c : Thread nD τ) (st0_9 t) fullShare ((dats m 0 c).before 9 t d))
    iintro H; iexists d; iexact H

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ post9 m c t
    ∗ owns (c : Thread nD τ) (st0_10 t) fullShare (last (UG m c t))
    ∗ owns (c : Thread nD τ) (st0_11 t) fullShare (last (UV m c t)))

theorem owns_of (c : Dev nD) {sp : Space} {S : Shape} {e : EltTy} (M : Memref sig .tc sp S e) (f : Bf (F := F) c M) (d : Vec F S e)
    (h : M.view.read (Elt F) f = d) : (pt c M f : sProp 𝕄) ⊢ owns (c : Thread nD τ) M fullShare d := by
  unfold owns
  iintro H; iexists f; isplitr; · ipureintro; exact h
  iexact H

set_option maxHeartbeats 1000000 in
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6, before_7, before_8]
  rw [show (dats m 0 c).Φ t.succ = scr m c (t.val + 1) from rfl, show (dats m 0 c).Φ t.castSucc = scr m c t.val from rfl,
    show (dats m 0 c).owesAt () t.succ = (dats m 0 c).owesAt () t.castSucc from rfl]
  have hp9 := post9_of m c t
  unfold owns at hp9
  unfold scr owns
  iintro ⟨⟨⟨%f0, %f3, %f4, %f5, H14, H15, H16, H17, H18, H19, %hI⟩, Hg⟩, HO, ⟨%_, %X2, %e2, H2⟩, ⟨%_, %X3, %e3, H3⟩, ⟨%_, %X4, %e4, H4⟩, ⟨%_, %X5, %e5, H5⟩,
    ⟨%_, %X6, %e6, H6⟩, ⟨%_, %X7, %e7, H7⟩, ⟨%_, %X8, %e8, H8⟩, ⟨%_, %X9, %e9, H9⟩, ⟨%_, %X10, %e10, H10⟩, ⟨%d9, %X11, %e11, H11⟩,
    ⟨%_, %X12, %_, H12⟩, ⟨%_, %X13, %_, H13⟩⟩
  iapply (bodyRun (F := F) c (grid0.coords t) _ _ _ _ _ _ _ _ _ _ _ _ _ _ _ _ _ _ _ _ _ _ _ _ _ _ _ _ _ _ _ _ _ _ _ _ X2 X3 X4 X5 X6 X7 X8 X9 X10 X11
    f0 f3 f4 f5 (hAt m c t) (by rw [e2, e3]; exact h_step hI) (addAt m c t)
    (by rw [e4, e5, e6, e7, e8, e9, e10, (c_step hI).1, (c_step hI).2]; rfl) _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists X12; iexact H12
  isplitl [H13]; · iexists X13; iexact H13
  isplitl [H14]; · iexact H14
  isplitl [H15]; · iexact H15
  isplitl [H16]; · iexact H16
  isplitl [H17]; · iexact H17
  isplitl [H18]; · iexact H18
  isplitl [H19]; · iexact H19
  rw [e2, e4, e5, e11, a_step hI]
  iintro ⟨H2, H3, H4, H5, H6, H7, H8, H9, H10, ⟨%Z11, H11, %z11⟩, ⟨%Z12, H12, %z12⟩, ⟨%Z13, H13, %z13⟩, ⟨%Z14, H14, %z14⟩, H15, H16,
    ⟨%Z17, H17, %z17⟩, ⟨%Z18, H18, %z18⟩, ⟨%Z19, H19, %z19⟩⟩
  isplitl [H14 H15 H16 H17 H18 H19 Hg]
  · isplitl [H14 H15 H16 H17 H18 H19]
    · iexists Z14; iexists Z17; iexists Z18; iexists Z19
      isplitl [H14]; · iexact H14
      isplitl [H15]; · iexact H15
      isplitl [H16]; · iexact H16
      isplitl [H17]; · iexact H17
      isplitl [H18]; · iexact H18
      isplitl [H19]; · iexact H19
      ipureintro
      rw [z14, z17, z18, z19]
      exact inv_step hI
    iexact Hg
  isplitl [HO]; · iexact HO
  isplitl [H2]; · iexists X2; isplitr; · ipureintro; exact e2
                  iexact H2
  isplitl [H3]; · iexists X3; isplitr; · ipureintro; exact e3
                  iexact H3
  isplitl [H4]; · iexists X4; isplitr; · ipureintro; exact e4
                  iexact H4
  isplitl [H5]; · iexists X5; isplitr; · ipureintro; exact e5
                  iexact H5
  isplitl [H6]; · iexists X6; isplitr; · ipureintro; exact e6
                  iexact H6
  isplitl [H7]; · iexists X7; isplitr; · ipureintro; exact e7
                  iexact H7
  isplitl [H8]; · iexists X8; isplitr; · ipureintro; exact e8
                  iexact H8
  isplitl [H9]; · iexists X9; isplitr; · ipureintro; exact e9
                  iexact H9
  isplitl [H10]; · iexists X10; isplitr; · ipureintro; exact e10
                   iexact H10
  isplitl [H11]
  · iapply (hp9 d9)
    iexists Z11; isplitr; · ipureintro; exact z11
    iexact H11
  isplitl [H12]; · iexists Z12; isplitr; · ipureintro; exact z12
                   iexact H12
  iexists Z13; isplitr; · ipureintro; exact z13
  iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) 𝒱₀ () Set.univ := fun t => by
  rw [bigSep_W0, bigSep_W0, defs₀_row]
  exact triple_restated (sound_body m c t) rfl .rfl fun _ => .rfl

theorem pt_whole (c : Dev nD) (b : Ref sig .tc) : (iprop(∃ f : Buf (Elt F) ((c : Thread nD τ).loc b), ((c : Thread nD τ).loc b) ↦{fullShare} f) : sProp 𝕄)
    = iprop(∃ f, pt c (Memref.whole b) f) := by
  exact congrArg (fun S => (iprop(∃ f : Buf (Elt F) ((c : Thread nD τ).loc b), ((c : Thread nD τ).loc b) ↦[S]{fullShare} f) : sProp 𝕄)) (View.set_whole b).symm

theorem scratch_eq (c : Dev nD) : (Pipeline.scopedRest (Ix := Unit) (Name := ℕ) (U := UR sig nD τ) (Lvl := ℕ) (Val := Elt F) spec0 c : sProp 𝕄)
    = iprop((∃ f, pt c (Memref.whole cc0_scratch0) f) ∗ (∃ f, pt c (Memref.whole cc0_scratch1) f) ∗ (∃ f, pt c (Memref.whole cc0_scratch2) f)
      ∗ (∃ f, pt c (Memref.whole cc0_scratch3) f) ∗ (∃ f, pt c (Memref.whole cc0_scratch4) f) ∗ (∃ f, pt c (Memref.whole cc0_scratch5) f)) := by
  rw [scopedRest0_eq]
  iterate 5 refine congrArg₂ BIBase.sep (pt_whole c _) ?_
  exact pt_whole c _

theorem scr_in (c : Dev nD) : Pipeline.ΦA spec0 c ⊢ (scr m c 0 : sProp 𝕄) := by
  unfold Pipeline.ΦA scr
  rw [scratch_eq]
  iintro ⟨⟨⟨%f0, H0⟩, H1, H2, ⟨%f3, H3⟩, ⟨%f4, H4⟩, ⟨%f5, H5⟩⟩, Hg⟩
  isplitr [Hg]
  · iexists f0; iexists f3; iexists f4; iexists f5
    isplitl [H0]; · iexact H0
    isplitl [H1]; · iexact H1
    isplitl [H2]; · iexact H2
    isplitl [H3]; · iexact H3
    isplitl [H4]; · iexact H4
    isplitl [H5]; · iexact H5
    ipureintro
    exact ⟨fun e he => absurd he (Nat.succ_ne_zero _), fun e _ he => absurd he (Nat.not_lt_zero _)⟩
  iexact Hg

theorem scr_out (c : Dev nD) (n : ℕ) : (scr m c n : sProp 𝕄) ⊢ Pipeline.ΦA spec0 c := by
  unfold Pipeline.ΦA scr
  rw [scratch_eq]
  iintro ⟨⟨%f0, %f3, %f4, %f5, H0, H1, H2, H3, H4, H5, %_⟩, Hg⟩
  isplitr [Hg]
  · isplitl [H0]; · iexists f0; iexact H0
    isplitl [H1]; · iexact H1
    isplitl [H2]; · iexact H2
    isplitl [H3]; · iexists f3; iexact H3
    isplitl [H4]; · iexists f4; iexact H4
    iexists f5; iexact H5
  iexact Hg

/-- From any memory with zero counters every weakly fair execution of @main terminates, every array ending with its blocks
    written, every other buffer as the later host lines leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ 𝒱₀ m ρ main
    (hbody := fun c => (body_obligation m c).loose) (hq := fun _ _ _ => rfl) (howed := fun _ _ => rfl)
    (V₀ := V0 m) (opss := [hostOps1]) (hsub := sfx_sub) (hfresh := sfx_fresh) (hkeep := sfx_keeps) (hmain := hmain m 𝒱₀)
    (hA := A_eq m) (hin := scr_in m) (hout := fun c => scr_out m c _)

variable {m} in
/-- What such an end leaves in the arguments: what they were launched with. -/
theorem args_kept {r : PUnit × MemSt nD τ sig (Elt F)}
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 5).trans (((dats m 0 c).arrAt_in 5 rfl _).trans ((A_eq m c 5).trans (V_main_arg3 m c))),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept h.1, h.2⟩) (run_main m ρ)

end Cert.Proof.Ffn

end
-- ==== Proof.FfnFrame.lean ====
/- The feed-forward kernel's frame as executed: its text is that of the module printed for the extended reals, so the one run
   serves both. -/
module

public import proofs.«01_k».proof.Proof.FfnRun
public import proofs.«01_k».proof.Proof.Gen.Ffn

@[expose] public section

namespace Cert.Proof.Ffn

open Idealize.ShloMosaic

variable {F : FTy → Type} [FloatOps F]

theorem bodies_eq : Cert.Ffn.defs₀ (F := F) = Cert.FfnIdeal.defs₀ (F := F) := by
  unfold Cert.Ffn.defs₀ Cert.FfnIdeal.defs₀
  refine congrArg Defs.onTc (funext fun l => funext fun x => ?_)
  match l, x with
  | 0, (t, s) => rfl

theorem defs_eq : Cert.Ffn.defs (F := F) = Cert.FfnIdeal.defs (F := F) :=
  congrArg (Pipeline.defs (Cert.FfnIdeal.pcfgs (F := F))) bodies_eq

theorem frame_executed : Cert.quiescent_Ffn (hFfn := Cert.Ffn.Gen.facts) := fun m ρ _ => by
  have h := frame (F := Bits) m ρ
  rw [← defs_eq] at h
  exact h

end Cert.Proof.Ffn

end
-- ==== Proof.FfnSpec.lean ====
/- The feed-forward block over the extended reals, element by element: normalized rows, the first weight, a causal
   three-tap convolution along the tokens, a gated product, the second weight, and the residual. -/
module

public import Idealize.ShloMosaic.PureOps.Ideal

@[expose] public section

noncomputable section

namespace Cert.Proof.FfnSpec

open Idealize.ShloMosaic

/-- A row's mean square, over 1024 entries, kept away from zero, and its inverse root. -/
def scale (f : Fin 1024 → EReal) : EReal :=
  Ideal.rsqrt (Ideal.div (∑ k, f k * f k) (Ideal.ofBits .f32 0x44800000#32) + Ideal.ofBits .f32 0x358637BD#32)

/-- `x` through its logistic. -/
def silu (x : EReal) : EReal := x * Ideal.div 1 (1 + Ideal.exp (-x))

variable (X : Fin 2 → Fin 8192 → Fin 1024 → EReal) (g : Fin 1024 → EReal) (W : Fin 1024 → Fin 5632 → EReal)
  (w : Fin 3 → Fin 5632 → EReal) (β : Fin 5632 → EReal) (Wo : Fin 2816 → Fin 1024 → EReal)

def rows (b : Fin 2) (s : Fin 8192) (d : Fin 1024) : EReal := X b s d * scale (X b s) * g d

def up (b : Fin 2) (s : Fin 8192) (j : Fin 5632) : EReal := ∑ d, rows X g b s d * W d j

/-- The row `k` tokens back, zero before the first. -/
def tap (b : Fin 2) (s : Fin 8192) (k : ℕ) (j : Fin 5632) : EReal :=
  if h : k ≤ s.val then up X g W b ⟨s.val - k, by omega⟩ j else 0

def cv (b : Fin 2) (s : Fin 8192) (j : Fin 5632) : EReal :=
  tap X g W b s 2 j * w 0 j + tap X g W b s 1 j * w 1 j + up X g W b s j * w 2 j + β j

/-- One hidden lane's part of the output. -/
def part (b : Fin 2) (s : Fin 8192) (n : Fin 1024) (q : Fin 2816) : EReal :=
  silu (cv X g W w β b s ⟨q.val, by omega⟩) * cv X g W w β b s ⟨2816 + q.val, by omega⟩ * Wo q n

def out (b : Fin 2) (s : Fin 8192) (n : Fin 1024) : EReal := X b s n + ∑ q, part X g W w β Wo b s n q

/-- A sum over the hidden lanes as two halves. -/
theorem sum_half (f : Fin 2816 → EReal) :
    ∑ q, f q = (∑ k : Fin 1408, f ⟨k.val, by omega⟩) + ∑ k : Fin 1408, f ⟨1408 + k.val, by omega⟩ := by
  rw [Fin.sum_univ_add (a := 1408) (b := 1408) f]
  rfl

end Cert.Proof.FfnSpec

end
-- ==== Proof.FfnAt.lean ====
/- The feed-forward kernel's stages of one grid point, read at an index over the extended reals. -/
module

public import proofs.«01_k».proof.Proof.FfnBody
public import proofs.«01_k».proof.Proof.FfnSpec
public import Idealize.ShloMosaic.Lib.KernelVsHost

@[expose] public section

noncomputable section

namespace Cert.Proof.Ffn

open Cert.FfnIdeal Cert.FfnIdeal.Gen
open Idealize.ShloMosaic Idealize.ShloMosaic.TcCoe

theorem one_eq : Ideal.ofBits .f32 0x3F800000#32 = 1 := by
  simp [Ideal.ofBits, Ideal.ieee]
  rw [← EReal.coe_mul]
  norm_num

theorem H_at (Y : Vec Ideal S512x1024 .f32) (G : Vec Ideal S1x1024 .f32) (i : Fin 512) (d : Fin 1024) :
    H Y G (ix2 i d) = Y (ix2 i d) * FfnSpec.scale (fun k => Y (ix2 i k)) * G (ix2 0 d) := by
  pointwise [H, FfnSpec.scale]

theorem U_at (h : Vec Ideal S512x1024 .bf16) (W : Vec Ideal S1024x1408 .bf16) (i : Fin 512) (j : Fin 1408) :
    U h W (ix2 i j) = ∑ d : Fin 1024, h (ix2 i d) * W (ix2 d j) := by
  pointwise [U]

theorem ld_row (cw : Vec Ideal S3x1408 .f32) (a : Fin 3) (inb) (j : Fin 1408) :
    View.ld (Val := Elt Ideal) (e' := .f32) cw (Rect.unit (s := S3x1408) ![a.val, 0] S1x1408.size inb) (ix2 0 j) = cw (ix2 a j) := by
  refine congrArg cw (funext fun (e : Fin 2) => Fin.ext ?_)
  match e with
  | ⟨0, _⟩ => show a.val + 1 * 0 = a.val; omega
  | ⟨1, _⟩ => show 0 + 1 * j.val = j.val; omega

theorem ld_ext (x : Vec Ideal S520x1408 .f32) (a : Fin 9) (inb) (i : Fin 512) (j : Fin 1408) :
    View.ld (Val := Elt Ideal) (e' := .f32) x (Rect.unit (s := S520x1408) ![a.val, 0] S512x1408.size inb) (ix2 i j)
      = x (ix2 ⟨a.val + i.val, by omega⟩ j) := by
  refine congrArg x (funext fun (e : Fin 2) => Fin.ext ?_)
  match e with
  | ⟨0, _⟩ => show a.val + 1 * i.val = a.val + i.val; omega
  | ⟨1, _⟩ => show 0 + 1 * j.val = j.val; omega

theorem conv_at (cw : Vec Ideal S3x1408 .f32) (cb : Vec Ideal S1x1408 .f32) (C : Vec Ideal S1x8x1408 .f32) (u : FVec Ideal S512x1408 .f32)
    (i : Fin 512) (j : Fin 1408) : conv cw cb C u (ix2 i j)
      = cw (ix2 2 j) * u (ix2 i j) + cb (ix2 0 j) + cw (ix2 1 j) * ext C u (ix2 ⟨7 + i.val, by omega⟩ j)
        + cw (ix2 0 j) * ext C u (ix2 ⟨6 + i.val, by omega⟩ j) := by
  have e2 := ld_row cw 2 inb_S3x1408_S1x1408_2_0 j
  have e1 := ld_row cw 1 inb_S3x1408_S1x1408_1_0 j
  have e0 := ld_row cw 0 inb_S3x1408_S1x1408_0_0 j
  have x7 := ld_ext (ext C u) 7 inb_S520x1408_S512x1408_7_0 i j
  have x6 := ld_ext (ext C u) 6 inb_S520x1408_S512x1408_6_0 i j
  have key : ∀ (r2 r1 r0 : FVec Ideal S1x1408 .f32) (a7 a6 : FVec Ideal S512x1408 .f32),
      addf (addf (addf (mulf (broadcastTo S512x1408 r2 broadcasts_S1x1408_S512x1408) u) (broadcastTo S512x1408 cb broadcasts_S1x1408_S512x1408))
        (mulf (broadcastTo S512x1408 r1 broadcasts_S1x1408_S512x1408) a7)) (mulf (broadcastTo S512x1408 r0 broadcasts_S1x1408_S512x1408) a6) (ix2 i j)
      = r2 (ix2 0 j) * u (ix2 i j) + cb (ix2 0 j) + r1 (ix2 0 j) * a7 (ix2 i j) + r0 (ix2 0 j) * a6 (ix2 i j) := fun r2 r1 r0 a7 a6 => by
    pointwise
  refine (key _ _ _ _ _).trans ?_
  exact congr (congrArg HAdd.hAdd (congr (congrArg HAdd.hAdd (congrArg (· + cb (ix2 0 j)) (congrArg (· * u (ix2 i j)) e2)))
    (congr (congrArg HMul.hMul e1) x7))) (congr (congrArg HMul.hMul e0) x6)

theorem act_at (g v : FVec Ideal S512x1408 .f32) (i : Fin 512) (j : Fin 1408) :
    act g v (ix2 i j) = FfnSpec.silu (g (ix2 i j)) * v (ix2 i j) := by
  pointwise [act, FfnSpec.silu]
  simp [one_eq, sub_eq_add_neg]

theorem O_at (a : FVec Ideal S512x1408 .f32) (W : Vec Ideal S1408x1024 .bf16) (i : Fin 512) (n : Fin 1024) :
    O a W (ix2 i n) = ∑ k : Fin 1408, a (ix2 i k) * W (ix2 k n) := by
  pointwise [O]

end Cert.Proof.Ffn

end
-- ==== Proof.FfnBlocks.lean ====
/- The feed-forward kernel over the extended reals: the host's arrangement and each grid point's blocks read at an index,
   the rows and the convolution of a tile in terms of the whole arrays, and so each tile's output. -/
module

public import proofs.«01_k».proof.Proof.FfnRun
public import proofs.«01_k».proof.Proof.FfnAt
public import Idealize.ShloMosaic.Lib.StableHlo.ReadAt

@[expose] public section

noncomputable section

namespace Cert.Proof.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD)

/-- The arguments, element by element. -/
def aX (b : Fin 2) (s : Fin 8192) (d : Fin 1024) : EReal := (m ((c.tc : Thread nD τ).loc main_arg0) : Vec Ideal S2x8192x1024 .f32) (ix3 b s d)
def aG (d : Fin 1024) : EReal := (m ((c.tc : Thread nD τ).loc main_arg1) : Vec Ideal S1024 .f32) (ix1 d)
def aW (d : Fin 1024) (j : Fin 5632) : EReal := (m ((c.tc : Thread nD τ).loc main_arg2) : Vec Ideal S1024x5632 .f32) (ix2 d j)
def aC (k : Fin 3) (j : Fin 5632) : EReal := (m ((c.tc : Thread nD τ).loc main_arg3) : Vec Ideal S3x5632 .f32) (ix2 k j)
def aB (j : Fin 5632) : EReal := (m ((c.tc : Thread nD τ).loc main_arg4) : Vec Ideal S5632 .f32) (ix1 j)
def aO (q : Fin 2816) (n : Fin 1024) : EReal := (m ((c.tc : Thread nD τ).loc main_arg5) : Vec Ideal S2816x1024 .f32) (ix2 q n)

/-! ## The host's arrangement -/

theorem packed0 (y : Fin 16384) (z : Fin 1024) : (V m c main_v0 : Vec Ideal S16384x1024 .f32) (ix2 y z)
    = aX m c ⟨y.val / 8192, by omega⟩ ⟨y.val % 8192, by omega⟩ z := by
  unfold V aX
  after_reads_at
theorem packed1 (z : Fin 1024) : (V m c main_v1 : Vec Ideal S1x1024 .f32) (ix2 0 z) = aG m c z := by
  unfold V aG
  after_reads_at
theorem packed2 (d : Fin 1024) (j : Fin 5632) : (V m c main_v2 : Vec Ideal S1024x5632 .bf16) (ix2 d j) = aW m c d j := by
  unfold V aW
  after_reads_at
theorem packed3 (j : Fin 5632) : (V m c main_v3 : Vec Ideal S1x5632 .f32) (ix2 0 j) = aB m c j := by
  unfold V aB
  after_reads_at
theorem packed4 (q : Fin 2816) (n : Fin 1024) : (V m c main_v4 : Vec Ideal S2816x1024 .bf16) (ix2 q n) = aO m c q n := by
  unfold V aO
  after_reads_at

/-! ## The points -/

theorem N_lt (t : Fin cfg0.N) : t.val < 64 := lt_of_lt_of_eq t.isLt N_0

theorem tr0 : ∀ t : Fin cfg0.N, cc0_transform_0 (grid0.coords t) 0 = t.val / 2 ∧ cc0_transform_0 (grid0.coords t) 1 = 0 :=
  (by decide +kernel : ∀ t : Fin grid0.N, cc0_transform_0 (grid0.coords t) 0 = t.val / 2 ∧ cc0_transform_0 (grid0.coords t) 1 = 0)
theorem tr1 : ∀ t : Fin cfg0.N, cc0_transform_1 (grid0.coords t) 0 = 0 ∧ cc0_transform_1 (grid0.coords t) 1 = 0 :=
  (by decide +kernel : ∀ t : Fin grid0.N, cc0_transform_1 (grid0.coords t) 0 = 0 ∧ cc0_transform_1 (grid0.coords t) 1 = 0)
theorem tr2 : ∀ t : Fin cfg0.N, cc0_transform_2 (grid0.coords t) 0 = 0 ∧ cc0_transform_2 (grid0.coords t) 1 = t.val % 2 :=
  (by decide +kernel : ∀ t : Fin grid0.N, cc0_transform_2 (grid0.coords t) 0 = 0 ∧ cc0_transform_2 (grid0.coords t) 1 = t.val % 2)
theorem tr3 : ∀ t : Fin cfg0.N, cc0_transform_3 (grid0.coords t) 0 = 0 ∧ cc0_transform_3 (grid0.coords t) 1 = t.val % 2 + 2 :=
  (by decide +kernel : ∀ t : Fin grid0.N, cc0_transform_3 (grid0.coords t) 0 = 0 ∧ cc0_transform_3 (grid0.coords t) 1 = t.val % 2 + 2)
theorem tr4 : ∀ t : Fin cfg0.N, cc0_transform_4 (grid0.coords t) 0 = 0 ∧ cc0_transform_4 (grid0.coords t) 1 = t.val % 2 :=
  (by decide +kernel : ∀ t : Fin grid0.N, cc0_transform_4 (grid0.coords t) 0 = 0 ∧ cc0_transform_4 (grid0.coords t) 1 = t.val % 2)
theorem tr5 : ∀ t : Fin cfg0.N, cc0_transform_5 (grid0.coords t) 0 = 0 ∧ cc0_transform_5 (grid0.coords t) 1 = t.val % 2 + 2 :=
  (by decide +kernel : ∀ t : Fin grid0.N, cc0_transform_5 (grid0.coords t) 0 = 0 ∧ cc0_transform_5 (grid0.coords t) 1 = t.val % 2 + 2)
theorem tr6 : ∀ t : Fin cfg0.N, cc0_transform_6 (grid0.coords t) 0 = 0 ∧ cc0_transform_6 (grid0.coords t) 1 = t.val % 2 :=
  (by decide +kernel : ∀ t : Fin grid0.N, cc0_transform_6 (grid0.coords t) 0 = 0 ∧ cc0_transform_6 (grid0.coords t) 1 = t.val % 2)
theorem tr7 : ∀ t : Fin cfg0.N, cc0_transform_7 (grid0.coords t) 0 = 0 ∧ cc0_transform_7 (grid0.coords t) 1 = t.val % 2 + 2 :=
  (by decide +kernel : ∀ t : Fin grid0.N, cc0_transform_7 (grid0.coords t) 0 = 0 ∧ cc0_transform_7 (grid0.coords t) 1 = t.val % 2 + 2)
theorem tr8 : ∀ t : Fin cfg0.N, cc0_transform_8 (grid0.coords t) 0 = t.val % 2 ∧ cc0_transform_8 (grid0.coords t) 1 = 0 :=
  (by decide +kernel : ∀ t : Fin grid0.N, cc0_transform_8 (grid0.coords t) 0 = t.val % 2 ∧ cc0_transform_8 (grid0.coords t) 1 = 0)
/-- A sequence's first tile takes no carry. -/
theorem first_iff : ∀ t : Fin cfg0.N, k0_cond2 (grid0.coords t) = 1#1 ↔ t.val / 2 % 16 = 0 :=
  (by decide +kernel : ∀ t : Fin grid0.N, k0_cond2 (grid0.coords t) = 1#1 ↔ t.val / 2 % 16 = 0)

/-- A column of a point's half: of the gates, and of the values. -/
def colG (t : Fin cfg0.N) (j : Fin 1408) : Fin 5632 := ⟨t.val % 2 * 1408 + j.val, by omega⟩
def colV (t : Fin cfg0.N) (j : Fin 1408) : Fin 5632 := ⟨(t.val % 2 + 2) * 1408 + j.val, by omega⟩

/-! ## The blocks -/

section Blocks
variable (t : Fin cfg0.N)

theorem packed_row (y : Fin 16384) (d : Fin 1024) (b : Fin 2) (s : Fin 8192) (h : y.val = b.val * 8192 + s.val) :
    (V m c main_v0 : Vec Ideal S16384x1024 .f32) (ix2 y d) = aX m c b s d := by
  have e1 : (⟨y.val / 8192, by omega⟩ : Fin 2) = b := Fin.ext (by show y.val / 8192 = b.val; omega)
  have e2 : (⟨y.val % 8192, by omega⟩ : Fin 8192) = s := Fin.ext (by show y.val % 8192 = s.val; omega)
  rw [packed0, e1, e2]

theorem tile_row (i : Fin 512) (d : Fin 1024) (y : Fin 16384) (h : y.val = 512 * (t.val / 2) + i.val) :
    iblk m c 0 t (ix2 i d) = (V m c main_v0 : Vec Ideal S16384x1024 .f32) (ix2 y d) := by
  obtain ⟨h0, h1⟩ := tr0 t
  unfold iblk
  rw [View.read_apply]
  refine congrArg (V m c main_v0 : Vec Ideal S16384x1024 .f32) (funext fun (a : Fin 2) => Fin.ext ?_)
  match a with
  | ⟨0, _⟩ => show cc0_transform_0 (grid0.coords t) 0 * 512 + 1 * i.val = y.val
              rw [h0, h]; omega
  | ⟨1, _⟩ => show cc0_transform_0 (grid0.coords t) 1 * 1024 + 1 * d.val = d.val
              rw [h1]; omega

theorem blk0 (i : Fin 512) (d : Fin 1024) (b : Fin 2) (s : Fin 8192) (h : b.val * 8192 + s.val = 512 * (t.val / 2) + i.val) :
    iblk m c 0 t (ix2 i d) = aX m c b s d := by
  have hl : 512 * (t.val / 2) + i.val < 16384 := by have := N_lt t; omega
  exact (tile_row m c t i d ⟨_, hl⟩ rfl).trans (packed_row m c ⟨_, hl⟩ d b s h.symm)

theorem blk1 (d : Fin 1024) : iblk m c 1 t (ix2 0 d) = aG m c d := by
  obtain ⟨h0, h1⟩ := tr1 t
  unfold iblk
  rw [View.read_apply]
  refine Eq.trans (congrArg (V m c main_v1 : Vec Ideal S1x1024 .f32) (funext fun (a : Fin 2) => Fin.ext ?_)) (packed1 m c d)
  match a with
  | ⟨0, _⟩ => show cc0_transform_1 (grid0.coords t) 0 * 1 + 1 * 0 = 0
              rw [h0]
  | ⟨1, _⟩ => show cc0_transform_1 (grid0.coords t) 1 * 1024 + 1 * d.val = d.val
              rw [h1]; omega

theorem blk2 (d : Fin 1024) (j : Fin 1408) : iblk m c 2 t (ix2 d j) = aW m c d (colG t j) := by
  obtain ⟨h0, h1⟩ := tr2 t
  unfold iblk
  rw [View.read_apply]
  refine Eq.trans (congrArg (V m c main_v2 : Vec Ideal S1024x5632 .bf16) (funext fun (a : Fin 2) => Fin.ext ?_)) (packed2 m c d (colG t j))
  match a with
  | ⟨0, _⟩ => show cc0_transform_2 (grid0.coords t) 0 * 1024 + 1 * d.val = d.val
              rw [h0]; omega
  | ⟨1, _⟩ => show cc0_transform_2 (grid0.coords t) 1 * 1408 + 1 * j.val = t.val % 2 * 1408 + j.val
              rw [h1]; omega

theorem blk3 (d : Fin 1024) (j : Fin 1408) : iblk m c 3 t (ix2 d j) = aW m c d (colV t j) := by
  obtain ⟨h0, h1⟩ := tr3 t
  unfold iblk
  rw [View.read_apply]
  refine Eq.trans (congrArg (V m c main_v2 : Vec Ideal S1024x5632 .bf16) (funext fun (a : Fin 2) => Fin.ext ?_)) (packed2 m c d (colV t j))
  match a with
  | ⟨0, _⟩ => show cc0_transform_3 (grid0.coords t) 0 * 1024 + 1 * d.val = d.val
              rw [h0]; omega
  | ⟨1, _⟩ => show cc0_transform_3 (grid0.coords t) 1 * 1408 + 1 * j.val = (t.val % 2 + 2) * 1408 + j.val
              rw [h1]; omega

theorem blk4 (k : Fin 3) (j : Fin 1408) : iblk m c 4 t (ix2 k j) = aC m c k (colG t j) := by
  obtain ⟨h0, h1⟩ := tr4 t
  unfold iblk
  rw [View.read_apply]
  refine Eq.trans (congrArg (V m c main_arg3 : Vec Ideal S3x5632 .f32) (funext fun (a : Fin 2) => Fin.ext ?_))
    (congrFun (V_main_arg3 m c) (ix2 k (colG t j)))
  match a with
  | ⟨0, _⟩ => show cc0_transform_4 (grid0.coords t) 0 * 3 + 1 * k.val = k.val
              rw [h0]; omega
  | ⟨1, _⟩ => show cc0_transform_4 (grid0.coords t) 1 * 1408 + 1 * j.val = t.val % 2 * 1408 + j.val
              rw [h1]; omega

theorem blk5 (k : Fin 3) (j : Fin 1408) : iblk m c 5 t (ix2 k j) = aC m c k (colV t j) := by
  obtain ⟨h0, h1⟩ := tr5 t
  unfold iblk
  rw [View.read_apply]
  refine Eq.trans (congrArg (V m c main_arg3 : Vec Ideal S3x5632 .f32) (funext fun (a : Fin 2) => Fin.ext ?_))
    (congrFun (V_main_arg3 m c) (ix2 k (colV t j)))
  match a with
  | ⟨0, _⟩ => show cc0_transform_5 (grid0.coords t) 0 * 3 + 1 * k.val = k.val
              rw [h0]; omega
  | ⟨1, _⟩ => show cc0_transform_5 (grid0.coords t) 1 * 1408 + 1 * j.val = (t.val % 2 + 2) * 1408 + j.val
              rw [h1]; omega

theorem blk6 (j : Fin 1408) : iblk m c 6 t (ix2 0 j) = aB m c (colG t j) := by
  obtain ⟨h0, h1⟩ := tr6 t
  unfold iblk
  rw [View.read_apply]
  refine Eq.trans (congrArg (V m c main_v3 : Vec Ideal S1x5632 .f32) (funext fun (a : Fin 2) => Fin.ext ?_)) (packed3 m c (colG t j))
  match a with
  | ⟨0, _⟩ => show cc0_transform_6 (grid0.coords t) 0 * 1 + 1 * 0 = 0
              rw [h0]
  | ⟨1, _⟩ => show cc0_transform_6 (grid0.coords t) 1 * 1408 + 1 * j.val = t.val % 2 * 1408 + j.val
              rw [h1]; omega

theorem blk7 (j : Fin 1408) : iblk m c 7 t (ix2 0 j) = aB m c (colV t j) := by
  obtain ⟨h0, h1⟩ := tr7 t
  unfold iblk
  rw [View.read_apply]
  refine Eq.trans (congrArg (V m c main_v3 : Vec Ideal S1x5632 .f32) (funext fun (a : Fin 2) => Fin.ext ?_)) (packed3 m c (colV t j))
  match a with
  | ⟨0, _⟩ => show cc0_transform_7 (grid0.coords t) 0 * 1 + 1 * 0 = 0
              rw [h0]
  | ⟨1, _⟩ => show cc0_transform_7 (grid0.coords t) 1 * 1408 + 1 * j.val = (t.val % 2 + 2) * 1408 + j.val
              rw [h1]; omega

theorem blk8 (k : Fin 1408) (n : Fin 1024) : iblk m c 8 t (ix2 k n) = aO m c ⟨t.val % 2 * 1408 + k.val, by omega⟩ n := by
  obtain ⟨h0, h1⟩ := tr8 t
  unfold iblk
  rw [View.read_apply]
  refine Eq.trans (congrArg (V m c main_v4 : Vec Ideal S2816x1024 .bf16) (funext fun (a : Fin 2) => Fin.ext ?_)) (packed4 m c ⟨t.val % 2 * 1408 + k.val, by omega⟩ n)
  match a with
  | ⟨0, _⟩ => show cc0_transform_8 (grid0.coords t) 0 * 1408 + 1 * k.val = t.val % 2 * 1408 + k.val
              rw [h0]; omega
  | ⟨1, _⟩ => show cc0_transform_8 (grid0.coords t) 1 * 1024 + 1 * n.val = n.val
              rw [h1]; omega

/-! ## A tile's rows -/

variable (i : Fin 512) (b : Fin 2) (s : Fin 8192)

theorem hAt_at (d : Fin 1024) (h : b.val * 8192 + s.val = 512 * (t.val / 2) + i.val) :
    hAt m c t (ix2 i d) = FfnSpec.rows (aX m c) (aG m c) b s d := by
  have he : b.val * 8192 + s.val = 512 * ((even t).val / 2) + i.val := by
    rw [h]; show _ = 512 * ((t.val - t.val % 2) / 2) + i.val; omega
  unfold hAt FfnSpec.rows
  rw [H_at, blk1, blk0 m c (even t) i d b s he]
  exact congrArg (fun f => aX m c b s d * FfnSpec.scale f * aG m c d) (funext fun k => blk0 m c (even t) i k b s he)

theorem UG_at (j : Fin 1408) (h : b.val * 8192 + s.val = 512 * (t.val / 2) + i.val) :
    UG m c t (ix2 i j) = FfnSpec.up (aX m c) (aG m c) (aW m c) b s (colG t j) := by
  unfold UG
  rw [U_at]
  exact Finset.sum_congr rfl fun d _ => congr (congrArg HMul.hMul (hAt_at m c t i b s d h)) (blk2 m c t d j)

theorem UV_at (j : Fin 1408) (h : b.val * 8192 + s.val = 512 * (t.val / 2) + i.val) :
    UV m c t (ix2 i j) = FfnSpec.up (aX m c) (aG m c) (aW m c) b s (colV t j) := by
  unfold UV
  rw [U_at]
  exact Finset.sum_congr rfl fun d _ => congr (congrArg HMul.hMul (hAt_at m c t i b s d h)) (blk3 m c t d j)

/-! ## The convolution -/

theorem ext_low (C : Vec Ideal S1x8x1408 .f32) (u : FVec Ideal S512x1408 .f32) (y : Fin 520) (j : Fin 1408) (h : y.val < 8) :
    ext C u (ix2 y j) = C (ix3 0 ⟨y.val, h⟩ j) := dif_pos h
theorem ext_high (C : Vec Ideal S1x8x1408 .f32) (u : FVec Ideal S512x1408 .f32) (y : Fin 520) (j : Fin 1408) (h : ¬ y.val < 8) :
    ext C u (ix2 y j) = u (ix2 ⟨y.val - 8, by omega⟩ j) := dif_neg h

/-- Carried rows then the tile's: `k` rows back in the tile is `k` tokens back, and zero before the first. -/
theorem ext_at (u : Fin cfg0.N → FVec Ideal S512x1408 .f32) (col : Fin 1408 → Fin 5632) (j : Fin 1408)
    (hu : ∀ t' : Fin cfg0.N, t'.val % 2 = t.val % 2 → ∀ (i : Fin 512) (s : Fin 8192), b.val * 8192 + s.val = 512 * (t'.val / 2) + i.val →
      u t' (ix2 i j) = FfnSpec.up (aX m c) (aG m c) (aW m c) b s (col j))
    (h : b.val * 8192 + s.val = 512 * (t.val / 2) + i.val) (k : ℕ) (hk : 1 ≤ k) (hk' : k ≤ 8) :
    ext (if k0_cond2 (grid0.coords t) = 1#1 then zrow else last (u (back t))) (u t) (ix2 ⟨(8 - k) + i.val, by omega⟩ j)
      = FfnSpec.tap (aX m c) (aG m c) (aW m c) b s k (col j) := by
  have ht := N_lt t
  unfold FfnSpec.tap
  by_cases hi : i.val < k
  · rw [ext_low _ _ _ _ (show 8 - k + i.val < 8 by omega)]
    by_cases h2 : t.val / 2 % 16 = 0
    · rw [if_pos ((first_iff t).mpr h2), dif_neg (by omega)]
      show Ideal.ofBits .f32 0x00000000#32 = 0
      simp [Ideal.ofBits, Ideal.ieee]
    · rw [if_neg (fun hh => h2 ((first_iff t).mp hh)), dif_pos (by omega)]
      refine hu (back t) (by show (t.val - 2) % 2 = t.val % 2; omega) ⟨504 + (8 - k + i.val), by omega⟩ ⟨s.val - k, by omega⟩ ?_
      show b.val * 8192 + (s.val - k) = 512 * ((t.val - 2) / 2) + (504 + (8 - k + i.val))
      omega
  · rw [ext_high _ _ _ _ (show ¬ 8 - k + i.val < 8 by omega), dif_pos (by omega)]
    refine hu t rfl ⟨8 - k + i.val - 8, by omega⟩ ⟨s.val - k, by omega⟩ ?_
    show b.val * 8192 + (s.val - k) = 512 * (t.val / 2) + (8 - k + i.val - 8)
    omega

/-- The kernel's order of a convolution's terms, and the plain one. -/
theorem order (a u β p x q y : EReal) : a * u + β + p * x + q * y = y * q + x * p + u * a + β := by
  rw [mul_comm a, mul_comm p, mul_comm q]
  abel

theorem convG_at (j : Fin 1408) (h : b.val * 8192 + s.val = 512 * (t.val / 2) + i.val) :
    conv (iblk m c 4 t) (iblk m c 6 t) (CG m c t) (UG m c t) (ix2 i j)
      = FfnSpec.cv (aX m c) (aG m c) (aW m c) (aC m c) (aB m c) b s (colG t j) := by
  have hu : ∀ t' : Fin cfg0.N, t'.val % 2 = t.val % 2 → ∀ (i : Fin 512) (s : Fin 8192), b.val * 8192 + s.val = 512 * (t'.val / 2) + i.val →
      UG m c t' (ix2 i j) = FfnSpec.up (aX m c) (aG m c) (aW m c) b s (colG t j) := fun t' ht' i s h' =>
    (UG_at m c t' i b s j h').trans (congrArg _ (Fin.ext (by show t'.val % 2 * 1408 + j.val = t.val % 2 * 1408 + j.val; rw [ht'])))
  have x1 := ext_at m c t i b s (UG m c) (colG t) j hu h 1 (by omega) (by omega)
  have x2 := ext_at m c t i b s (UG m c) (colG t) j hu h 2 (by omega) (by omega)
  rw [conv_at, blk4, blk4, blk4, blk6, UG_at m c t i b s j h]
  refine Eq.trans (congr (congrArg HAdd.hAdd (congrArg (_ + _ * ·) x1)) (congrArg (_ * ·) x2)) ?_
  exact order _ _ _ _ _ _ _

theorem convV_at (j : Fin 1408) (h : b.val * 8192 + s.val = 512 * (t.val / 2) + i.val) :
    conv (iblk m c 5 t) (iblk m c 7 t) (CV m c t) (UV m c t) (ix2 i j)
      = FfnSpec.cv (aX m c) (aG m c) (aW m c) (aC m c) (aB m c) b s (colV t j) := by
  have hu : ∀ t' : Fin cfg0.N, t'.val % 2 = t.val % 2 → ∀ (i : Fin 512) (s : Fin 8192), b.val * 8192 + s.val = 512 * (t'.val / 2) + i.val →
      UV m c t' (ix2 i j) = FfnSpec.up (aX m c) (aG m c) (aW m c) b s (colV t j) := fun t' ht' i s h' =>
    (UV_at m c t' i b s j h').trans (congrArg _ (Fin.ext (by show (t'.val % 2 + 2) * 1408 + j.val = (t.val % 2 + 2) * 1408 + j.val; rw [ht'])))
  have x1 := ext_at m c t i b s (UV m c) (colV t) j hu h 1 (by omega) (by omega)
  have x2 := ext_at m c t i b s (UV m c) (colV t) j hu h 2 (by omega) (by omega)
  rw [conv_at, blk5, blk5, blk5, blk7, UV_at m c t i b s j h]
  refine Eq.trans (congr (congrArg HAdd.hAdd (congrArg (_ + _ * ·) x1)) (congrArg (_ * ·) x2)) ?_
  exact order _ _ _ _ _ _ _

/-! ## The output -/

variable (n : Fin 1024)

/-- What a point adds: its half of the hidden lanes. -/
theorem addAt_at (h : b.val * 8192 + s.val = 512 * (t.val / 2) + i.val) : addAt m c t (ix2 i n)
    = ∑ k : Fin 1408, FfnSpec.part (aX m c) (aG m c) (aW m c) (aC m c) (aB m c) (aO m c) b s n ⟨t.val % 2 * 1408 + k.val, by omega⟩ := by
  unfold addAt add
  rw [O_at]
  refine Finset.sum_congr rfl fun k _ => ?_
  rw [act_at, blk8]
  unfold FfnSpec.part
  have e1 := convG_at m c t i b s k h
  have e2 := (convV_at m c t i b s k h).trans (congrArg (FfnSpec.cv (aX m c) (aG m c) (aW m c) (aC m c) (aB m c) b s)
    (Fin.ext (by show (t.val % 2 + 2) * 1408 + k.val = 2816 + (t.val % 2 * 1408 + k.val); omega) :
      colV t k = ⟨2816 + (t.val % 2 * 1408 + k.val), by omega⟩))
  exact congrArg (· * _) (congr (congrArg HMul.hMul (congrArg FfnSpec.silu e1)) e2)

/-- A tile's second point completes its output. -/
theorem outAt_at (ho : t.val % 2 = 1) (h : b.val * 8192 + s.val = 512 * (t.val / 2) + i.val) : outAt m c t (ix2 i n)
    = FfnSpec.out (aX m c) (aG m c) (aW m c) (aC m c) (aB m c) (aO m c) b s n := by
  have he : b.val * 8192 + s.val = 512 * ((even t).val / 2) + i.val := by
    rw [h]; show _ = 512 * ((t.val - t.val % 2) / 2) + i.val; omega
  have hz : (zacc (F := Ideal)) (ix2 i n) = (0 : EReal) := by
    show Ideal.ofBits .f32 0x00000000#32 = 0
    simp [Ideal.ofBits, Ideal.ieee]
  unfold outAt accAt FfnSpec.out
  rw [if_neg (by omega), FfnSpec.sum_half]
  have key : ∀ x z p q x' p' q' : EReal, x = x' → z = 0 → p = p' → q = q' → x + ((z + p) + q) = x' + (p' + q') :=
    fun x z p q x' p' q' h1 h2 h3 h4 => by rw [h1, h2, h3, h4, zero_add]
  refine key (iblk m c 0 t (ix2 i n)) ((zacc (F := Ideal)) (ix2 i n)) (addAt m c (even t) (ix2 i n)) (addAt m c t (ix2 i n)) _ _ _
    (blk0 m c t i n b s h) hz ((addAt_at m c (even t) i b s n he).trans (Finset.sum_congr rfl fun k _ => ?_))
    ((addAt_at m c t i b s n h).trans (Finset.sum_congr rfl fun k _ => ?_))
  · exact congrArg _ (Fin.ext (by show (t.val - t.val % 2) % 2 * 1408 + k.val = k.val; omega))
  · exact congrArg _ (Fin.ext (by show t.val % 2 * 1408 + k.val = 1408 + k.val; omega))

end Blocks

end Cert.Proof.Ffn

end
-- ==== Proof.FfnRef.lean ====
/- The feed-forward reference's stages, and its two results at an index over the extended reals. -/
module

public import proofs.«01_k».proof.Defs
public import proofs.«01_k».proof.Proof.Gen.FfnReferenceIdeal.Run
public import proofs.«01_k».proof.Proof.FfnSpec
public import Idealize.ShloMosaic.Lib.Pointwise

@[expose] public section

noncomputable section

namespace Cert.Proof.FfnRef

open Cert.FfnReferenceIdeal Cert.FfnReferenceIdeal.Gen
open Idealize.ShloMosaic Idealize.ShloMosaic.TcCoe Idealize.ShloMosaic.StableHlo

variable (x : FVec Ideal S2x8192x1024 .f32) (g : FVec Ideal S1024 .f32) (W : FVec Ideal S1024x5632 .f32) (w : FVec Ideal S3x5632 .f32)
  (β : FVec Ideal S5632 .f32) (Wo : FVec Ideal S2816x1024 .f32)

/-- The normalized rows. -/
def sRows : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- Rows through the first weight. -/
def sUp (h : FVec Ideal S2x8192x1024 .f32) : FVec Ideal S2x8192x5632 .f32 :=
  Host.dotGeneral dot_S2x8192x1024_S1024x5632_S2x8192x5632_2_0_01_1_n_n none h W

/-- Two rows of zeros before them. -/
def sPad (u : FVec Ideal S2x8192x5632 .f32) : FVec Ideal S2x8194x5632 .f32 :=
  concatenate S2x8194x5632 1 [⟨S2x2x5632, (broadcastInDim S2x2x5632 ![] bcast_S_S2x2x5632 (constant S_ .f32 0x00000000#32))⟩, ⟨S2x8192x5632, u⟩] concatenates_S2x2x5632_S2x8192x5632_S2x8194x5632_d1

/-- A row of weights, along every token. -/
def sRow (r : FVec Ideal S1x5632 .f32) : FVec Ideal S2x8192x5632 .f32 :=
  broadcastInDim S2x8192x5632 ![0, 1, 2] bcast_S1x1x5632_S2x8192x5632_0_1_2 (broadcastInDim S1x1x5632 ![2] bcast_S5632_S1x1x5632_2 (shapeCast _ r shapeCasts_S1x5632_S5632))

/-- The convolution. -/
def sConv (p : FVec Ideal S2x8194x5632 .f32) : FVec Ideal S2x8192x5632 .f32 :=
  addf (addf (addf (mulf (extractStridedSlice S2x8192x5632 ![0, 0, 0] p slices_S2x8194x5632_S2x8192x5632_0_0_0) (sRow (extractStridedSlice S1x5632 ![0, 0] w slices_S3x5632_S1x5632_0_0)))
      (mulf (extractStridedSlice S2x8192x5632 ![0, 1, 0] p slices_S2x8194x5632_S2x8192x5632_0_1_0) (sRow (extractStridedSlice S1x5632 ![1, 0] w slices_S3x5632_S1x5632_1_0))))
      (mulf (extractStridedSlice S2x8192x5632 ![0, 2, 0] p slices_S2x8194x5632_S2x8192x5632_0_2_0) (sRow (extractStridedSlice S1x5632 ![2, 0] w slices_S3x5632_S1x5632_2_0))))
    (broadcastInDim S2x8192x5632 ![0, 1, 2] bcast_S1x1x5632_S2x8192x5632_0_1_2 (broadcastInDim S1x1x5632 ![2] bcast_S5632_S1x1x5632_2 β))

/-- The gated product. -/
def sAct (a : FVec Ideal S2x8192x5632 .f32) : FVec Ideal S2x8192x2816 .f32 :=
  mulf (mulf (extractStridedSlice S2x8192x2816 ![0, 0, 0] a slices_S2x8192x5632_S2x8192x2816_0_0_0)
      (Host.divf (broadcastInDim S2x8192x2816 ![] bcast_S_S2x8192x2816 (constant S_ .f32 0x3F800000#32))
        (addf (broadcastInDim S2x8192x2816 ![] bcast_S_S2x8192x2816 (constant S_ .f32 0x3F800000#32))
          (Host.exp (Host.negf (extractStridedSlice S2x8192x2816 ![0, 0, 0] a slices_S2x8192x5632_S2x8192x2816_0_0_0))))))
    (extractStridedSlice S2x8192x2816 ![0, 0, 2816] a slices_S2x8192x5632_S2x8192x2816_0_0_2816)

/-- The second weight and the residual. -/
def sOut (a : FVec Ideal S2x8192x2816 .f32) : FVec Ideal S16384x1024 .f32 :=
  shapeCast _ (addf x (Host.dotGeneral dot_S2x8192x2816_S2816x1024_S2x8192x1024_2_0_01_1_n_n none a Wo)) shapeCasts_S2x8192x1024_S16384x1024

/-- The last two rows. -/
def sLast (p : FVec Ideal S2x8194x5632 .f32) : FVec Ideal S2x2x5632 .f32 :=
  extractStridedSlice S2x2x5632 ![0, 8192, 0] p slices_S2x8194x5632_S2x2x5632_0_8192_0

section At
variable (b : Fin 2) (s : Fin 8192)

theorem rows_at (d : Fin 1024) : sRows x g (ix3 b s d)
    = FfnSpec.rows (fun b s d => x (ix3 b s d)) (fun d => g (ix1 d)) b s d := by
  pointwise [sRows, FfnSpec.rows, FfnSpec.scale]

theorem up_at (h : FVec Ideal S2x8192x1024 .f32) (j : Fin 5632) : sUp W h (ix3 b s j) = ∑ d : Fin 1024, h (ix3 b s d) * W (ix2 d j) := by
  pointwise [sUp]

theorem upr_at (j : Fin 5632) : sUp W (sRows x g) (ix3 b s j)
    = FfnSpec.up (fun b s d => x (ix3 b s d)) (fun d => g (ix1 d)) (fun d j => W (ix2 d j)) b s j := by
  rw [up_at]
  exact Finset.sum_congr rfl fun d _ => congrArg (· * _) (rows_at x g b s d)

theorem pad_at (u : FVec Ideal S2x8192x5632 .f32) (r : Fin 8194) (j : Fin 5632) : sPad u (ix3 b r j)
    = if h : 2 ≤ r.val then u (ix3 b ⟨r.val - 2, by omega⟩ j) else 0 := by
  pointwise [sPad]
  by_cases h : r.val < 2
  · rw [dif_pos h, dif_neg (by omega)]
  · rw [dif_neg h, dif_pos (by omega)]

theorem row_at (r : FVec Ideal S1x5632 .f32) (j : Fin 5632) : sRow r (ix3 b s j) = r (ix2 0 j) := by
  pointwise [sRow]

theorem taps_at (k : ℕ) (hk : k ≤ 2) (j : Fin 5632) : sPad (sUp W (sRows x g)) (ix3 b ⟨(2 - k) + s.val, by omega⟩ j)
    = FfnSpec.tap (fun b s d => x (ix3 b s d)) (fun d => g (ix1 d)) (fun d j => W (ix2 d j)) b s k j := by
  rw [pad_at]
  unfold FfnSpec.tap
  by_cases h : k ≤ s.val
  · rw [dif_pos h, dif_pos (by show 2 ≤ 2 - k + s.val; omega), upr_at]
    exact congrArg (fun s' => FfnSpec.up _ _ _ b s' j) (Fin.ext (by show 2 - k + s.val - 2 = s.val - k; omega))
  · rw [dif_neg h, dif_neg (by show ¬ 2 ≤ 2 - k + s.val; omega)]

theorem conv_at' (p : FVec Ideal S2x8194x5632 .f32) (j : Fin 5632) : sConv w β p (ix3 b s j)
    = p (ix3 b ⟨0 + s.val, by omega⟩ j) * w (ix2 0 j) + p (ix3 b ⟨1 + s.val, by omega⟩ j) * w (ix2 1 j)
      + p (ix3 b ⟨2 + s.val, by omega⟩ j) * w (ix2 2 j) + β (ix1 j) := by
  pointwise [sConv, sRow]

theorem conv_at (j : Fin 5632) : sConv w β (sPad (sUp W (sRows x g))) (ix3 b s j)
    = FfnSpec.cv (fun b s d => x (ix3 b s d)) (fun d => g (ix1 d)) (fun d j => W (ix2 d j)) (fun a j => w (ix2 a j)) (fun j => β (ix1 j)) b s j := by
  rw [conv_at']
  have h0 := taps_at x g W b s 2 (by omega) j
  have h1 := taps_at x g W b s 1 (by omega) j
  have h2 := taps_at x g W b s 0 (by omega) j
  refine congrArg (· + _) (congr (congrArg HAdd.hAdd (congr (congrArg HAdd.hAdd (congrArg (· * _) h0)) (congrArg (· * _) h1))) (congrArg (· * _) (h2.trans ?_)))
  unfold FfnSpec.tap
  exact dif_pos (Nat.zero_le _)

theorem act_at (a : FVec Ideal S2x8192x5632 .f32) (q : Fin 2816) : sAct a (ix3 b s q)
    = FfnSpec.silu (a (ix3 b s ⟨q.val, by omega⟩)) * a (ix3 b s ⟨2816 + q.val, by omega⟩) := by
  have one_eq : Ideal.ofBits .f32 0x3F800000#32 = 1 := by
    simp [Ideal.ofBits, Ideal.ieee]
    rw [← EReal.coe_mul]
    norm_num
  pointwise [sAct, FfnSpec.silu]

theorem out_at' (a : FVec Ideal S2x8192x2816 .f32) (y : Fin 16384) (n : Fin 1024) (hy : y.val = b.val * 8192 + s.val) :
    sOut x Wo a (ix2 y n) = x (ix3 b s n) + ∑ q : Fin 2816, a (ix3 b s q) * Wo (ix2 q n) := by
  pointwise [sOut]
  have e1 : y.val / 8192 = b.val := by omega
  have e2 : y.val % 8192 = s.val := by omega
  simp only [e1, e2]

theorem last_at (p : FVec Ideal S2x8194x5632 .f32) (r : Fin 2) (j : Fin 5632) : sLast p (ix3 b r j) = p (ix3 b ⟨8192 + r.val, by omega⟩ j) := by
  pointwise [sLast]

theorem out_at (y : Fin 16384) (n : Fin 1024) (hy : y.val = b.val * 8192 + s.val) :
    sOut x Wo (sAct (sConv w β (sPad (sUp W (sRows x g))))) (ix2 y n)
      = FfnSpec.out (fun b s d => x (ix3 b s d)) (fun d => g (ix1 d)) (fun d j => W (ix2 d j)) (fun a j => w (ix2 a j)) (fun j => β (ix1 j))
        (fun q n => Wo (ix2 q n)) b s n := by
  rw [out_at' x Wo b s _ y n hy]
  refine congrArg (_ + ·) (Finset.sum_congr rfl fun q _ => congrArg (· * _) ?_)
  rw [act_at, conv_at, conv_at]

theorem tail_at (r : Fin 2) (j : Fin 5632) : sLast (sPad (sUp W (sRows x g))) (ix3 b r j)
    = FfnSpec.up (fun b s d => x (ix3 b s d)) (fun d => g (ix1 d)) (fun d j => W (ix2 d j)) b ⟨8190 + r.val, by omega⟩ j := by
  rw [last_at, pad_at, dif_pos (by show 2 ≤ 8192 + r.val; omega), upr_at]
  exact congrArg (fun s' => FfnSpec.up _ _ _ b s' j) (Fin.ext (by show 8192 + r.val - 2 = 8190 + r.val; omega))

end At

theorem res_out (m : (ℓ : Loc nD τ sig) → Buf (Elt Ideal) ℓ) (c : Dev nD) : Value.res_main_v45 m c
    = sOut (m ((c.tc : Thread nD τ).loc main_arg0)) (m ((c.tc : Thread nD τ).loc main_arg5)) (sAct (sConv (m ((c.tc : Thread nD τ).loc main_arg3))
      (m ((c.tc : Thread nD τ).loc main_arg4)) (sPad (sUp (m ((c.tc : Thread nD τ).loc main_arg2))
      (sRows (m ((c.tc : Thread nD τ).loc main_arg0)) (m ((c.tc : Thread nD τ).loc main_arg1))))))) := rfl

end Cert.Proof.FfnRef

end
-- ==== Proof.FfnAgree.lean ====
/- The feed-forward kernel's two result arrays, and that they are the reference's. -/
module

public import proofs.«01_k».proof.Proof.FfnBlocks
public import proofs.«01_k».proof.Proof.FfnRef

@[expose] public section

noncomputable section

namespace Cert.Proof.Ffn

open Cert.FfnIdeal Cert.FfnIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg) (c : Dev nD)

theorem tr9 : ∀ t : Fin cfg0.N, cc0_transform_9 (grid0.coords t) 0 = t.val / 2 ∧ cc0_transform_9 (grid0.coords t) 1 = 0 :=
  (by decide +kernel : ∀ t : Fin grid0.N, cc0_transform_9 (grid0.coords t) 0 = t.val / 2 ∧ cc0_transform_9 (grid0.coords t) 1 = 0)
theorem tr10 : ∀ t : Fin cfg0.N, cc0_transform_10 (grid0.coords t) 0 = t.val / 2 ∧ cc0_transform_10 (grid0.coords t) 1 = 0
    ∧ cc0_transform_10 (grid0.coords t) 2 = t.val % 2 :=
  (by decide +kernel : ∀ t : Fin grid0.N, cc0_transform_10 (grid0.coords t) 0 = t.val / 2 ∧ cc0_transform_10 (grid0.coords t) 1 = 0
    ∧ cc0_transform_10 (grid0.coords t) 2 = t.val % 2)
theorem tr11 : ∀ t : Fin cfg0.N, cc0_transform_11 (grid0.coords t) 0 = t.val / 2 ∧ cc0_transform_11 (grid0.coords t) 1 = 0
    ∧ cc0_transform_11 (grid0.coords t) 2 = t.val % 2 :=
  (by decide +kernel : ∀ t : Fin grid0.N, cc0_transform_11 (grid0.coords t) 0 = t.val / 2 ∧ cc0_transform_11 (grid0.coords t) 1 = 0
    ∧ cc0_transform_11 (grid0.coords t) 2 = t.val % 2)

/-! ## The three arrays the launch leaves -/

/-- The output. -/
def result : Buf (Elt Ideal) ((c : Thread nD τ).loc main_v5_0) := fun (i : S16384x1024.Idx) =>
  FfnSpec.out (aX m c) (aG m c) (aW m c) (aC m c) (aB m c) (aO m c)
    ⟨(i 0).val / 8192, by have : (i 0).val < 16384 := (i 0).isLt; omega⟩ ⟨(i 0).val % 8192, by omega⟩ (i 1)

/-- Each tile's last eight rows: of the gates, and of the values. -/
def tailG : Buf (Elt Ideal) ((c : Thread nD τ).loc main_v5_1) := fun (i : S32x8x2816.Idx) =>
  FfnSpec.up (aX m c) (aG m c) (aW m c) ⟨(i 0).val / 16, by have : (i 0).val < 32 := (i 0).isLt; omega⟩
    ⟨(i 0).val % 16 * 512 + 504 + (i 1).val, by have : (i 1).val < 8 := (i 1).isLt; omega⟩
    ⟨(i 2).val, by have : (i 2).val < 2816 := (i 2).isLt; omega⟩
def tailV : Buf (Elt Ideal) ((c : Thread nD τ).loc main_v5_2) := fun (i : S32x8x2816.Idx) =>
  FfnSpec.up (aX m c) (aG m c) (aW m c) ⟨(i 0).val / 16, by have : (i 0).val < 32 := (i 0).isLt; omega⟩
    ⟨(i 0).val % 16 * 512 + 504 + (i 1).val, by have : (i 1).val < 8 := (i 1).isLt; omega⟩
    ⟨2816 + (i 2).val, by have : (i 2).val < 2816 := (i 2).isLt; omega⟩

theorem result_at (y : Fin 16384) (z : Fin 1024) (t : Fin cfg0.N) (i : Fin 512) (n : Fin 1024) (ho : t.val % 2 = 1)
    (hy : y.val = 512 * (t.val / 2) + i.val) (hz : z = n) : outAt m c t (ix2 i n) = result m c (ix2 y z) := by
  subst hz
  exact outAt_at m c t i ⟨y.val / 8192, by omega⟩ ⟨y.val % 8192, by omega⟩ z ho (by show y.val / 8192 * 8192 + y.val % 8192 = _; omega)

theorem flushed9 (t : Fin cfg0.N) (hf : (cfg0.win 9).flush t = true) :
    (dats m 0 c).flushed 9 t = ((cfg0.win 9).blk t).view.read (Elt Ideal) (result m c) := by
  show (cfg0.win 9).cut (grid0.coords t) ((dats m 0 c).after 9 t) = _
  obtain ⟨h0, h1⟩ := tr9 t
  have ht := N_lt t
  funext (j : S512x1024.Idx)
  rw [View.read_apply]
  have j0 : (j 0).val < 512 := (j 0).isLt
  have j1 : (j 1).val < 1024 := (j 1).isLt
  have hl : 512 * (t.val / 2) + (j 0).val < 16384 := by omega
  refine Eq.trans ?_ ((result_at m c ⟨_, hl⟩ (j 1) t (j 0) (j 1) ((flush0_9 t).mp hf) rfl rfl).trans ?_)
  · show outAt m c t _ = _
    refine congrArg (outAt m c t) (funext fun (a : Fin 2) => ?_)
    match a with
    | ⟨0, _⟩ => rfl
    | ⟨1, _⟩ => rfl
  · refine congrArg (result m c) (funext fun (a : Fin 2) => Fin.ext ?_)
    match a with
    | ⟨0, _⟩ => show 512 * (t.val / 2) + (j 0).val = cc0_transform_9 (grid0.coords t) 0 * 512 + 1 * (j 0).val
                rw [h0]; omega
    | ⟨1, _⟩ => show (j 1).val = cc0_transform_9 (grid0.coords t) 1 * 1024 + 1 * (j 1).val
                rw [h1]; omega

theorem final9 : (dats m 0 c).arrAt 9 cfg0.N = result m c :=
  (dats m 0 c).arrAt_eq_of_cover 9 (result m c) (flushed9 m c) fun (i : S16384x1024.Idx) => by
    have i0 : (i 0).val < 16384 := (i 0).isLt
    have i1 : (i 1).val < 1024 := (i 1).isLt
    have hN : cfg0.N = 64 := N_0
    obtain ⟨t, ht⟩ : ∃ t : Fin cfg0.N, t.val = 2 * ((i 0).val / 512) + 1 := ⟨⟨2 * ((i 0).val / 512) + 1, by omega⟩, rfl⟩
    refine ⟨t, (flush0_9 t).mpr (by omega), ?_⟩
    obtain ⟨h0, h1⟩ := tr9 t
    rw [ht, (by omega : (2 * ((i 0).val / 512) + 1) / 2 = (i 0).val / 512)] at h0
    show i ∈ ((View.whole main_v5_0).slice (win0_9.rect t)).set
    rw [View.set_slice_whole, Rect.mem_set_unit]
    intro a
    match a with
    | ⟨0, _⟩ => show cc0_transform_9 (grid0.coords t) 0 * 512 ≤ (i 0).val ∧ (i 0).val < cc0_transform_9 (grid0.coords t) 0 * 512 + 512
                rw [h0]; omega
    | ⟨1, _⟩ => show cc0_transform_9 (grid0.coords t) 1 * 1024 ≤ (i 1).val ∧ (i 1).val < cc0_transform_9 (grid0.coords t) 1 * 1024 + 1024
                rw [h1]; omega

theorem tailG_at (t : Fin cfg0.N) (e : Fin 8) (q : Fin 1408) (y : Fin 32) (z : Fin 2816) (hy : y.val = t.val / 2)
    (hz : z.val = t.val % 2 * 1408 + q.val) : last (UG m c t) (ix3 0 e q) = tailG m c (ix3 y e z) := by
  have ht := N_lt t
  refine (UG_at m c t ⟨504 + e.val, by omega⟩ ⟨y.val / 16, by omega⟩ ⟨y.val % 16 * 512 + 504 + e.val, by omega⟩ q ?_).trans ?_
  · show y.val / 16 * 8192 + (y.val % 16 * 512 + 504 + e.val) = 512 * (t.val / 2) + (504 + e.val)
    omega
  · exact congrArg _ (Fin.ext hz.symm)

theorem tailV_at (t : Fin cfg0.N) (e : Fin 8) (q : Fin 1408) (y : Fin 32) (z : Fin 2816) (hy : y.val = t.val / 2)
    (hz : z.val = t.val % 2 * 1408 + q.val) : last (UV m c t) (ix3 0 e q) = tailV m c (ix3 y e z) := by
  have ht := N_lt t
  refine (UV_at m c t ⟨504 + e.val, by omega⟩ ⟨y.val / 16, by omega⟩ ⟨y.val % 16 * 512 + 504 + e.val, by omega⟩ q ?_).trans ?_
  · show y.val / 16 * 8192 + (y.val % 16 * 512 + 504 + e.val) = 512 * (t.val / 2) + (504 + e.val)
    omega
  · exact congrArg _ (Fin.ext (by show (t.val % 2 + 2) * 1408 + q.val = 2816 + z.val; omega))

theorem flushed10 (t : Fin cfg0.N) (hf : (cfg0.win 10).flush t = true) :
    (dats m 0 c).flushed 10 t = ((cfg0.win 10).blk t).view.read (Elt Ideal) (tailG m c) := by
  show (cfg0.win 10).cut (grid0.coords t) ((dats m 0 c).after 10 t) = _
  obtain ⟨h0, h1, h2⟩ := tr10 t
  have ht := N_lt t
  funext (j : S1x8x1408.Idx)
  rw [View.read_apply]
  have j0 : (j 0).val < 1 := (j 0).isLt
  have j1 : (j 1).val < 8 := (j 1).isLt
  have j2 : (j 2).val < 1408 := (j 2).isLt
  have hl : t.val / 2 < 32 := by omega
  have hl' : t.val % 2 * 1408 + (j 2).val < 2816 := by omega
  refine Eq.trans ?_ ((tailG_at m c t (j 1) (j 2) ⟨_, hl⟩ ⟨_, hl'⟩ rfl rfl).trans ?_)
  · show last (UG m c t) _ = _
    refine congrArg (last (UG m c t)) (funext fun (a : Fin 3) => ?_)
    match a with
    | ⟨0, _⟩ => exact Fin.ext (by show (j 0).val = 0; omega)
    | ⟨1, _⟩ => rfl
    | ⟨2, _⟩ => rfl
  · refine congrArg (tailG m c) (funext fun (a : Fin 3) => Fin.ext ?_)
    match a with
    | ⟨0, _⟩ => show t.val / 2 = cc0_transform_10 (grid0.coords t) 0 * 1 + 1 * (j 0).val
                rw [h0]; omega
    | ⟨1, _⟩ => show (j 1).val = cc0_transform_10 (grid0.coords t) 1 * 8 + 1 * (j 1).val
                rw [h1]; omega
    | ⟨2, _⟩ => show t.val % 2 * 1408 + (j 2).val = cc0_transform_10 (grid0.coords t) 2 * 1408 + 1 * (j 2).val
                rw [h2]; omega

theorem flushed11 (t : Fin cfg0.N) (hf : (cfg0.win 11).flush t = true) :
    (dats m 0 c).flushed 11 t = ((cfg0.win 11).blk t).view.read (Elt Ideal) (tailV m c) := by
  show (cfg0.win 11).cut (grid0.coords t) ((dats m 0 c).after 11 t) = _
  obtain ⟨h0, h1, h2⟩ := tr11 t
  have ht := N_lt t
  funext (j : S1x8x1408.Idx)
  rw [View.read_apply]
  have j0 : (j 0).val < 1 := (j 0).isLt
  have j1 : (j 1).val < 8 := (j 1).isLt
  have j2 : (j 2).val < 1408 := (j 2).isLt
  have hl : t.val / 2 < 32 := by omega
  have hl' : t.val % 2 * 1408 + (j 2).val < 2816 := by omega
  refine Eq.trans ?_ ((tailV_at m c t (j 1) (j 2) ⟨_, hl⟩ ⟨_, hl'⟩ rfl rfl).trans ?_)
  · show last (UV m c t) _ = _
    refine congrArg (last (UV m c t)) (funext fun (a : Fin 3) => ?_)
    match a with
    | ⟨0, _⟩ => exact Fin.ext (by show (j 0).val = 0; omega)
    | ⟨1, _⟩ => rfl
    | ⟨2, _⟩ => rfl
  · refine congrArg (tailV m c) (funext fun (a : Fin 3) => Fin.ext ?_)
    match a with
    | ⟨0, _⟩ => show t.val / 2 = cc0_transform_11 (grid0.coords t) 0 * 1 + 1 * (j 0).val
                rw [h0]; omega
    | ⟨1, _⟩ => show (j 1).val = cc0_transform_11 (grid0.coords t) 1 * 8 + 1 * (j 1).val
                rw [h1]; omega
    | ⟨2, _⟩ => show t.val % 2 * 1408 + (j 2).val = cc0_transform_11 (grid0.coords t) 2 * 1408 + 1 * (j 2).val
                rw [h2]; omega

theorem final10 : (dats m 0 c).arrAt 10 cfg0.N = tailG m c :=
  (dats m 0 c).arrAt_eq_of_cover 10 (tailG m c) (flushed10 m c) fun (i : S32x8x2816.Idx) => by
    have i0 : (i 0).val < 32 := (i 0).isLt
    have i1 : (i 1).val < 8 := (i 1).isLt
    have i2 : (i 2).val < 2816 := (i 2).isLt
    have hN : cfg0.N = 64 := N_0
    obtain ⟨t, ht⟩ : ∃ t : Fin cfg0.N, t.val = 2 * (i 0).val + (i 2).val / 1408 := ⟨⟨2 * (i 0).val + (i 2).val / 1408, by omega⟩, rfl⟩
    refine ⟨t, flush0_10 t, ?_⟩
    obtain ⟨h0, h1, h2⟩ := tr10 t
    rw [ht, (by omega : (2 * (i 0).val + (i 2).val / 1408) / 2 = (i 0).val)] at h0
    rw [ht, (by omega : (2 * (i 0).val + (i 2).val / 1408) % 2 = (i 2).val / 1408)] at h2
    show i ∈ ((View.whole main_v5_1).slice (win0_10.rect t)).set
    rw [View.set_slice_whole, Rect.mem_set_unit]
    intro a
    match a with
    | ⟨0, _⟩ => show cc0_transform_10 (grid0.coords t) 0 * 1 ≤ (i 0).val ∧ (i 0).val < cc0_transform_10 (grid0.coords t) 0 * 1 + 1
                rw [h0]; omega
    | ⟨1, _⟩ => show cc0_transform_10 (grid0.coords t) 1 * 8 ≤ (i 1).val ∧ (i 1).val < cc0_transform_10 (grid0.coords t) 1 * 8 + 8
                rw [h1]; omega
    | ⟨2, _⟩ => show cc0_transform_10 (grid0.coords t) 2 * 1408 ≤ (i 2).val ∧ (i 2).val < cc0_transform_10 (grid0.coords t) 2 * 1408 + 1408
                rw [h2]; omega

theorem final11 : (dats m 0 c).arrAt 11 cfg0.N = tailV m c :=
  (dats m 0 c).arrAt_eq_of_cover 11 (tailV m c) (flushed11 m c) fun (i : S32x8x2816.Idx) => by
    have i0 : (i 0).val < 32 := (i 0).isLt
    have i1 : (i 1).val < 8 := (i 1).isLt
    have i2 : (i 2).val < 2816 := (i 2).isLt
    have hN : cfg0.N = 64 := N_0
    obtain ⟨t, ht⟩ : ∃ t : Fin cfg0.N, t.val = 2 * (i 0).val + (i 2).val / 1408 := ⟨⟨2 * (i 0).val + (i 2).val / 1408, by omega⟩, rfl⟩
    refine ⟨t, flush0_11 t, ?_⟩
    obtain ⟨h0, h1, h2⟩ := tr11 t
    rw [ht, (by omega : (2 * (i 0).val + (i 2).val / 1408) / 2 = (i 0).val)] at h0
    rw [ht, (by omega : (2 * (i 0).val + (i 2).val / 1408) % 2 = (i 2).val / 1408)] at h2
    show i ∈ ((View.whole main_v5_2).slice (win0_11.rect t)).set
    rw [View.set_slice_whole, Rect.mem_set_unit]
    intro a
    match a with
    | ⟨0, _⟩ => show cc0_transform_11 (grid0.coords t) 0 * 1 ≤ (i 0).val ∧ (i 0).val < cc0_transform_11 (grid0.coords t) 0 * 1 + 1
                rw [h0]; omega
    | ⟨1, _⟩ => show cc0_transform_11 (grid0.coords t) 1 * 8 ≤ (i 1).val ∧ (i 1).val < cc0_transform_11 (grid0.coords t) 1 * 8 + 8
                rw [h1]; omega
    | ⟨2, _⟩ => show cc0_transform_11 (grid0.coords t) 2 * 1408 ≤ (i 2).val ∧ (i 2).val < cc0_transform_11 (grid0.coords t) 2 * 1408 + 1408
                rw [h2]; omega

/-! ## The host's lines after the launch -/

/-- Windows on one array are inputs. -/
theorem shared : ∀ w w' : Fin (cfgs 0).W, w ≠ w' → Pipeline.arrRef (cfgs 0).spec w = Pipeline.arrRef (cfgs 0).spec w' →
    (dats m 0 c).arrAt w (cfgs 0).N = V0 m c (Proc.devRef .tc (Pipeline.arrRef (cfgs 0).spec w)) :=
  (dats m 0 c).arrAt_sharedIn launch₀0.sharedIn (V0 m c) (fun w => A_eq m c w) _

/-- The last two rows of each sequence, gates then values. -/
theorem tail_at (b r : Fin 2) (j : Fin 5632) : (Pipeline.afterTail₀ cfgs (dats m) 0 (V0 m) [hostOps1] c main_v8 : Vec Ideal S2x2x5632 .f32) (ix3 b r j)
    = FfnSpec.up (aX m c) (aG m c) (aW m c) b ⟨8190 + r.val, by omega⟩ j := by
  have k1 : Pipeline.withArrays (cfgs 0).spec c (V0 m c) (fun w => (dats m 0 c).arrAt w (cfgs 0).N) (Proc.devRef .tc main_v5_1) = tailG m c :=
    (Pipeline.withArrays_arr_shared (cfgs 0).spec c (V0 m c) (fun w => (dats m 0 c).arrAt w (cfgs 0).N) (shared m c) 10).trans (final10 m c)
  have k2 : Pipeline.withArrays (cfgs 0).spec c (V0 m c) (fun w => (dats m 0 c).arrAt w (cfgs 0).N) (Proc.devRef .tc main_v5_2) = tailV m c :=
    (Pipeline.withArrays_arr_shared (cfgs 0).spec c (V0 m c) (fun w => (dats m 0 c).arrAt w (cfgs 0).N) (shared m c) 11).trans (final11 m c)
  unfold Pipeline.afterTail₀
  generalize Pipeline.withArrays (cfgs 0).spec c (V0 m c) (fun w => (dats m 0 c).arrAt w (cfgs 0).N) = V' at k1 k2 ⊢
  after_reads_at
  by_cases h : j.val < 2816
  · rw [dif_pos h]
    refine (congrFun k1 _).trans ?_
    unfold tailG
    refine congr (congr (congrArg (FfnSpec.up (aX m c) (aG m c) (aW m c)) (Fin.ext ?_)) (Fin.ext ?_)) (Fin.ext ?_)
    · show (15 + 16 * b.val) / 16 = b.val; omega
    · show (15 + 16 * b.val) % 16 * 512 + 504 + (6 + r.val) = 8190 + r.val; omega
    · show j.val = j.val; rfl
  · rw [dif_neg h]
    refine (congrFun k2 _).trans ?_
    unfold tailV
    refine congr (congr (congrArg (FfnSpec.up (aX m c) (aG m c) (aW m c)) (Fin.ext ?_)) (Fin.ext ?_)) (Fin.ext ?_)
    · show (15 + 16 * b.val) / 16 = b.val; omega
    · show (15 + 16 * b.val) % 16 * 512 + 504 + (6 + r.val) = 8190 + r.val; omega
    · show 2816 + (j.val - 2816) = j.val; omega

/-! ## The reference's results -/

section Values
/-- The arguments as the reference takes them. -/
abbrev x0 : FVec Ideal S2x8192x1024 .f32 := m ((c.tc : Thread nD τ).loc main_arg0)
abbrev x1 : FVec Ideal S1024 .f32 := m ((c.tc : Thread nD τ).loc main_arg1)
abbrev x2 : FVec Ideal S1024x5632 .f32 := m ((c.tc : Thread nD τ).loc main_arg2)
abbrev x3 : FVec Ideal S3x5632 .f32 := m ((c.tc : Thread nD τ).loc main_arg3)
abbrev x4 : FVec Ideal S5632 .f32 := m ((c.tc : Thread nD τ).loc main_arg4)
abbrev x5 : FVec Ideal S2816x1024 .f32 := m ((c.tc : Thread nD τ).loc main_arg5)
end Values

theorem result_eq : result m c = FfnRef.sOut (x0 m c) (x5 m c) (FfnRef.sAct (FfnRef.sConv (x3 m c) (x4 m c)
    (FfnRef.sPad (FfnRef.sUp (x2 m c) (FfnRef.sRows (x0 m c) (x1 m c)))))) := by
  funext (i : S16384x1024.Idx)
  have i0 : (i 0).val < 16384 := (i 0).isLt
  have hi : i = ix2 (i 0) (i 1) := funext fun (a : Fin 2) => by
    match a with
    | ⟨0, _⟩ => rfl
    | ⟨1, _⟩ => rfl
  rw [hi]
  exact (FfnRef.out_at (x0 m c) (x1 m c) (x2 m c) (x3 m c) (x4 m c) (x5 m c) ⟨(i 0).val / 8192, by omega⟩ ⟨(i 0).val % 8192, by omega⟩ (i 0) (i 1)
    (by show (i 0).val = (i 0).val / 8192 * 8192 + (i 0).val % 8192; omega)).symm

theorem tail_eq : Pipeline.afterTail₀ cfgs (dats m) 0 (V0 m) [hostOps1] c main_v8
    = FfnRef.sLast (FfnRef.sPad (FfnRef.sUp (x2 m c) (FfnRef.sRows (x0 m c) (x1 m c)))) := by
  funext (i : S2x2x5632.Idx)
  have hi : i = ix3 (i 0) (i 1) (i 2) := funext fun (a : Fin 3) => by
    match a with
    | ⟨0, _⟩ => rfl
    | ⟨1, _⟩ => rfl
    | ⟨2, _⟩ => rfl
  rw [hi]
  exact (tail_at m c (i 0) (i 1) (i 2)).trans (FfnRef.tail_at (x0 m c) (x1 m c) (x2 m c) (i 0) (i 1) (i 2)).symm

/-- The run: both results as the reference has them, the arguments unchanged. -/
theorem run_result : θ_run defs (onTc (τ := τ) (main (F := Ideal))) ⟨m, fun _ => 0, ρ⟩ fun r => ∀ c : Dev nD,
    r.2.mem ((c.tc : Thread nD τ).loc main_v5_0) = FfnRef.sOut (x0 m c) (x5 m c) (FfnRef.sAct (FfnRef.sConv (x3 m c) (x4 m c)
        (FfnRef.sPad (FfnRef.sUp (x2 m c) (FfnRef.sRows (x0 m c) (x1 m c))))))
      ∧ r.2.mem ((c.tc : Thread nD τ).loc main_v8) = FfnRef.sLast (FfnRef.sPad (FfnRef.sUp (x2 m c) (FfnRef.sRows (x0 m c) (x1 m c))))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 9).trans ((final9 m c).trans (result_eq m c)),
      ((h.1 c).2 main_v8 (Pipeline.mem_restRefs_of main_v8 (by decide) (by decide))).trans (tail_eq m c), args_kept h.1 c⟩)
    (run_main m ρ)

end Cert.Proof.Ffn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Ffn
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.KernelFrame
public import proofs.«01_k».proof.Proof.KernelIdealRun
public import proofs.«01_k».proof.Proof.Agree
public import proofs.«01_k».proof.Proof.FfnFrame
public import proofs.«01_k».proof.Proof.FfnAgree

@[expose] public section

noncomputable section

namespace Cert.Proof

open Idealize.ShloMosaic

theorem preserves : Cert.preserves_Kernel_KernelIdeal :=
  ⟨IdealRules.named_const.statement Cert.KernelIdeal.κ "mask" .f32 0xF149F2CA#32 ⊥ rfl,
    IdealRules.named_const.statement Cert.KernelIdeal.κ "c" .f32 0x3E0293EE#32 (((11863283 / 134217728) * (Real.log 2)⁻¹ : ℝ) : EReal) rfl⟩

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal_pre_finite (hPre_finite := Agree.facts) := by
  intro m ρ m' ρ' hpre hagree
  refine ⟨fun c => KernelIdeal.result m c, KernelIdeal.run_result m ρ, ?_⟩
  refine (θ_run _ _ _).mono (fun r h c => ⟨(h c).1.trans ?_, (h c).2⟩) (Cert.ReferenceIdeal.Value.run (F := Ideal) m' ρ')
  obtain ⟨hq, hk⟩ := Agree.real _ _ _ (hpre c)
  rw [Ref.out_eq m' c, (hagree c).1, (hagree c).2.1, (hagree c).2.2]
  exact (Agree.result_eq m c hq hk).symm

theorem frame_ffn_ri : Cert.quiescent_FfnReferenceIdeal := fun m ρ _ =>
  (θ_run Cert.FfnReferenceIdeal.defs _ _).mono (fun r h => ⟨fun c => (h c).2.2, sem_eq_zero_of_no_sems (by decide) r.2⟩)
    (Cert.FfnReferenceIdeal.Value.run (F := Ideal) m ρ)

theorem algebraic_ffn : Cert.algebraic_FfnIdeal_FfnReferenceIdeal := by
  intro m ρ m' ρ' _ hagree
  refine ⟨_, _, Ffn.run_result m ρ, ?_⟩
  refine (θ_run _ _ _).mono (fun r h c => ⟨(h c).1.trans ?_, (h c).2.1.trans ?_, (h c).2.2⟩) (Cert.FfnReferenceIdeal.Value.run (F := Ideal) m' ρ')
  · rw [FfnRef.res_out m' c, (hagree c).1, (hagree c).2.1, (hagree c).2.2.1, (hagree c).2.2.2.1, (hagree c).2.2.2.2.1, (hagree c).2.2.2.2.2]
  · rw [(hagree c).1, (hagree c).2.1, (hagree c).2.2.1]
    rfl

theorem claim : Cert.Claim := ⟨Cert.Kernel.Gen.facts, Cert.KernelIdeal.Gen.facts, Cert.ReferenceIdeal.Gen.facts, Cert.Ffn.Gen.facts,
  Cert.FfnIdeal.Gen.facts, Cert.FfnReferenceIdeal.Gen.facts, Agree.facts,
  fun m ρ _ => Cert.Proof.Kernel.frame m ρ, fun m ρ _ => Cert.Proof.KernelIdeal.frame m ρ, fun m ρ _ => Cert.Proof.KernelIdeal.frame m ρ,
  frame_ri, fun m ρ _ => frame_ri m ρ trivial, Ffn.frame_executed, fun m ρ _ => Ffn.frame m ρ, frame_ffn_ri, preserves, algebraic,
  trivial, algebraic_ffn⟩

end Cert.Proof

end
